-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 64, 64]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 64, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x4096 : Shape := ⟨2, ![512, 4096]⟩
abbrev S2x256x4x64 : Shape := ⟨4, ![2, 256, 4, 64]⟩
abbrev S4096x512 : Shape := ⟨2, ![4096, 512]⟩
abbrev S_ : Shape := ⟨0, ![]⟩

class Facts : Prop where
  bcast_S_S2x256x512 : S_.BroadcastsInDim S2x256x512 (![] : Fin 0 → Fin S2x256x512.rank)
  bcast_S_S512x4096 : S_.BroadcastsInDim S512x4096 (![] : Fin 0 → Fin S512x4096.rank)
  bcast_S_S2x256x4x64 : S_.BroadcastsInDim S2x256x4x64 (![] : Fin 0 → Fin S2x256x4x64.rank)

variable [Facts]

def fn {F : FTy → Type} [FloatOps F] (main_arg0 : FVec F S2x256x512 .f32) (main_arg1 : FVec F S512x4096 .f32) (main_arg2 : FVec F S2x256x4x64 .f32) (main_arg3 : FVec F S2x256x4x64 .f32) (main_arg4 : FVec F S4096x512 .f32) : IVec S2x256x512 1 × IVec S512x4096 1 × IVec S2x256x4x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x4096 .f32 := Host.absf main_arg1
  let main_cst_0 : FVec F S_ .f32 := constant S_ .f32 0x7F800000#32
  let main_v4 : FVec F S512x4096 .f32 := broadcastInDim S512x4096 ![] bcast_S_S512x4096 main_cst_0
  let main_v5 : IVec S512x4096 1 := cmpf .olt main_v3 main_v4
  let main_v6 : FVec F S2x256x4x64 .f32 := Host.absf main_arg2
  let main_cst_1 : FVec F S_ .f32 := constant S_ .f32 0x7F800000#32
  let main_v7 : FVec F S2x256x4x64 .f32 := broadcastInDim S2x256x4x64 ![] bcast_S_S2x256x4x64 main_cst_1
  let main_v8 : IVec S2x256x4x64 1 := cmpf .olt main_v6 main_v7
  (main_v2, main_v5, main_v8)
-- ==== Pre_finite_scores_ReferenceIdeal.lean ====
abbrev S2x256x512 : Shape := ⟨3, ![2, 256, 512]⟩
abbrev S512x4096 : Shape := ⟨2, ![512, 4096]⟩
abbrev S2x256x64x64 : Shape := ⟨4, ![2, 256, 64, 64]⟩
abbrev S4096x512 : Shape := ⟨2, ![4096, 512]⟩
abbrev S_ : Shape := ⟨0, ![]⟩

class Facts : Prop where
  bcast_S_S2x256x512 : S_.BroadcastsInDim S2x256x512 (![] : Fin 0 → Fin S2x256x512.rank)
  bcast_S_S512x4096 : S_.BroadcastsInDim S512x4096 (![] : Fin 0 → Fin S512x4096.rank)
  bcast_S_S2x256x64x64 : S_.BroadcastsInDim S2x256x64x64 (![] : Fin 0 → Fin S2x256x64x64.rank)

variable [Facts]

def fn {F : FTy → Type} [FloatOps F] (main_arg0 : FVec F S2x256x512 .f32) (main_arg1 : FVec F S512x4096 .f32) (main_arg2 : FVec F S2x256x64x64 .f32) (main_arg3 : FVec F S2x256x64x64 .f32) (main_arg4 : FVec F S4096x512 .f32) : IVec S2x256x512 1 × IVec S512x4096 1 × IVec S2x256x64x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x4096 .f32 := Host.absf main_arg1
  let main_cst_0 : FVec F S_ .f32 := constant S_ .f32 0x7F800000#32
  let main_v4 : FVec F S512x4096 .f32 := broadcastInDim S512x4096 ![] bcast_S_S512x4096 main_cst_0
  let main_v5 : IVec S512x4096 1 := cmpf .olt main_v3 main_v4
  let main_v6 : FVec F S2x256x64x64 .f32 := Host.absf main_arg2
  let main_cst_1 : FVec F S_ .f32 := constant S_ .f32 0x7F800000#32
  let main_v7 : FVec F S2x256x64x64 .f32 := broadcastInDim S2x256x64x64 ![] bcast_S_S2x256x64x64 main_cst_1
  let main_v8 : IVec S2x256x64x64 1 := cmpf .olt main_v6 main_v7
  (main_v2, main_v5, main_v8)
-- ==== Kernel.lean ====
abbrev S2x256x512 : Shape := ⟨3, ![2, 256, 512]⟩
abbrev S512x4096 : Shape := ⟨2, ![512, 4096]⟩
abbrev S2x256x4x64 : Shape := ⟨4, ![2, 256, 4, 64]⟩
abbrev S4096x512 : Shape := ⟨2, ![4096, 512]⟩
abbrev S_ : Shape := ⟨0, ![]⟩
abbrev S512x512 : Shape := ⟨2, ![512, 512]⟩
abbrev S512x256 : Shape := ⟨2, ![512, 256]⟩
abbrev S256x512 : Shape := ⟨2, ![256, 512]⟩
abbrev S2x4x64x256 : Shape := ⟨4, ![2, 4, 64, 256]⟩
abbrev S16x32x512 : Shape := ⟨3, ![16, 32, 512]⟩
abbrev S16 : Shape := ⟨1, ![16]⟩
abbrev S256x256 : Shape := ⟨2, ![256, 256]⟩
abbrev S256x64 : Shape := ⟨2, ![256, 64]⟩
abbrev S1x1x64x256 : Shape := ⟨4, ![1, 1, 64, 256]⟩
abbrev S64x256 : Shape := ⟨2, ![64, 256]⟩
abbrev S256 : Shape := ⟨1, ![256]⟩
abbrev S256x1 : Shape := ⟨2, ![256, 1]⟩
abbrev S1 : Shape := ⟨1, ![1]⟩
abbrev S1x32x512 : Shape := ⟨3, ![1, 32, 512]⟩
abbrev S32x512 : Shape := ⟨2, ![32, 512]⟩

abbrev nBuf : Space → Nat
  | .hbm => 37
  | .vmem => 10
  | .smem => 0
  | _ => 0

abbrev bufTy : (tb : Table) → Fin (tcTables nBuf tb) → BufTy
  | .hbm, ⟨0, _⟩ => ⟨S2x256x512, .f32⟩
  | .hbm, ⟨1, _⟩ => ⟨S512x4096, .f32⟩
  | .hbm, ⟨2, _⟩ => ⟨S2x256x4x64, .f32⟩
  | .hbm, ⟨3, _⟩ => ⟨S2x256x4x64, .f32⟩
  | .hbm, ⟨4, _⟩ => ⟨S4096x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S512x512, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S512x256, .f32⟩
  | .hbm, ⟨21, _⟩ => ⟨S_, .f32⟩
  | .hbm, ⟨22, _⟩ => ⟨S512x256, .f32⟩
  | .hbm, ⟨23, _⟩ => ⟨S512x256, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S256x512, .f32⟩
  | .hbm, ⟨33, _⟩ => ⟨S2x4x64x256, .f32⟩
  | .hbm, ⟨34, _⟩ => ⟨S512x256, .f32⟩
  | .hbm, ⟨35, _⟩ => ⟨S512x512, .f32⟩
  | .hbm, ⟨36, _⟩ => ⟨S2x256x512, .f32⟩
  | .local _ .vmem, ⟨0, _⟩ => ⟨S512x512, .f32⟩
  | .local _ .vmem, ⟨1, _⟩ => ⟨S512x256, .f32⟩
  | .local _ .vmem, ⟨2, _⟩ => ⟨S2x4x64x256, .f32⟩
  | .local _ .vmem, ⟨3, _⟩ => ⟨S512x256, .f32⟩
  | .local _ .vmem, ⟨4, _⟩ => ⟨S256x512, .f32⟩
  | .local _ .vmem, ⟨5, _⟩ => ⟨S512x512, .f32⟩
  | .local _ .vmem, ⟨6, _⟩ => ⟨S512x512, .bf16⟩
  | .local _ .vmem, ⟨7, _⟩ => ⟨S512x256, .f32⟩
  | .local _ .vmem, ⟨8, _⟩ => ⟨S16x32x512, .bf16⟩
  | .local _ .vmem, ⟨9, _⟩ => ⟨S512x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_c_6 : Ref sig .tc := ⟨.hbm, 26, rfl⟩
abbrev main_v14 : Ref sig .tc := ⟨.hbm, 27, rfl⟩
abbrev main_c_7 : Ref sig .tc := ⟨.hbm, 28, rfl⟩
abbrev main_v15 : Ref sig .tc := ⟨.hbm, 29, rfl⟩
abbrev main_v16 : Ref sig .tc := ⟨.hbm, 30, rfl⟩
abbrev main_c_8 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c0_i32 : BitVec 32 := 0#32
  let v5 : BitVec 32 := Scalar.addi v4 c0_i32
  let c16_i32_1 : BitVec 32 := 16#32
  let c0_i32_2 : BitVec 32 := 0#32
  let v6 : BitVec 1 := Scalar.cmpi .eq c16_i32_1 c0_i32_2
  let c1_i32_3 : BitVec 32 := 1#32
  let v7 : BitVec 32 := Scalar.select v6 c1_i32_3 c16_i32_1
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_8 : BitVec 32 := 1#32
  let v16 : BitVec 32 := Scalar.muli v15 c1_i32_8
  let v17 : BitVec 32 := Scalar.addi c0_i32_9 v16
  v17.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_10 : BitVec 32 := 1#32
  let v18 : BitVec 32 := Scalar.addi v2 c1_i32_10
  let c1_i32_11 : BitVec 32 := 1#32
  let v19 : BitVec 32 := Scalar.addi v18 c1_i32_11
  let c16_i32_12 : BitVec 32 := 16#32
  let c0_i32_13 : BitVec 32 := 0#32
  let v20 : BitVec 1 := Scalar.cmpi .eq c16_i32_12 c0_i32_13
  let c1_i32_14 : BitVec 32 := 1#32
  let v21 : BitVec 32 := Scalar.select v20 c1_i32_14 c16_i32_12
  let v22 : BitVec 32 := Scalar.remsi v19 v21
  let c0_i32_16 : BitVec 32 := 0#32
  let v24 : BitVec 1 := Scalar.cmpi .slt v22 c0_i32_16
  let c0_i32_17 : BitVec 32 := 0#32
  let v25 : BitVec 1 := Scalar.cmpi .slt v21 c0_i32_17
  let v26 : BitVec 1 := Scalar.xori v24 v25
  let c0_i32_15 : BitVec 32 := 0#32
  let v23 : BitVec 1 := Scalar.cmpi .ne v22 c0_i32_15
  let v27 : BitVec 1 := Scalar.andi v26 v23
  let v28 : BitVec 32 := Scalar.addi v22 v21
  let v29 : BitVec 32 := Scalar.select v27 v28 v22
  let c1_i32_19 : BitVec 32 := 1#32
  let v30 : BitVec 32 := Scalar.muli v29 c1_i32_19
  let v31 : BitVec 32 := Scalar.addi c0_i32_20 v30
  v31.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_21 : BitVec 32 := 1#32
  let v32 : BitVec 32 := Scalar.addi v2 c1_i32_21
  let c2_i32 : BitVec 32 := 2#32
  let v33 : BitVec 32 := Scalar.addi v32 c2_i32
  let c16_i32_22 : BitVec 32 := 16#32
  let c0_i32_23 : BitVec 32 := 0#32
  let v34 : BitVec 1 := Scalar.cmpi .eq c16_i32_22 c0_i32_23
  let c1_i32_24 : BitVec 32 := 1#32
  let v35 : BitVec 32 := Scalar.select v34 c1_i32_24 c16_i32_22
  let v36 : BitVec 32 := Scalar.remsi v33 v35
  let c0_i32_26 : BitVec 32 := 0#32
  let v38 : BitVec 1 := Scalar.cmpi .slt v36 c0_i32_26
  let c0_i32_27 : BitVec 32 := 0#32
  let v39 : BitVec 1 := Scalar.cmpi .slt v35 c0_i32_27
  let v40 : BitVec 1 := Scalar.xori v38 v39
  let c0_i32_25 : BitVec 32 := 0#32
  let v37 : BitVec 1 := Scalar.cmpi .ne v36 c0_i32_25
  let v41 : BitVec 1 := Scalar.andi v40 v37
  let v42 : BitVec 32 := Scalar.addi v36 v35
  let v43 : BitVec 32 := Scalar.select v41 v42 v36
  let c1_i32_29 : BitVec 32 := 1#32
  let v44 : BitVec 32 := Scalar.muli v43 c1_i32_29
  let v45 : BitVec 32 := Scalar.addi c0_i32_30 v44
  v45.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_31 : BitVec 32 := 1#32
  let v46 : BitVec 32 := Scalar.addi v2 c1_i32_31
  let c3_i32 : BitVec 32 := 3#32
  let v47 : BitVec 32 := Scalar.addi v46 c3_i32
  let c16_i32_32 : BitVec 32 := 16#32
  let c0_i32_33 : BitVec 32 := 0#32
  let v48 : BitVec 1 := Scalar.cmpi .eq c16_i32_32 c0_i32_33
  let c1_i32_34 : BitVec 32 := 1#32
  let v49 : BitVec 32 := Scalar.select v48 c1_i32_34 c16_i32_32
  let v50 : BitVec 32 := Scalar.remsi v47 v49
  let c0_i32_36 : BitVec 32 := 0#32
  let v52 : BitVec 1 := Scalar.cmpi .slt v50 c0_i32_36
  let c0_i32_37 : BitVec 32 := 0#32
  let v53 : BitVec 1 := Scalar.cmpi .slt v49 c0_i32_37
  let v54 : BitVec 1 := Scalar.xori v52 v53
  let c0_i32_35 : BitVec 32 := 0#32
  let v51 : BitVec 1 := Scalar.cmpi .ne v50 c0_i32_35
  let v55 : BitVec 1 := Scalar.andi v54 v51
  let v56 : BitVec 32 := Scalar.addi v50 v49
  let v57 : BitVec 32 := Scalar.select v55 v56 v50
  let c1_i32_39 : BitVec 32 := 1#32
  let v58 : BitVec 32 := Scalar.muli v57 c1_i32_39
  let v59 : BitVec 32 := Scalar.addi c0_i32_40 v58
  v59.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_41 : BitVec 32 := 1#32
  let v60 : BitVec 32 := Scalar.addi v2 c1_i32_41
  let c4_i32 : BitVec 32 := 4#32
  let v61 : BitVec 32 := Scalar.addi v60 c4_i32
  let c16_i32_42 : BitVec 32 := 16#32
  let c0_i32_43 : BitVec 32 := 0#32
  let v62 : BitVec 1 := Scalar.cmpi .eq c16_i32_42 c0_i32_43
  let c1_i32_44 : BitVec 32 := 1#32
  let v63 : BitVec 32 := Scalar.select v62 c1_i32_44 c16_i32_42
  let v64 : BitVec 32 := Scalar.remsi v61 v63
  let c0_i32_46 : BitVec 32 := 0#32
  let v66 : BitVec 1 := Scalar.cmpi .slt v64 c0_i32_46
  let c0_i32_47 : BitVec 32 := 0#32
  let v67 : BitVec 1 := Scalar.cmpi .slt v63 c0_i32_47
  let v68 : BitVec 1 := Scalar.xori v66 v67
  let c0_i32_45 : BitVec 32 := 0#32
  let v65 : BitVec 1 := Scalar.cmpi .ne v64 c0_i32_45
  let v69 : BitVec 1 := Scalar.andi v68 v65
  let v70 : BitVec 32 := Scalar.addi v64 v63
  let v71 : BitVec 32 := Scalar.select v69 v70 v64
  let c1_i32_49 : BitVec 32 := 1#32
  let v72 : BitVec 32 := Scalar.muli v71 c1_i32_49
  let v73 : BitVec 32 := Scalar.addi c0_i32_50 v72
  v73.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_51 : BitVec 32 := 1#32
  let v74 : BitVec 32 := Scalar.addi v2 c1_i32_51
  let c5_i32 : BitVec 32 := 5#32
  let v75 : BitVec 32 := Scalar.addi v74 c5_i32
  let c16_i32_52 : BitVec 32 := 16#32
  let c0_i32_53 : BitVec 32 := 0#32
  let v76 : BitVec 1 := Scalar.cmpi .eq c16_i32_52 c0_i32_53
  let c1_i32_54 : BitVec 32 := 1#32
  let v77 : BitVec 32 := Scalar.select v76 c1_i32_54 c16_i32_52
  let v78 : BitVec 32 := Scalar.remsi v75 v77
  let c0_i32_56 : BitVec 32 := 0#32
  let v80 : BitVec 1 := Scalar.cmpi .slt v78 c0_i32_56
  let c0_i32_57 : BitVec 32 := 0#32
  let v81 : BitVec 1 := Scalar.cmpi .slt v77 c0_i32_57
  let v82 : BitVec 1 := Scalar.xori v80 v81
  let c0_i32_55 : BitVec 32 := 0#32
  let v79 : BitVec 1 := Scalar.cmpi .ne v78 c0_i32_55
  let v83 : BitVec 1 := Scalar.andi v82 v79
  let v84 : BitVec 32 := Scalar.addi v78 v77
  let v85 : BitVec 32 := Scalar.select v83 v84 v78
  let c1_i32_59 : BitVec 32 := 1#32
  let v86 : BitVec 32 := Scalar.muli v85 c1_i32_59
  let v87 : BitVec 32 := Scalar.addi c0_i32_60 v86
  v87.toNat
def k0_dev7 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v88 : BitVec 32 := Scalar.addi v2 c1_i32_61
  let c6_i32 : BitVec 32 := 6#32
  let v89 : BitVec 32 := Scalar.addi v88 c6_i32
  let c16_i32_62 : BitVec 32 := 16#32
  let c0_i32_63 : BitVec 32 := 0#32
  let v90 : BitVec 1 := Scalar.cmpi .eq c16_i32_62 c0_i32_63
  let c1_i32_64 : BitVec 32 := 1#32
  let v91 : BitVec 32 := Scalar.select v90 c1_i32_64 c16_i32_62
  let v92 : BitVec 32 := Scalar.remsi v89 v91
  let c0_i32_66 : BitVec 32 := 0#32
  let v94 : BitVec 1 := Scalar.cmpi .slt v92 c0_i32_66
  let c0_i32_67 : BitVec 32 := 0#32
  let v95 : BitVec 1 := Scalar.cmpi .slt v91 c0_i32_67
  let v96 : BitVec 1 := Scalar.xori v94 v95
  let c0_i32_65 : BitVec 32 := 0#32
  let v93 : BitVec 1 := Scalar.cmpi .ne v92 c0_i32_65
  let v97 : BitVec 1 := Scalar.andi v96 v93
  let v98 : BitVec 32 := Scalar.addi v92 v91
  let v99 : BitVec 32 := Scalar.select v97 v98 v92
  let c1_i32_69 : BitVec 32 := 1#32
  let v100 : BitVec 32 := Scalar.muli v99 c1_i32_69
  let v101 : BitVec 32 := Scalar.addi c0_i32_70 v100
  v101.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_71 : BitVec 32 := 1#32
  let v102 : BitVec 32 := Scalar.addi v2 c1_i32_71
  let c7_i32 : BitVec 32 := 7#32
  let v103 : BitVec 32 := Scalar.addi v102 c7_i32
  let c16_i32_72 : BitVec 32 := 16#32
  let c0_i32_73 : BitVec 32 := 0#32
  let v104 : BitVec 1 := Scalar.cmpi .eq c16_i32_72 c0_i32_73
  let c1_i32_74 : BitVec 32 := 1#32
  let v105 : BitVec 32 := Scalar.select v104 c1_i32_74 c16_i32_72
  let v106 : BitVec 32 := Scalar.remsi v103 v105
  let c0_i32_76 : BitVec 32 := 0#32
  let v108 : BitVec 1 := Scalar.cmpi .slt v106 c0_i32_76
  let c0_i32_77 : BitVec 32 := 0#32
  let v109 : BitVec 1 := Scalar.cmpi .slt v105 c0_i32_77
  let v110 : BitVec 1 := Scalar.xori v108 v109
  let c0_i32_75 : BitVec 32 := 0#32
  let v107 : BitVec 1 := Scalar.cmpi .ne v106 c0_i32_75
  let v111 : BitVec 1 := Scalar.andi v110 v107
  let v112 : BitVec 32 := Scalar.addi v106 v105
  let v113 : BitVec 32 := Scalar.select v111 v112 v106
  let c1_i32_79 : BitVec 32 := 1#32
  let v114 : BitVec 32 := Scalar.muli v113 c1_i32_79
  let v115 : BitVec 32 := Scalar.addi c0_i32_80 v114
  v115.toNat
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_81 : BitVec 32 := 1#32
  let v116 : BitVec 32 := Scalar.addi v2 c1_i32_81
  let c8_i32 : BitVec 32 := 8#32
  let v117 : BitVec 32 := Scalar.addi v116 c8_i32
  let c16_i32_82 : BitVec 32 := 16#32
  let c0_i32_83 : BitVec 32 := 0#32
  let v118 : BitVec 1 := Scalar.cmpi .eq c16_i32_82 c0_i32_83
  let c1_i32_84 : BitVec 32 := 1#32
  let v119 : BitVec 32 := Scalar.select v118 c1_i32_84 c16_i32_82
  let v120 : BitVec 32 := Scalar.remsi v117 v119
  let c0_i32_86 : BitVec 32 := 0#32
  let v122 : BitVec 1 := Scalar.cmpi .slt v120 c0_i32_86
  let c0_i32_87 : BitVec 32 := 0#32
  let v123 : BitVec 1 := Scalar.cmpi .slt v119 c0_i32_87
  let v124 : BitVec 1 := Scalar.xori v122 v123
  let c0_i32_85 : BitVec 32 := 0#32
  let v121 : BitVec 1 := Scalar.cmpi .ne v120 c0_i32_85
  let v125 : BitVec 1 := Scalar.andi v124 v121
  let v126 : BitVec 32 := Scalar.addi v120 v119
  let v127 : BitVec 32 := Scalar.select v125 v126 v120
  let c1_i32_89 : BitVec 32 := 1#32
  let v128 : BitVec 32 := Scalar.muli v127 c1_i32_89
  let v129 : BitVec 32 := Scalar.addi c0_i32_90 v128
  v129.toNat
def k0_dev10 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_91 : BitVec 32 := 1#32
  let v130 : BitVec 32 := Scalar.addi v2 c1_i32_91
  let c9_i32 : BitVec 32 := 9#32
  let v131 : BitVec 32 := Scalar.addi v130 c9_i32
  let c16_i32_92 : BitVec 32 := 16#32
  let c0_i32_93 : BitVec 32 := 0#32
  let v132 : BitVec 1 := Scalar.cmpi .eq c16_i32_92 c0_i32_93
  let c1_i32_94 : BitVec 32 := 1#32
  let v133 : BitVec 32 := Scalar.select v132 c1_i32_94 c16_i32_92
  let v134 : BitVec 32 := Scalar.remsi v131 v133
  let c0_i32_96 : BitVec 32 := 0#32
  let v136 : BitVec 1 := Scalar.cmpi .slt v134 c0_i32_96
  let c0_i32_97 : BitVec 32 := 0#32
  let v137 : BitVec 1 := Scalar.cmpi .slt v133 c0_i32_97
  let v138 : BitVec 1 := Scalar.xori v136 v137
  let c0_i32_95 : BitVec 32 := 0#32
  let v135 : BitVec 1 := Scalar.cmpi .ne v134 c0_i32_95
  let v139 : BitVec 1 := Scalar.andi v138 v135
  let v140 : BitVec 32 := Scalar.addi v134 v133
  let v141 : BitVec 32 := Scalar.select v139 v140 v134
  let c1_i32_99 : BitVec 32 := 1#32
  let v142 : BitVec 32 := Scalar.muli v141 c1_i32_99
  let v143 : BitVec 32 := Scalar.addi c0_i32_100 v142
  v143.toNat
def k0_dev11 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_101 : BitVec 32 := 1#32
  let v144 : BitVec 32 := Scalar.addi v2 c1_i32_101
  let c10_i32 : BitVec 32 := 10#32
  let v145 : BitVec 32 := Scalar.addi v144 c10_i32
  let c16_i32_102 : BitVec 32 := 16#32
  let c0_i32_103 : BitVec 32 := 0#32
  let v146 : BitVec 1 := Scalar.cmpi .eq c16_i32_102 c0_i32_103
  let c1_i32_104 : BitVec 32 := 1#32
  let v147 : BitVec 32 := Scalar.select v146 c1_i32_104 c16_i32_102
  let v148 : BitVec 32 := Scalar.remsi v145 v147
  let c0_i32_106 : BitVec 32 := 0#32
  let v150 : BitVec 1 := Scalar.cmpi .slt v148 c0_i32_106
  let c0_i32_107 : BitVec 32 := 0#32
  let v151 : BitVec 1 := Scalar.cmpi .slt v147 c0_i32_107
  let v152 : BitVec 1 := Scalar.xori v150 v151
  let c0_i32_105 : BitVec 32 := 0#32
  let v149 : BitVec 1 := Scalar.cmpi .ne v148 c0_i32_105
  let v153 : BitVec 1 := Scalar.andi v152 v149
  let v154 : BitVec 32 := Scalar.addi v148 v147
  let v155 : BitVec 32 := Scalar.select v153 v154 v148
  let c1_i32_109 : BitVec 32 := 1#32
  let v156 : BitVec 32 := Scalar.muli v155 c1_i32_109
  let v157 : BitVec 32 := Scalar.addi c0_i32_110 v156
  v157.toNat
def k0_dev12 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_111 : BitVec 32 := 1#32
  let v158 : BitVec 32 := Scalar.addi v2 c1_i32_111
  let c11_i32 : BitVec 32 := 11#32
  let v159 : BitVec 32 := Scalar.addi v158 c11_i32
  let c16_i32_112 : BitVec 32 := 16#32
  let c0_i32_113 : BitVec 32 := 0#32
  let v160 : BitVec 1 := Scalar.cmpi .eq c16_i32_112 c0_i32_113
  let c1_i32_114 : BitVec 32 := 1#32
  let v161 : BitVec 32 := Scalar.select v160 c1_i32_114 c16_i32_112
  let v162 : BitVec 32 := Scalar.remsi v159 v161
  let c0_i32_116 : BitVec 32 := 0#32
  let v164 : BitVec 1 := Scalar.cmpi .slt v162 c0_i32_116
  let c0_i32_117 : BitVec 32 := 0#32
  let v165 : BitVec 1 := Scalar.cmpi .slt v161 c0_i32_117
  let v166 : BitVec 1 := Scalar.xori v164 v165
  let c0_i32_115 : BitVec 32 := 0#32
  let v163 : BitVec 1 := Scalar.cmpi .ne v162 c0_i32_115
  let v167 : BitVec 1 := Scalar.andi v166 v163
  let v168 : BitVec 32 := Scalar.addi v162 v161
  let v169 : BitVec 32 := Scalar.select v167 v168 v162
  let c1_i32_119 : BitVec 32 := 1#32
  let v170 : BitVec 32 := Scalar.muli v169 c1_i32_119
  let v171 : BitVec 32 := Scalar.addi c0_i32_120 v170
  v171.toNat
def k0_dev13 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_121 : BitVec 32 := 1#32
  let v172 : BitVec 32 := Scalar.addi v2 c1_i32_121
  let c12_i32 : BitVec 32 := 12#32
  let v173 : BitVec 32 := Scalar.addi v172 c12_i32
  let c16_i32_122 : BitVec 32 := 16#32
  let c0_i32_123 : BitVec 32 := 0#32
  let v174 : BitVec 1 := Scalar.cmpi .eq c16_i32_122 c0_i32_123
  let c1_i32_124 : BitVec 32 := 1#32
  let v175 : BitVec 32 := Scalar.select v174 c1_i32_124 c16_i32_122
  let v176 : BitVec 32 := Scalar.remsi v173 v175
  let c0_i32_126 : BitVec 32 := 0#32
  let v178 : BitVec 1 := Scalar.cmpi .slt v176 c0_i32_126
  let c0_i32_127 : BitVec 32 := 0#32
  let v179 : BitVec 1 := Scalar.cmpi .slt v175 c0_i32_127
  let v180 : BitVec 1 := Scalar.xori v178 v179
  let c0_i32_125 : BitVec 32 := 0#32
  let v177 : BitVec 1 := Scalar.cmpi .ne v176 c0_i32_125
  let v181 : BitVec 1 := Scalar.andi v180 v177
  let v182 : BitVec 32 := Scalar.addi v176 v175
  let v183 : BitVec 32 := Scalar.select v181 v182 v176
  let c1_i32_129 : BitVec 32 := 1#32
  let v184 : BitVec 32 := Scalar.muli v183 c1_i32_129
  let v185 : BitVec 32 := Scalar.addi c0_i32_130 v184
  v185.toNat
def k0_dev14 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v186 : BitVec 32 := Scalar.addi v2 c1_i32_131
  let c13_i32 : BitVec 32 := 13#32
  let v187 : BitVec 32 := Scalar.addi v186 c13_i32
  let c16_i32_132 : BitVec 32 := 16#32
  let c0_i32_133 : BitVec 32 := 0#32
  let v188 : BitVec 1 := Scalar.cmpi .eq c16_i32_132 c0_i32_133
  let c1_i32_134 : BitVec 32 := 1#32
  let v189 : BitVec 32 := Scalar.select v188 c1_i32_134 c16_i32_132
  let v190 : BitVec 32 := Scalar.remsi v187 v189
  let c0_i32_136 : BitVec 32 := 0#32
  let v192 : BitVec 1 := Scalar.cmpi .slt v190 c0_i32_136
  let c0_i32_137 : BitVec 32 := 0#32
  let v193 : BitVec 1 := Scalar.cmpi .slt v189 c0_i32_137
  let v194 : BitVec 1 := Scalar.xori v192 v193
  let c0_i32_135 : BitVec 32 := 0#32
  let v191 : BitVec 1 := Scalar.cmpi .ne v190 c0_i32_135
  let v195 : BitVec 1 := Scalar.andi v194 v191
  let v196 : BitVec 32 := Scalar.addi v190 v189
  let v197 : BitVec 32 := Scalar.select v195 v196 v190
  let c1_i32_139 : BitVec 32 := 1#32
  let v198 : BitVec 32 := Scalar.muli v197 c1_i32_139
  let v199 : BitVec 32 := Scalar.addi c0_i32_140 v198
  v199.toNat
def k0_dev15 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_141 : BitVec 32 := 1#32
  let v200 : BitVec 32 := Scalar.addi v2 c1_i32_141
  let c14_i32 : BitVec 32 := 14#32
  let v201 : BitVec 32 := Scalar.addi v200 c14_i32
  let c16_i32_142 : BitVec 32 := 16#32
  let c0_i32_143 : BitVec 32 := 0#32
  let v202 : BitVec 1 := Scalar.cmpi .eq c16_i32_142 c0_i32_143
  let c1_i32_144 : BitVec 32 := 1#32
  let v203 : BitVec 32 := Scalar.select v202 c1_i32_144 c16_i32_142
  let v204 : BitVec 32 := Scalar.remsi v201 v203
  let c0_i32_146 : BitVec 32 := 0#32
  let v206 : BitVec 1 := Scalar.cmpi .slt v204 c0_i32_146
  let c0_i32_147 : BitVec 32 := 0#32
  let v207 : BitVec 1 := Scalar.cmpi .slt v203 c0_i32_147
  let v208 : BitVec 1 := Scalar.xori v206 v207
  let c0_i32_145 : BitVec 32 := 0#32
  let v205 : BitVec 1 := Scalar.cmpi .ne v204 c0_i32_145
  let v209 : BitVec 1 := Scalar.andi v208 v205
  let v210 : BitVec 32 := Scalar.addi v204 v203
  let v211 : BitVec 32 := Scalar.select v209 v210 v204
  let c1_i32_149 : BitVec 32 := 1#32
  let v212 : BitVec 32 := Scalar.muli v211 c1_i32_149
  let v213 : BitVec 32 := Scalar.addi c0_i32_150 v212
  v213.toNat
def k0_off1 (d0 : Dev nD) (c0_i32_214 : BitVec 32) (c0_i32_207 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_206 : BitVec 32 := 1#32
  let v314 : BitVec 32 := Scalar.addi v2 c1_i32_206
  let v315 : BitVec 32 := Scalar.addi v314 c0_i32_207
  let c8_i32_208 : BitVec 32 := 8#32
  let c0_i32_209 : BitVec 32 := 0#32
  let v316 : BitVec 1 := Scalar.cmpi .eq c8_i32_208 c0_i32_209
  let c1_i32_210 : BitVec 32 := 1#32
  let v317 : BitVec 32 := Scalar.select v316 c1_i32_210 c8_i32_208
  let v318 : BitVec 32 := Scalar.remsi v315 v317
  let c0_i32_212 : BitVec 32 := 0#32
  let v320 : BitVec 1 := Scalar.cmpi .slt v318 c0_i32_212
  let c0_i32_213 : BitVec 32 := 0#32
  let v321 : BitVec 1 := Scalar.cmpi .slt v317 c0_i32_213
  let v322 : BitVec 1 := Scalar.xori v320 v321
  let c0_i32_211 : BitVec 32 := 0#32
  let v319 : BitVec 1 := Scalar.cmpi .ne v318 c0_i32_211
  let v323 : BitVec 1 := Scalar.andi v322 v319
  let v324 : BitVec 32 := Scalar.addi v318 v317
  let v325 : BitVec 32 := Scalar.select v323 v324 v318
  let v326 : BitVec 32 := Scalar.addi c0_i32_214 v325
  ![v326.toNat]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_218 : BitVec 32 := 0#32
  let c0_i32_219 : BitVec 32 := 0#32
  ![v2.toNat, 0, 0]
def k0_off4 (d0 : Dev nD) (c0_i32_214 : BitVec 32) (c0_i32_207 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_206 : BitVec 32 := 1#32
  let v314 : BitVec 32 := Scalar.addi v2 c1_i32_206
  let v315 : BitVec 32 := Scalar.addi v314 c0_i32_207
  let c8_i32_208 : BitVec 32 := 8#32
  let c0_i32_209 : BitVec 32 := 0#32
  let v316 : BitVec 1 := Scalar.cmpi .eq c8_i32_208 c0_i32_209
  let c1_i32_210 : BitVec 32 := 1#32
  let v317 : BitVec 32 := Scalar.select v316 c1_i32_210 c8_i32_208
  let v318 : BitVec 32 := Scalar.remsi v315 v317
  let c0_i32_212 : BitVec 32 := 0#32
  let v320 : BitVec 1 := Scalar.cmpi .slt v318 c0_i32_212
  let c0_i32_213 : BitVec 32 := 0#32
  let v321 : BitVec 1 := Scalar.cmpi .slt v317 c0_i32_213
  let v322 : BitVec 1 := Scalar.xori v320 v321
  let c0_i32_211 : BitVec 32 := 0#32
  let v319 : BitVec 1 := Scalar.cmpi .ne v318 c0_i32_211
  let v323 : BitVec 1 := Scalar.andi v322 v319
  let v324 : BitVec 32 := Scalar.addi v318 v317
  let v325 : BitVec 32 := Scalar.select v323 v324 v318
  let v326 : BitVec 32 := Scalar.addi c0_i32_214 v325
  let c32_i32_215 : BitVec 32 := 32#32
  let v327 : BitVec 32 := Scalar.muli v326 c32_i32_215
  let c0_i32_220 : BitVec 32 := 0#32
  ![v327.toNat, 0]
def k0_dev16 (d0 : Dev nD) : Nat :=
  let c0_i32_217 : BitVec 32 := 0#32
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_206 : BitVec 32 := 1#32
  let v314 : BitVec 32 := Scalar.addi v2 c1_i32_206
  let c0_i32_207 : BitVec 32 := 0#32
  let v315 : BitVec 32 := Scalar.addi v314 c0_i32_207
  let c8_i32_208 : BitVec 32 := 8#32
  let c0_i32_209 : BitVec 32 := 0#32
  let v316 : BitVec 1 := Scalar.cmpi .eq c8_i32_208 c0_i32_209
  let c1_i32_210 : BitVec 32 := 1#32
  let v317 : BitVec 32 := Scalar.select v316 c1_i32_210 c8_i32_208
  let v318 : BitVec 32 := Scalar.remsi v315 v317
  let c0_i32_212 : BitVec 32 := 0#32
  let v320 : BitVec 1 := Scalar.cmpi .slt v318 c0_i32_212
  let c0_i32_213 : BitVec 32 := 0#32
  let v321 : BitVec 1 := Scalar.cmpi .slt v317 c0_i32_213
  let v322 : BitVec 1 := Scalar.xori v320 v321
  let c0_i32_211 : BitVec 32 := 0#32
  let v319 : BitVec 1 := Scalar.cmpi .ne v318 c0_i32_211
  let v323 : BitVec 1 := Scalar.andi v322 v319
  let v324 : BitVec 32 := Scalar.addi v318 v317
  let v325 : BitVec 32 := Scalar.select v323 v324 v318
  let v326 : BitVec 32 := Scalar.addi c0_i32_214 v325
  let c1_i32_216 : BitVec 32 := 1#32
  let v328 : BitVec 32 := Scalar.muli v326 c1_i32_216
  let v329 : BitVec 32 := Scalar.addi c0_i32_217 v328
  v329.toNat
def k0_dev17 (d0 : Dev nD) : Nat :=
  let c0_i32_232 : BitVec 32 := 0#32
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_221 : BitVec 32 := 1#32
  let v337 : BitVec 32 := Scalar.addi v2 c1_i32_221
  let c1_i32_222 : BitVec 32 := 1#32
  let v338 : BitVec 32 := Scalar.addi v337 c1_i32_222
  let c8_i32_223 : BitVec 32 := 8#32
  let c0_i32_224 : BitVec 32 := 0#32
  let v339 : BitVec 1 := Scalar.cmpi .eq c8_i32_223 c0_i32_224
  let c1_i32_225 : BitVec 32 := 1#32
  let v340 : BitVec 32 := Scalar.select v339 c1_i32_225 c8_i32_223
  let v341 : BitVec 32 := Scalar.remsi v338 v340
  let c0_i32_227 : BitVec 32 := 0#32
  let v343 : BitVec 1 := Scalar.cmpi .slt v341 c0_i32_227
  let c0_i32_228 : BitVec 32 := 0#32
  let v344 : BitVec 1 := Scalar.cmpi .slt v340 c0_i32_228
  let v345 : BitVec 1 := Scalar.xori v343 v344
  let c0_i32_226 : BitVec 32 := 0#32
  let v342 : BitVec 1 := Scalar.cmpi .ne v341 c0_i32_226
  let v346 : BitVec 1 := Scalar.andi v345 v342
  let v347 : BitVec 32 := Scalar.addi v341 v340
  let v348 : BitVec 32 := Scalar.select v346 v347 v341
  let v349 : BitVec 32 := Scalar.addi c0_i32_229 v348
  let c1_i32_231 : BitVec 32 := 1#32
  let v351 : BitVec 32 := Scalar.muli v349 c1_i32_231
  let v352 : BitVec 32 := Scalar.addi c0_i32_232 v351
  v352.toNat
def k0_dev18 (d0 : Dev nD) : Nat :=
  let c0_i32_247 : BitVec 32 := 0#32
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_236 : BitVec 32 := 1#32
  let v360 : BitVec 32 := Scalar.addi v2 c1_i32_236
  let c2_i32_237 : BitVec 32 := 2#32
  let v361 : BitVec 32 := Scalar.addi v360 c2_i32_237
  let c8_i32_238 : BitVec 32 := 8#32
  let c0_i32_239 : BitVec 32 := 0#32
  let v362 : BitVec 1 := Scalar.cmpi .eq c8_i32_238 c0_i32_239
  let c1_i32_240 : BitVec 32 := 1#32
  let v363 : BitVec 32 := Scalar.select v362 c1_i32_240 c8_i32_238
  let v364 : BitVec 32 := Scalar.remsi v361 v363
  let c0_i32_242 : BitVec 32 := 0#32
  let v366 : BitVec 1 := Scalar.cmpi .slt v364 c0_i32_242
  let c0_i32_243 : BitVec 32 := 0#32
  let v367 : BitVec 1 := Scalar.cmpi .slt v363 c0_i32_243
  let v368 : BitVec 1 := Scalar.xori v366 v367
  let c0_i32_241 : BitVec 32 := 0#32
  let v365 : BitVec 1 := Scalar.cmpi .ne v364 c0_i32_241
  let v369 : BitVec 1 := Scalar.andi v368 v365
  let v370 : BitVec 32 := Scalar.addi v364 v363
  let v371 : BitVec 32 := Scalar.select v369 v370 v364
  let v372 : BitVec 32 := Scalar.addi c0_i32_244 v371
  let c1_i32_246 : BitVec 32 := 1#32
  let v374 : BitVec 32 := Scalar.muli v372 c1_i32_246
  let v375 : BitVec 32 := Scalar.addi c0_i32_247 v374
  v375.toNat
def k0_dev19 (d0 : Dev nD) : Nat :=
  let c0_i32_262 : BitVec 32 := 0#32
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_251 : BitVec 32 := 1#32
  let v383 : BitVec 32 := Scalar.addi v2 c1_i32_251
  let c3_i32_252 : BitVec 32 := 3#32
  let v384 : BitVec 32 := Scalar.addi v383 c3_i32_252
  let c8_i32_253 : BitVec 32 := 8#32
  let c0_i32_254 : BitVec 32 := 0#32
  let v385 : BitVec 1 := Scalar.cmpi .eq c8_i32_253 c0_i32_254
  let c1_i32_255 : BitVec 32 := 1#32
  let v386 : BitVec 32 := Scalar.select v385 c1_i32_255 c8_i32_253
  let v387 : BitVec 32 := Scalar.remsi v384 v386
  let c0_i32_257 : BitVec 32 := 0#32
  let v389 : BitVec 1 := Scalar.cmpi .slt v387 c0_i32_257
  let c0_i32_258 : BitVec 32 := 0#32
  let v390 : BitVec 1 := Scalar.cmpi .slt v386 c0_i32_258
  let v391 : BitVec 1 := Scalar.xori v389 v390
  let c0_i32_256 : BitVec 32 := 0#32
  let v388 : BitVec 1 := Scalar.cmpi .ne v387 c0_i32_256
  let v392 : BitVec 1 := Scalar.andi v391 v388
  let v393 : BitVec 32 := Scalar.addi v387 v386
  let v394 : BitVec 32 := Scalar.select v392 v393 v387
  let v395 : BitVec 32 := Scalar.addi c0_i32_259 v394
  let c1_i32_261 : BitVec 32 := 1#32
  let v397 : BitVec 32 := Scalar.muli v395 c1_i32_261
  let v398 : BitVec 32 := Scalar.addi c0_i32_262 v397
  v398.toNat
def k0_dev20 (d0 : Dev nD) : Nat :=
  let c0_i32_277 : BitVec 32 := 0#32
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_266 : BitVec 32 := 1#32
  let v406 : BitVec 32 := Scalar.addi v2 c1_i32_266
  let c4_i32_267 : BitVec 32 := 4#32
  let v407 : BitVec 32 := Scalar.addi v406 c4_i32_267
  let c8_i32_268 : BitVec 32 := 8#32
  let c0_i32_269 : BitVec 32 := 0#32
  let v408 : BitVec 1 := Scalar.cmpi .eq c8_i32_268 c0_i32_269
  let c1_i32_270 : BitVec 32 := 1#32
  let v409 : BitVec 32 := Scalar.select v408 c1_i32_270 c8_i32_268
  let v410 : BitVec 32 := Scalar.remsi v407 v409
  let c0_i32_272 : BitVec 32 := 0#32
  let v412 : BitVec 1 := Scalar.cmpi .slt v410 c0_i32_272
  let c0_i32_273 : BitVec 32 := 0#32
  let v413 : BitVec 1 := Scalar.cmpi .slt v409 c0_i32_273
  let v414 : BitVec 1 := Scalar.xori v412 v413
  let c0_i32_271 : BitVec 32 := 0#32
  let v411 : BitVec 1 := Scalar.cmpi .ne v410 c0_i32_271
  let v415 : BitVec 1 := Scalar.andi v414 v411
  let v416 : BitVec 32 := Scalar.addi v410 v409
  let v417 : BitVec 32 := Scalar.select v415 v416 v410
  let v418 : BitVec 32 := Scalar.addi c0_i32_274 v417
  let c1_i32_276 : BitVec 32 := 1#32
  let v420 : BitVec 32 := Scalar.muli v418 c1_i32_276
  let v421 : BitVec 32 := Scalar.addi c0_i32_277 v420
  v421.toNat
def k0_dev21 (d0 : Dev nD) : Nat :=
  let c0_i32_292 : BitVec 32 := 0#32
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_281 : BitVec 32 := 1#32
  let v429 : BitVec 32 := Scalar.addi v2 c1_i32_281
  let c5_i32_282 : BitVec 32 := 5#32
  let v430 : BitVec 32 := Scalar.addi v429 c5_i32_282
  let c8_i32_283 : BitVec 32 := 8#32
  let c0_i32_284 : BitVec 32 := 0#32
  let v431 : BitVec 1 := Scalar.cmpi .eq c8_i32_283 c0_i32_284
  let c1_i32_285 : BitVec 32 := 1#32
  let v432 : BitVec 32 := Scalar.select v431 c1_i32_285 c8_i32_283
  let v433 : BitVec 32 := Scalar.remsi v430 v432
  let c0_i32_287 : BitVec 32 := 0#32
  let v435 : BitVec 1 := Scalar.cmpi .slt v433 c0_i32_287
  let c0_i32_288 : BitVec 32 := 0#32
  let v436 : BitVec 1 := Scalar.cmpi .slt v432 c0_i32_288
  let v437 : BitVec 1 := Scalar.xori v435 v436
  let c0_i32_286 : BitVec 32 := 0#32
  let v434 : BitVec 1 := Scalar.cmpi .ne v433 c0_i32_286
  let v438 : BitVec 1 := Scalar.andi v437 v434
  let v439 : BitVec 32 := Scalar.addi v433 v432
  let v440 : BitVec 32 := Scalar.select v438 v439 v433
  let v441 : BitVec 32 := Scalar.addi c0_i32_289 v440
  let c1_i32_291 : BitVec 32 := 1#32
  let v443 : BitVec 32 := Scalar.muli v441 c1_i32_291
  let v444 : BitVec 32 := Scalar.addi c0_i32_292 v443
  v444.toNat
def k0_dev22 (d0 : Dev nD) : Nat :=
  let c0_i32_307 : BitVec 32 := 0#32
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_296 : BitVec 32 := 1#32
  let v452 : BitVec 32 := Scalar.addi v2 c1_i32_296
  let c6_i32_297 : BitVec 32 := 6#32
  let v453 : BitVec 32 := Scalar.addi v452 c6_i32_297
  let c8_i32_298 : BitVec 32 := 8#32
  let c0_i32_299 : BitVec 32 := 0#32
  let v454 : BitVec 1 := Scalar.cmpi .eq c8_i32_298 c0_i32_299
  let c1_i32_300 : BitVec 32 := 1#32
  let v455 : BitVec 32 := Scalar.select v454 c1_i32_300 c8_i32_298
  let v456 : BitVec 32 := Scalar.remsi v453 v455
  let c0_i32_302 : BitVec 32 := 0#32
  let v458 : BitVec 1 := Scalar.cmpi .slt v456 c0_i32_302
  let c0_i32_303 : BitVec 32 := 0#32
  let v459 : BitVec 1 := Scalar.cmpi .slt v455 c0_i32_303
  let v460 : BitVec 1 := Scalar.xori v458 v459
  let c0_i32_301 : BitVec 32 := 0#32
  let v457 : BitVec 1 := Scalar.cmpi .ne v456 c0_i32_301
  let v461 : BitVec 1 := Scalar.andi v460 v457
  let v462 : BitVec 32 := Scalar.addi v456 v455
  let v463 : BitVec 32 := Scalar.select v461 v462 v456
  let v464 : BitVec 32 := Scalar.addi c0_i32_304 v463
  let c1_i32_306 : BitVec 32 := 1#32
  let v466 : BitVec 32 := Scalar.muli v464 c1_i32_306
  let v467 : BitVec 32 := Scalar.addi c0_i32_307 v466
  v467.toNat
def k0_dev23 (d0 : Dev nD) : Nat :=
  let c0_i32_322 : BitVec 32 := 0#32
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_311 : BitVec 32 := 1#32
  let v475 : BitVec 32 := Scalar.addi v2 c1_i32_311
  let c7_i32_312 : BitVec 32 := 7#32
  let v476 : BitVec 32 := Scalar.addi v475 c7_i32_312
  let c8_i32_313 : BitVec 32 := 8#32
  let c0_i32_314 : BitVec 32 := 0#32
  let v477 : BitVec 1 := Scalar.cmpi .eq c8_i32_313 c0_i32_314
  let c1_i32_315 : BitVec 32 := 1#32
  let v478 : BitVec 32 := Scalar.select v477 c1_i32_315 c8_i32_313
  let v479 : BitVec 32 := Scalar.remsi v476 v478
  let c0_i32_317 : BitVec 32 := 0#32
  let v481 : BitVec 1 := Scalar.cmpi .slt v479 c0_i32_317
  let c0_i32_318 : BitVec 32 := 0#32
  let v482 : BitVec 1 := Scalar.cmpi .slt v478 c0_i32_318
  let v483 : BitVec 1 := Scalar.xori v481 v482
  let c0_i32_316 : BitVec 32 := 0#32
  let v480 : BitVec 1 := Scalar.cmpi .ne v479 c0_i32_316
  let v484 : BitVec 1 := Scalar.andi v483 v480
  let v485 : BitVec 32 := Scalar.addi v479 v478
  let v486 : BitVec 32 := Scalar.select v484 v485 v479
  let v487 : BitVec 32 := Scalar.addi c0_i32_319 v486
  let c1_i32_321 : BitVec 32 := 1#32
  let v489 : BitVec 32 := Scalar.muli v487 c1_i32_321
  let v490 : BitVec 32 := Scalar.addi c0_i32_322 v489
  v490.toNat
def k0_dev24 (d0 : Dev nD) : Nat :=
  let c0_i32_391 : BitVec 32 := 0#32
  let c8_i32_388 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_380 : BitVec 32 := 1#32
  let v578 : BitVec 32 := Scalar.addi v2 c1_i32_380
  let c0_i32_381 : BitVec 32 := 0#32
  let v579 : BitVec 32 := Scalar.addi v578 c0_i32_381
  let c8_i32_382 : BitVec 32 := 8#32
  let c0_i32_383 : BitVec 32 := 0#32
  let v580 : BitVec 1 := Scalar.cmpi .eq c8_i32_382 c0_i32_383
  let c1_i32_384 : BitVec 32 := 1#32
  let v581 : BitVec 32 := Scalar.select v580 c1_i32_384 c8_i32_382
  let v582 : BitVec 32 := Scalar.remsi v579 v581
  let c0_i32_386 : BitVec 32 := 0#32
  let v584 : BitVec 1 := Scalar.cmpi .slt v582 c0_i32_386
  let c0_i32_387 : BitVec 32 := 0#32
  let v585 : BitVec 1 := Scalar.cmpi .slt v581 c0_i32_387
  let v586 : BitVec 1 := Scalar.xori v584 v585
  let c0_i32_385 : BitVec 32 := 0#32
  let v583 : BitVec 1 := Scalar.cmpi .ne v582 c0_i32_385
  let v587 : BitVec 1 := Scalar.andi v586 v583
  let v588 : BitVec 32 := Scalar.addi v582 v581
  let v589 : BitVec 32 := Scalar.select v587 v588 v582
  let v590 : BitVec 32 := Scalar.addi c8_i32_388 v589
  let c1_i32_390 : BitVec 32 := 1#32
  let v592 : BitVec 32 := Scalar.muli v590 c1_i32_390
  let v593 : BitVec 32 := Scalar.addi c0_i32_391 v592
  v593.toNat
def k0_dev25 (d0 : Dev nD) : Nat :=
  let c0_i32_406 : BitVec 32 := 0#32
  let c8_i32_403 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_395 : BitVec 32 := 1#32
  let v601 : BitVec 32 := Scalar.addi v2 c1_i32_395
  let c1_i32_396 : BitVec 32 := 1#32
  let v602 : BitVec 32 := Scalar.addi v601 c1_i32_396
  let c8_i32_397 : BitVec 32 := 8#32
  let c0_i32_398 : BitVec 32 := 0#32
  let v603 : BitVec 1 := Scalar.cmpi .eq c8_i32_397 c0_i32_398
  let c1_i32_399 : BitVec 32 := 1#32
  let v604 : BitVec 32 := Scalar.select v603 c1_i32_399 c8_i32_397
  let v605 : BitVec 32 := Scalar.remsi v602 v604
  let c0_i32_401 : BitVec 32 := 0#32
  let v607 : BitVec 1 := Scalar.cmpi .slt v605 c0_i32_401
  let c0_i32_402 : BitVec 32 := 0#32
  let v608 : BitVec 1 := Scalar.cmpi .slt v604 c0_i32_402
  let v609 : BitVec 1 := Scalar.xori v607 v608
  let c0_i32_400 : BitVec 32 := 0#32
  let v606 : BitVec 1 := Scalar.cmpi .ne v605 c0_i32_400
  let v610 : BitVec 1 := Scalar.andi v609 v606
  let v611 : BitVec 32 := Scalar.addi v605 v604
  let v612 : BitVec 32 := Scalar.select v610 v611 v605
  let v613 : BitVec 32 := Scalar.addi c8_i32_403 v612
  let c1_i32_405 : BitVec 32 := 1#32
  let v615 : BitVec 32 := Scalar.muli v613 c1_i32_405
  let v616 : BitVec 32 := Scalar.addi c0_i32_406 v615
  v616.toNat
def k0_dev26 (d0 : Dev nD) : Nat :=
  let c0_i32_421 : BitVec 32 := 0#32
  let c8_i32_418 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_410 : BitVec 32 := 1#32
  let v624 : BitVec 32 := Scalar.addi v2 c1_i32_410
  let c2_i32_411 : BitVec 32 := 2#32
  let v625 : BitVec 32 := Scalar.addi v624 c2_i32_411
  let c8_i32_412 : BitVec 32 := 8#32
  let c0_i32_413 : BitVec 32 := 0#32
  let v626 : BitVec 1 := Scalar.cmpi .eq c8_i32_412 c0_i32_413
  let c1_i32_414 : BitVec 32 := 1#32
  let v627 : BitVec 32 := Scalar.select v626 c1_i32_414 c8_i32_412
  let v628 : BitVec 32 := Scalar.remsi v625 v627
  let c0_i32_416 : BitVec 32 := 0#32
  let v630 : BitVec 1 := Scalar.cmpi .slt v628 c0_i32_416
  let c0_i32_417 : BitVec 32 := 0#32
  let v631 : BitVec 1 := Scalar.cmpi .slt v627 c0_i32_417
  let v632 : BitVec 1 := Scalar.xori v630 v631
  let c0_i32_415 : BitVec 32 := 0#32
  let v629 : BitVec 1 := Scalar.cmpi .ne v628 c0_i32_415
  let v633 : BitVec 1 := Scalar.andi v632 v629
  let v634 : BitVec 32 := Scalar.addi v628 v627
  let v635 : BitVec 32 := Scalar.select v633 v634 v628
  let v636 : BitVec 32 := Scalar.addi c8_i32_418 v635
  let c1_i32_420 : BitVec 32 := 1#32
  let v638 : BitVec 32 := Scalar.muli v636 c1_i32_420
  let v639 : BitVec 32 := Scalar.addi c0_i32_421 v638
  v639.toNat
def k0_dev27 (d0 : Dev nD) : Nat :=
  let c0_i32_436 : BitVec 32 := 0#32
  let c8_i32_433 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_425 : BitVec 32 := 1#32
  let v647 : BitVec 32 := Scalar.addi v2 c1_i32_425
  let c3_i32_426 : BitVec 32 := 3#32
  let v648 : BitVec 32 := Scalar.addi v647 c3_i32_426
  let c8_i32_427 : BitVec 32 := 8#32
  let c0_i32_428 : BitVec 32 := 0#32
  let v649 : BitVec 1 := Scalar.cmpi .eq c8_i32_427 c0_i32_428
  let c1_i32_429 : BitVec 32 := 1#32
  let v650 : BitVec 32 := Scalar.select v649 c1_i32_429 c8_i32_427
  let v651 : BitVec 32 := Scalar.remsi v648 v650
  let c0_i32_431 : BitVec 32 := 0#32
  let v653 : BitVec 1 := Scalar.cmpi .slt v651 c0_i32_431
  let c0_i32_432 : BitVec 32 := 0#32
  let v654 : BitVec 1 := Scalar.cmpi .slt v650 c0_i32_432
  let v655 : BitVec 1 := Scalar.xori v653 v654
  let c0_i32_430 : BitVec 32 := 0#32
  let v652 : BitVec 1 := Scalar.cmpi .ne v651 c0_i32_430
  let v656 : BitVec 1 := Scalar.andi v655 v652
  let v657 : BitVec 32 := Scalar.addi v651 v650
  let v658 : BitVec 32 := Scalar.select v656 v657 v651
  let v659 : BitVec 32 := Scalar.addi c8_i32_433 v658
  let c1_i32_435 : BitVec 32 := 1#32
  let v661 : BitVec 32 := Scalar.muli v659 c1_i32_435
  let v662 : BitVec 32 := Scalar.addi c0_i32_436 v661
  v662.toNat
def k0_dev28 (d0 : Dev nD) : Nat :=
  let c0_i32_451 : BitVec 32 := 0#32
  let c8_i32_448 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_440 : BitVec 32 := 1#32
  let v670 : BitVec 32 := Scalar.addi v2 c1_i32_440
  let c4_i32_441 : BitVec 32 := 4#32
  let v671 : BitVec 32 := Scalar.addi v670 c4_i32_441
  let c8_i32_442 : BitVec 32 := 8#32
  let c0_i32_443 : BitVec 32 := 0#32
  let v672 : BitVec 1 := Scalar.cmpi .eq c8_i32_442 c0_i32_443
  let c1_i32_444 : BitVec 32 := 1#32
  let v673 : BitVec 32 := Scalar.select v672 c1_i32_444 c8_i32_442
  let v674 : BitVec 32 := Scalar.remsi v671 v673
  let c0_i32_446 : BitVec 32 := 0#32
  let v676 : BitVec 1 := Scalar.cmpi .slt v674 c0_i32_446
  let c0_i32_447 : BitVec 32 := 0#32
  let v677 : BitVec 1 := Scalar.cmpi .slt v673 c0_i32_447
  let v678 : BitVec 1 := Scalar.xori v676 v677
  let c0_i32_445 : BitVec 32 := 0#32
  let v675 : BitVec 1 := Scalar.cmpi .ne v674 c0_i32_445
  let v679 : BitVec 1 := Scalar.andi v678 v675
  let v680 : BitVec 32 := Scalar.addi v674 v673
  let v681 : BitVec 32 := Scalar.select v679 v680 v674
  let v682 : BitVec 32 := Scalar.addi c8_i32_448 v681
  let c1_i32_450 : BitVec 32 := 1#32
  let v684 : BitVec 32 := Scalar.muli v682 c1_i32_450
  let v685 : BitVec 32 := Scalar.addi c0_i32_451 v684
  v685.toNat
def k0_dev29 (d0 : Dev nD) : Nat :=
  let c0_i32_466 : BitVec 32 := 0#32
  let c8_i32_463 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_455 : BitVec 32 := 1#32
  let v693 : BitVec 32 := Scalar.addi v2 c1_i32_455
  let c5_i32_456 : BitVec 32 := 5#32
  let v694 : BitVec 32 := Scalar.addi v693 c5_i32_456
  let c8_i32_457 : BitVec 32 := 8#32
  let c0_i32_458 : BitVec 32 := 0#32
  let v695 : BitVec 1 := Scalar.cmpi .eq c8_i32_457 c0_i32_458
  let c1_i32_459 : BitVec 32 := 1#32
  let v696 : BitVec 32 := Scalar.select v695 c1_i32_459 c8_i32_457
  let v697 : BitVec 32 := Scalar.remsi v694 v696
  let c0_i32_461 : BitVec 32 := 0#32
  let v699 : BitVec 1 := Scalar.cmpi .slt v697 c0_i32_461
  let c0_i32_462 : BitVec 32 := 0#32
  let v700 : BitVec 1 := Scalar.cmpi .slt v696 c0_i32_462
  let v701 : BitVec 1 := Scalar.xori v699 v700
  let c0_i32_460 : BitVec 32 := 0#32
  let v698 : BitVec 1 := Scalar.cmpi .ne v697 c0_i32_460
  let v702 : BitVec 1 := Scalar.andi v701 v698
  let v703 : BitVec 32 := Scalar.addi v697 v696
  let v704 : BitVec 32 := Scalar.select v702 v703 v697
  let v705 : BitVec 32 := Scalar.addi c8_i32_463 v704
  let c1_i32_465 : BitVec 32 := 1#32
  let v707 : BitVec 32 := Scalar.muli v705 c1_i32_465
  let v708 : BitVec 32 := Scalar.addi c0_i32_466 v707
  v708.toNat
def k0_dev30 (d0 : Dev nD) : Nat :=
  let c0_i32_481 : BitVec 32 := 0#32
  let c8_i32_478 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_470 : BitVec 32 := 1#32
  let v716 : BitVec 32 := Scalar.addi v2 c1_i32_470
  let c6_i32_471 : BitVec 32 := 6#32
  let v717 : BitVec 32 := Scalar.addi v716 c6_i32_471
  let c8_i32_472 : BitVec 32 := 8#32
  let c0_i32_473 : BitVec 32 := 0#32
  let v718 : BitVec 1 := Scalar.cmpi .eq c8_i32_472 c0_i32_473
  let c1_i32_474 : BitVec 32 := 1#32
  let v719 : BitVec 32 := Scalar.select v718 c1_i32_474 c8_i32_472
  let v720 : BitVec 32 := Scalar.remsi v717 v719
  let c0_i32_476 : BitVec 32 := 0#32
  let v722 : BitVec 1 := Scalar.cmpi .slt v720 c0_i32_476
  let c0_i32_477 : BitVec 32 := 0#32
  let v723 : BitVec 1 := Scalar.cmpi .slt v719 c0_i32_477
  let v724 : BitVec 1 := Scalar.xori v722 v723
  let c0_i32_475 : BitVec 32 := 0#32
  let v721 : BitVec 1 := Scalar.cmpi .ne v720 c0_i32_475
  let v725 : BitVec 1 := Scalar.andi v724 v721
  let v726 : BitVec 32 := Scalar.addi v720 v719
  let v727 : BitVec 32 := Scalar.select v725 v726 v720
  let v728 : BitVec 32 := Scalar.addi c8_i32_478 v727
  let c1_i32_480 : BitVec 32 := 1#32
  let v730 : BitVec 32 := Scalar.muli v728 c1_i32_480
  let v731 : BitVec 32 := Scalar.addi c0_i32_481 v730
  v731.toNat
def k0_dev31 (d0 : Dev nD) : Nat :=
  let c0_i32_496 : BitVec 32 := 0#32
  let c8_i32_493 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_485 : BitVec 32 := 1#32
  let v739 : BitVec 32 := Scalar.addi v2 c1_i32_485
  let c7_i32_486 : BitVec 32 := 7#32
  let v740 : BitVec 32 := Scalar.addi v739 c7_i32_486
  let c8_i32_487 : BitVec 32 := 8#32
  let c0_i32_488 : BitVec 32 := 0#32
  let v741 : BitVec 1 := Scalar.cmpi .eq c8_i32_487 c0_i32_488
  let c1_i32_489 : BitVec 32 := 1#32
  let v742 : BitVec 32 := Scalar.select v741 c1_i32_489 c8_i32_487
  let v743 : BitVec 32 := Scalar.remsi v740 v742
  let c0_i32_491 : BitVec 32 := 0#32
  let v745 : BitVec 1 := Scalar.cmpi .slt v743 c0_i32_491
  let c0_i32_492 : BitVec 32 := 0#32
  let v746 : BitVec 1 := Scalar.cmpi .slt v742 c0_i32_492
  let v747 : BitVec 1 := Scalar.xori v745 v746
  let c0_i32_490 : BitVec 32 := 0#32
  let v744 : BitVec 1 := Scalar.cmpi .ne v743 c0_i32_490
  let v748 : BitVec 1 := Scalar.andi v747 v744
  let v749 : BitVec 32 := Scalar.addi v743 v742
  let v750 : BitVec 32 := Scalar.select v748 v749 v743
  let v751 : BitVec 32 := Scalar.addi c8_i32_493 v750
  let c1_i32_495 : BitVec 32 := 1#32
  let v753 : BitVec 32 := Scalar.muli v751 c1_i32_495
  let v754 : BitVec 32 := Scalar.addi c0_i32_496 v753
  v754.toNat
def k0_off5 (d0 : Dev nD) (c0_i32_500 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v762 : BitVec 32 := Scalar.addi v2 c0_i32_500
  let c16_i32_501 : BitVec 32 := 16#32
  let c0_i32_502 : BitVec 32 := 0#32
  let v763 : BitVec 1 := Scalar.cmpi .eq c16_i32_501 c0_i32_502
  let c1_i32_503 : BitVec 32 := 1#32
  let v764 : BitVec 32 := Scalar.select v763 c1_i32_503 c16_i32_501
  let v765 : BitVec 32 := Scalar.remsi v762 v764
  let c0_i32_505 : BitVec 32 := 0#32
  let v767 : BitVec 1 := Scalar.cmpi .slt v765 c0_i32_505
  let c0_i32_506 : BitVec 32 := 0#32
  let v768 : BitVec 1 := Scalar.cmpi .slt v764 c0_i32_506
  let v769 : BitVec 1 := Scalar.xori v767 v768
  let c0_i32_504 : BitVec 32 := 0#32
  let v766 : BitVec 1 := Scalar.cmpi .ne v765 c0_i32_504
  let v770 : BitVec 1 := Scalar.andi v769 v766
  let v771 : BitVec 32 := Scalar.addi v765 v764
  let v772 : BitVec 32 := Scalar.select v770 v771 v765
  ![v772.toNat]
def k0_off6 (d0 : Dev nD) (c0_i32_500 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v762 : BitVec 32 := Scalar.addi v2 c0_i32_500
  let c16_i32_501 : BitVec 32 := 16#32
  let c0_i32_502 : BitVec 32 := 0#32
  let v763 : BitVec 1 := Scalar.cmpi .eq c16_i32_501 c0_i32_502
  let c1_i32_503 : BitVec 32 := 1#32
  let v764 : BitVec 32 := Scalar.select v763 c1_i32_503 c16_i32_501
  let v765 : BitVec 32 := Scalar.remsi v762 v764
  let c0_i32_505 : BitVec 32 := 0#32
  let v767 : BitVec 1 := Scalar.cmpi .slt v765 c0_i32_505
  let c0_i32_506 : BitVec 32 := 0#32
  let v768 : BitVec 1 := Scalar.cmpi .slt v764 c0_i32_506
  let v769 : BitVec 1 := Scalar.xori v767 v768
  let c0_i32_504 : BitVec 32 := 0#32
  let v766 : BitVec 1 := Scalar.cmpi .ne v765 c0_i32_504
  let v770 : BitVec 1 := Scalar.andi v769 v766
  let v771 : BitVec 32 := Scalar.addi v765 v764
  let v772 : BitVec 32 := Scalar.select v770 v771 v765
  let c0_i32_509 : BitVec 32 := 0#32
  let c0_i32_510 : BitVec 32 := 0#32
  ![v772.toNat, 0, 0]
def k0_off7 (d0 : Dev nD) (c0_i32_500 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v762 : BitVec 32 := Scalar.addi v2 c0_i32_500
  let c16_i32_501 : BitVec 32 := 16#32
  let c0_i32_502 : BitVec 32 := 0#32
  let v763 : BitVec 1 := Scalar.cmpi .eq c16_i32_501 c0_i32_502
  let c1_i32_503 : BitVec 32 := 1#32
  let v764 : BitVec 32 := Scalar.select v763 c1_i32_503 c16_i32_501
  let v765 : BitVec 32 := Scalar.remsi v762 v764
  let c0_i32_505 : BitVec 32 := 0#32
  let v767 : BitVec 1 := Scalar.cmpi .slt v765 c0_i32_505
  let c0_i32_506 : BitVec 32 := 0#32
  let v768 : BitVec 1 := Scalar.cmpi .slt v764 c0_i32_506
  let v769 : BitVec 1 := Scalar.xori v767 v768
  let c0_i32_504 : BitVec 32 := 0#32
  let v766 : BitVec 1 := Scalar.cmpi .ne v765 c0_i32_504
  let v770 : BitVec 1 := Scalar.andi v769 v766
  let v771 : BitVec 32 := Scalar.addi v765 v764
  let v772 : BitVec 32 := Scalar.select v770 v771 v765
  let v781 : Index := Scalar.indexCast v772
  let c0_513 : Index := 0#32
  let c0_514 : Index := 0#32
  ![v781.toNat, 0, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_740 : BitVec 32 := 32#32
  let v1146 : BitVec 32 := Scalar.muli v2 c32_i32_740
  let v1147 : Index := Scalar.indexCast v1146
  let c0_741 : Index := 0#32
  ![v1147.toNat, 0]
def k0_off9 (d0 : Dev nD) (c0_i32_743 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_742 : BitVec 32 := 1#32
  let v1151 : BitVec 32 := Scalar.addi v2 c1_i32_742
  let v1152 : BitVec 32 := Scalar.addi v1151 c0_i32_743
  let c16_i32_744 : BitVec 32 := 16#32
  let c0_i32_745 : BitVec 32 := 0#32
  let v1153 : BitVec 1 := Scalar.cmpi .eq c16_i32_744 c0_i32_745
  let c1_i32_746 : BitVec 32 := 1#32
  let v1154 : BitVec 32 := Scalar.select v1153 c1_i32_746 c16_i32_744
  let v1155 : BitVec 32 := Scalar.remsi v1152 v1154
  let c0_i32_748 : BitVec 32 := 0#32
  let v1157 : BitVec 1 := Scalar.cmpi .slt v1155 c0_i32_748
  let c0_i32_749 : BitVec 32 := 0#32
  let v1158 : BitVec 1 := Scalar.cmpi .slt v1154 c0_i32_749
  let v1159 : BitVec 1 := Scalar.xori v1157 v1158
  let c0_i32_747 : BitVec 32 := 0#32
  let v1156 : BitVec 1 := Scalar.cmpi .ne v1155 c0_i32_747
  let v1160 : BitVec 1 := Scalar.andi v1159 v1156
  let v1161 : BitVec 32 := Scalar.addi v1155 v1154
  let v1162 : BitVec 32 := Scalar.select v1160 v1161 v1155
  ![v1162.toNat]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_751 : BitVec 32 := 32#32
  let v1164 : BitVec 32 := Scalar.muli v2 c32_i32_751
  let c0_i32_754 : BitVec 32 := 0#32
  ![v1164.toNat, 0]
def k0_dev32 (d0 : Dev nD) : Nat :=
  let c0_i32_753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_742 : BitVec 32 := 1#32
  let v1151 : BitVec 32 := Scalar.addi v2 c1_i32_742
  let c0_i32_743 : BitVec 32 := 0#32
  let v1152 : BitVec 32 := Scalar.addi v1151 c0_i32_743
  let c16_i32_744 : BitVec 32 := 16#32
  let c0_i32_745 : BitVec 32 := 0#32
  let v1153 : BitVec 1 := Scalar.cmpi .eq c16_i32_744 c0_i32_745
  let c1_i32_746 : BitVec 32 := 1#32
  let v1154 : BitVec 32 := Scalar.select v1153 c1_i32_746 c16_i32_744
  let v1155 : BitVec 32 := Scalar.remsi v1152 v1154
  let c0_i32_748 : BitVec 32 := 0#32
  let v1157 : BitVec 1 := Scalar.cmpi .slt v1155 c0_i32_748
  let c0_i32_749 : BitVec 32 := 0#32
  let v1158 : BitVec 1 := Scalar.cmpi .slt v1154 c0_i32_749
  let v1159 : BitVec 1 := Scalar.xori v1157 v1158
  let c0_i32_747 : BitVec 32 := 0#32
  let v1156 : BitVec 1 := Scalar.cmpi .ne v1155 c0_i32_747
  let v1160 : BitVec 1 := Scalar.andi v1159 v1156
  let v1161 : BitVec 32 := Scalar.addi v1155 v1154
  let v1162 : BitVec 32 := Scalar.select v1160 v1161 v1155
  let c1_i32_752 : BitVec 32 := 1#32
  let v1165 : BitVec 32 := Scalar.muli v1162 c1_i32_752
  let v1166 : BitVec 32 := Scalar.addi c0_i32_753 v1165
  v1166.toNat
def k0_dev33 (d0 : Dev nD) : Nat :=
  let c0_i32_767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_756 : BitVec 32 := 1#32
  let v1173 : BitVec 32 := Scalar.addi v2 c1_i32_756
  let c1_i32_757 : BitVec 32 := 1#32
  let v1174 : BitVec 32 := Scalar.addi v1173 c1_i32_757
  let c16_i32_758 : BitVec 32 := 16#32
  let c0_i32_759 : BitVec 32 := 0#32
  let v1175 : BitVec 1 := Scalar.cmpi .eq c16_i32_758 c0_i32_759
  let c1_i32_760 : BitVec 32 := 1#32
  let v1176 : BitVec 32 := Scalar.select v1175 c1_i32_760 c16_i32_758
  let v1177 : BitVec 32 := Scalar.remsi v1174 v1176
  let c0_i32_762 : BitVec 32 := 0#32
  let v1179 : BitVec 1 := Scalar.cmpi .slt v1177 c0_i32_762
  let c0_i32_763 : BitVec 32 := 0#32
  let v1180 : BitVec 1 := Scalar.cmpi .slt v1176 c0_i32_763
  let v1181 : BitVec 1 := Scalar.xori v1179 v1180
  let c0_i32_761 : BitVec 32 := 0#32
  let v1178 : BitVec 1 := Scalar.cmpi .ne v1177 c0_i32_761
  let v1182 : BitVec 1 := Scalar.andi v1181 v1178
  let v1183 : BitVec 32 := Scalar.addi v1177 v1176
  let v1184 : BitVec 32 := Scalar.select v1182 v1183 v1177
  let c1_i32_766 : BitVec 32 := 1#32
  let v1187 : BitVec 32 := Scalar.muli v1184 c1_i32_766
  let v1188 : BitVec 32 := Scalar.addi c0_i32_767 v1187
  v1188.toNat
def k0_dev34 (d0 : Dev nD) : Nat :=
  let c0_i32_781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_770 : BitVec 32 := 1#32
  let v1195 : BitVec 32 := Scalar.addi v2 c1_i32_770
  let c2_i32_771 : BitVec 32 := 2#32
  let v1196 : BitVec 32 := Scalar.addi v1195 c2_i32_771
  let c16_i32_772 : BitVec 32 := 16#32
  let c0_i32_773 : BitVec 32 := 0#32
  let v1197 : BitVec 1 := Scalar.cmpi .eq c16_i32_772 c0_i32_773
  let c1_i32_774 : BitVec 32 := 1#32
  let v1198 : BitVec 32 := Scalar.select v1197 c1_i32_774 c16_i32_772
  let v1199 : BitVec 32 := Scalar.remsi v1196 v1198
  let c0_i32_776 : BitVec 32 := 0#32
  let v1201 : BitVec 1 := Scalar.cmpi .slt v1199 c0_i32_776
  let c0_i32_777 : BitVec 32 := 0#32
  let v1202 : BitVec 1 := Scalar.cmpi .slt v1198 c0_i32_777
  let v1203 : BitVec 1 := Scalar.xori v1201 v1202
  let c0_i32_775 : BitVec 32 := 0#32
  let v1200 : BitVec 1 := Scalar.cmpi .ne v1199 c0_i32_775
  let v1204 : BitVec 1 := Scalar.andi v1203 v1200
  let v1205 : BitVec 32 := Scalar.addi v1199 v1198
  let v1206 : BitVec 32 := Scalar.select v1204 v1205 v1199
  let c1_i32_780 : BitVec 32 := 1#32
  let v1209 : BitVec 32 := Scalar.muli v1206 c1_i32_780
  let v1210 : BitVec 32 := Scalar.addi c0_i32_781 v1209
  v1210.toNat
def k0_dev35 (d0 : Dev nD) : Nat :=
  let c0_i32_795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_784 : BitVec 32 := 1#32
  let v1217 : BitVec 32 := Scalar.addi v2 c1_i32_784
  let c3_i32_785 : BitVec 32 := 3#32
  let v1218 : BitVec 32 := Scalar.addi v1217 c3_i32_785
  let c16_i32_786 : BitVec 32 := 16#32
  let c0_i32_787 : BitVec 32 := 0#32
  let v1219 : BitVec 1 := Scalar.cmpi .eq c16_i32_786 c0_i32_787
  let c1_i32_788 : BitVec 32 := 1#32
  let v1220 : BitVec 32 := Scalar.select v1219 c1_i32_788 c16_i32_786
  let v1221 : BitVec 32 := Scalar.remsi v1218 v1220
  let c0_i32_790 : BitVec 32 := 0#32
  let v1223 : BitVec 1 := Scalar.cmpi .slt v1221 c0_i32_790
  let c0_i32_791 : BitVec 32 := 0#32
  let v1224 : BitVec 1 := Scalar.cmpi .slt v1220 c0_i32_791
  let v1225 : BitVec 1 := Scalar.xori v1223 v1224
  let c0_i32_789 : BitVec 32 := 0#32
  let v1222 : BitVec 1 := Scalar.cmpi .ne v1221 c0_i32_789
  let v1226 : BitVec 1 := Scalar.andi v1225 v1222
  let v1227 : BitVec 32 := Scalar.addi v1221 v1220
  let v1228 : BitVec 32 := Scalar.select v1226 v1227 v1221
  let c1_i32_794 : BitVec 32 := 1#32
  let v1231 : BitVec 32 := Scalar.muli v1228 c1_i32_794
  let v1232 : BitVec 32 := Scalar.addi c0_i32_795 v1231
  v1232.toNat
def k0_dev36 (d0 : Dev nD) : Nat :=
  let c0_i32_809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_798 : BitVec 32 := 1#32
  let v1239 : BitVec 32 := Scalar.addi v2 c1_i32_798
  let c4_i32_799 : BitVec 32 := 4#32
  let v1240 : BitVec 32 := Scalar.addi v1239 c4_i32_799
  let c16_i32_800 : BitVec 32 := 16#32
  let c0_i32_801 : BitVec 32 := 0#32
  let v1241 : BitVec 1 := Scalar.cmpi .eq c16_i32_800 c0_i32_801
  let c1_i32_802 : BitVec 32 := 1#32
  let v1242 : BitVec 32 := Scalar.select v1241 c1_i32_802 c16_i32_800
  let v1243 : BitVec 32 := Scalar.remsi v1240 v1242
  let c0_i32_804 : BitVec 32 := 0#32
  let v1245 : BitVec 1 := Scalar.cmpi .slt v1243 c0_i32_804
  let c0_i32_805 : BitVec 32 := 0#32
  let v1246 : BitVec 1 := Scalar.cmpi .slt v1242 c0_i32_805
  let v1247 : BitVec 1 := Scalar.xori v1245 v1246
  let c0_i32_803 : BitVec 32 := 0#32
  let v1244 : BitVec 1 := Scalar.cmpi .ne v1243 c0_i32_803
  let v1248 : BitVec 1 := Scalar.andi v1247 v1244
  let v1249 : BitVec 32 := Scalar.addi v1243 v1242
  let v1250 : BitVec 32 := Scalar.select v1248 v1249 v1243
  let c1_i32_808 : BitVec 32 := 1#32
  let v1253 : BitVec 32 := Scalar.muli v1250 c1_i32_808
  let v1254 : BitVec 32 := Scalar.addi c0_i32_809 v1253
  v1254.toNat
def k0_dev37 (d0 : Dev nD) : Nat :=
  let c0_i32_823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_812 : BitVec 32 := 1#32
  let v1261 : BitVec 32 := Scalar.addi v2 c1_i32_812
  let c5_i32_813 : BitVec 32 := 5#32
  let v1262 : BitVec 32 := Scalar.addi v1261 c5_i32_813
  let c16_i32_814 : BitVec 32 := 16#32
  let c0_i32_815 : BitVec 32 := 0#32
  let v1263 : BitVec 1 := Scalar.cmpi .eq c16_i32_814 c0_i32_815
  let c1_i32_816 : BitVec 32 := 1#32
  let v1264 : BitVec 32 := Scalar.select v1263 c1_i32_816 c16_i32_814
  let v1265 : BitVec 32 := Scalar.remsi v1262 v1264
  let c0_i32_818 : BitVec 32 := 0#32
  let v1267 : BitVec 1 := Scalar.cmpi .slt v1265 c0_i32_818
  let c0_i32_819 : BitVec 32 := 0#32
  let v1268 : BitVec 1 := Scalar.cmpi .slt v1264 c0_i32_819
  let v1269 : BitVec 1 := Scalar.xori v1267 v1268
  let c0_i32_817 : BitVec 32 := 0#32
  let v1266 : BitVec 1 := Scalar.cmpi .ne v1265 c0_i32_817
  let v1270 : BitVec 1 := Scalar.andi v1269 v1266
  let v1271 : BitVec 32 := Scalar.addi v1265 v1264
  let v1272 : BitVec 32 := Scalar.select v1270 v1271 v1265
  let c1_i32_822 : BitVec 32 := 1#32
  let v1275 : BitVec 32 := Scalar.muli v1272 c1_i32_822
  let v1276 : BitVec 32 := Scalar.addi c0_i32_823 v1275
  v1276.toNat
def k0_dev38 (d0 : Dev nD) : Nat :=
  let c0_i32_837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_826 : BitVec 32 := 1#32
  let v1283 : BitVec 32 := Scalar.addi v2 c1_i32_826
  let c6_i32_827 : BitVec 32 := 6#32
  let v1284 : BitVec 32 := Scalar.addi v1283 c6_i32_827
  let c16_i32_828 : BitVec 32 := 16#32
  let c0_i32_829 : BitVec 32 := 0#32
  let v1285 : BitVec 1 := Scalar.cmpi .eq c16_i32_828 c0_i32_829
  let c1_i32_830 : BitVec 32 := 1#32
  let v1286 : BitVec 32 := Scalar.select v1285 c1_i32_830 c16_i32_828
  let v1287 : BitVec 32 := Scalar.remsi v1284 v1286
  let c0_i32_832 : BitVec 32 := 0#32
  let v1289 : BitVec 1 := Scalar.cmpi .slt v1287 c0_i32_832
  let c0_i32_833 : BitVec 32 := 0#32
  let v1290 : BitVec 1 := Scalar.cmpi .slt v1286 c0_i32_833
  let v1291 : BitVec 1 := Scalar.xori v1289 v1290
  let c0_i32_831 : BitVec 32 := 0#32
  let v1288 : BitVec 1 := Scalar.cmpi .ne v1287 c0_i32_831
  let v1292 : BitVec 1 := Scalar.andi v1291 v1288
  let v1293 : BitVec 32 := Scalar.addi v1287 v1286
  let v1294 : BitVec 32 := Scalar.select v1292 v1293 v1287
  let c1_i32_836 : BitVec 32 := 1#32
  let v1297 : BitVec 32 := Scalar.muli v1294 c1_i32_836
  let v1298 : BitVec 32 := Scalar.addi c0_i32_837 v1297
  v1298.toNat
def k0_dev39 (d0 : Dev nD) : Nat :=
  let c0_i32_851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_840 : BitVec 32 := 1#32
  let v1305 : BitVec 32 := Scalar.addi v2 c1_i32_840
  let c7_i32_841 : BitVec 32 := 7#32
  let v1306 : BitVec 32 := Scalar.addi v1305 c7_i32_841
  let c16_i32_842 : BitVec 32 := 16#32
  let c0_i32_843 : BitVec 32 := 0#32
  let v1307 : BitVec 1 := Scalar.cmpi .eq c16_i32_842 c0_i32_843
  let c1_i32_844 : BitVec 32 := 1#32
  let v1308 : BitVec 32 := Scalar.select v1307 c1_i32_844 c16_i32_842
  let v1309 : BitVec 32 := Scalar.remsi v1306 v1308
  let c0_i32_846 : BitVec 32 := 0#32
  let v1311 : BitVec 1 := Scalar.cmpi .slt v1309 c0_i32_846
  let c0_i32_847 : BitVec 32 := 0#32
  let v1312 : BitVec 1 := Scalar.cmpi .slt v1308 c0_i32_847
  let v1313 : BitVec 1 := Scalar.xori v1311 v1312
  let c0_i32_845 : BitVec 32 := 0#32
  let v1310 : BitVec 1 := Scalar.cmpi .ne v1309 c0_i32_845
  let v1314 : BitVec 1 := Scalar.andi v1313 v1310
  let v1315 : BitVec 32 := Scalar.addi v1309 v1308
  let v1316 : BitVec 32 := Scalar.select v1314 v1315 v1309
  let c1_i32_850 : BitVec 32 := 1#32
  let v1319 : BitVec 32 := Scalar.muli v1316 c1_i32_850
  let v1320 : BitVec 32 := Scalar.addi c0_i32_851 v1319
  v1320.toNat
def k0_dev40 (d0 : Dev nD) : Nat :=
  let c0_i32_865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_854 : BitVec 32 := 1#32
  let v1327 : BitVec 32 := Scalar.addi v2 c1_i32_854
  let c8_i32_855 : BitVec 32 := 8#32
  let v1328 : BitVec 32 := Scalar.addi v1327 c8_i32_855
  let c16_i32_856 : BitVec 32 := 16#32
  let c0_i32_857 : BitVec 32 := 0#32
  let v1329 : BitVec 1 := Scalar.cmpi .eq c16_i32_856 c0_i32_857
  let c1_i32_858 : BitVec 32 := 1#32
  let v1330 : BitVec 32 := Scalar.select v1329 c1_i32_858 c16_i32_856
  let v1331 : BitVec 32 := Scalar.remsi v1328 v1330
  let c0_i32_860 : BitVec 32 := 0#32
  let v1333 : BitVec 1 := Scalar.cmpi .slt v1331 c0_i32_860
  let c0_i32_861 : BitVec 32 := 0#32
  let v1334 : BitVec 1 := Scalar.cmpi .slt v1330 c0_i32_861
  let v1335 : BitVec 1 := Scalar.xori v1333 v1334
  let c0_i32_859 : BitVec 32 := 0#32
  let v1332 : BitVec 1 := Scalar.cmpi .ne v1331 c0_i32_859
  let v1336 : BitVec 1 := Scalar.andi v1335 v1332
  let v1337 : BitVec 32 := Scalar.addi v1331 v1330
  let v1338 : BitVec 32 := Scalar.select v1336 v1337 v1331
  let c1_i32_864 : BitVec 32 := 1#32
  let v1341 : BitVec 32 := Scalar.muli v1338 c1_i32_864
  let v1342 : BitVec 32 := Scalar.addi c0_i32_865 v1341
  v1342.toNat
def k0_dev41 (d0 : Dev nD) : Nat :=
  let c0_i32_879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_868 : BitVec 32 := 1#32
  let v1349 : BitVec 32 := Scalar.addi v2 c1_i32_868
  let c9_i32_869 : BitVec 32 := 9#32
  let v1350 : BitVec 32 := Scalar.addi v1349 c9_i32_869
  let c16_i32_870 : BitVec 32 := 16#32
  let c0_i32_871 : BitVec 32 := 0#32
  let v1351 : BitVec 1 := Scalar.cmpi .eq c16_i32_870 c0_i32_871
  let c1_i32_872 : BitVec 32 := 1#32
  let v1352 : BitVec 32 := Scalar.select v1351 c1_i32_872 c16_i32_870
  let v1353 : BitVec 32 := Scalar.remsi v1350 v1352
  let c0_i32_874 : BitVec 32 := 0#32
  let v1355 : BitVec 1 := Scalar.cmpi .slt v1353 c0_i32_874
  let c0_i32_875 : BitVec 32 := 0#32
  let v1356 : BitVec 1 := Scalar.cmpi .slt v1352 c0_i32_875
  let v1357 : BitVec 1 := Scalar.xori v1355 v1356
  let c0_i32_873 : BitVec 32 := 0#32
  let v1354 : BitVec 1 := Scalar.cmpi .ne v1353 c0_i32_873
  let v1358 : BitVec 1 := Scalar.andi v1357 v1354
  let v1359 : BitVec 32 := Scalar.addi v1353 v1352
  let v1360 : BitVec 32 := Scalar.select v1358 v1359 v1353
  let c1_i32_878 : BitVec 32 := 1#32
  let v1363 : BitVec 32 := Scalar.muli v1360 c1_i32_878
  let v1364 : BitVec 32 := Scalar.addi c0_i32_879 v1363
  v1364.toNat
def k0_dev42 (d0 : Dev nD) : Nat :=
  let c0_i32_893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_882 : BitVec 32 := 1#32
  let v1371 : BitVec 32 := Scalar.addi v2 c1_i32_882
  let c10_i32_883 : BitVec 32 := 10#32
  let v1372 : BitVec 32 := Scalar.addi v1371 c10_i32_883
  let c16_i32_884 : BitVec 32 := 16#32
  let c0_i32_885 : BitVec 32 := 0#32
  let v1373 : BitVec 1 := Scalar.cmpi .eq c16_i32_884 c0_i32_885
  let c1_i32_886 : BitVec 32 := 1#32
  let v1374 : BitVec 32 := Scalar.select v1373 c1_i32_886 c16_i32_884
  let v1375 : BitVec 32 := Scalar.remsi v1372 v1374
  let c0_i32_888 : BitVec 32 := 0#32
  let v1377 : BitVec 1 := Scalar.cmpi .slt v1375 c0_i32_888
  let c0_i32_889 : BitVec 32 := 0#32
  let v1378 : BitVec 1 := Scalar.cmpi .slt v1374 c0_i32_889
  let v1379 : BitVec 1 := Scalar.xori v1377 v1378
  let c0_i32_887 : BitVec 32 := 0#32
  let v1376 : BitVec 1 := Scalar.cmpi .ne v1375 c0_i32_887
  let v1380 : BitVec 1 := Scalar.andi v1379 v1376
  let v1381 : BitVec 32 := Scalar.addi v1375 v1374
  let v1382 : BitVec 32 := Scalar.select v1380 v1381 v1375
  let c1_i32_892 : BitVec 32 := 1#32
  let v1385 : BitVec 32 := Scalar.muli v1382 c1_i32_892
  let v1386 : BitVec 32 := Scalar.addi c0_i32_893 v1385
  v1386.toNat
def k0_dev43 (d0 : Dev nD) : Nat :=
  let c0_i32_907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_896 : BitVec 32 := 1#32
  let v1393 : BitVec 32 := Scalar.addi v2 c1_i32_896
  let c11_i32_897 : BitVec 32 := 11#32
  let v1394 : BitVec 32 := Scalar.addi v1393 c11_i32_897
  let c16_i32_898 : BitVec 32 := 16#32
  let c0_i32_899 : BitVec 32 := 0#32
  let v1395 : BitVec 1 := Scalar.cmpi .eq c16_i32_898 c0_i32_899
  let c1_i32_900 : BitVec 32 := 1#32
  let v1396 : BitVec 32 := Scalar.select v1395 c1_i32_900 c16_i32_898
  let v1397 : BitVec 32 := Scalar.remsi v1394 v1396
  let c0_i32_902 : BitVec 32 := 0#32
  let v1399 : BitVec 1 := Scalar.cmpi .slt v1397 c0_i32_902
  let c0_i32_903 : BitVec 32 := 0#32
  let v1400 : BitVec 1 := Scalar.cmpi .slt v1396 c0_i32_903
  let v1401 : BitVec 1 := Scalar.xori v1399 v1400
  let c0_i32_901 : BitVec 32 := 0#32
  let v1398 : BitVec 1 := Scalar.cmpi .ne v1397 c0_i32_901
  let v1402 : BitVec 1 := Scalar.andi v1401 v1398
  let v1403 : BitVec 32 := Scalar.addi v1397 v1396
  let v1404 : BitVec 32 := Scalar.select v1402 v1403 v1397
  let c1_i32_906 : BitVec 32 := 1#32
  let v1407 : BitVec 32 := Scalar.muli v1404 c1_i32_906
  let v1408 : BitVec 32 := Scalar.addi c0_i32_907 v1407
  v1408.toNat
def k0_dev44 (d0 : Dev nD) : Nat :=
  let c0_i32_921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_910 : BitVec 32 := 1#32
  let v1415 : BitVec 32 := Scalar.addi v2 c1_i32_910
  let c12_i32_911 : BitVec 32 := 12#32
  let v1416 : BitVec 32 := Scalar.addi v1415 c12_i32_911
  let c16_i32_912 : BitVec 32 := 16#32
  let c0_i32_913 : BitVec 32 := 0#32
  let v1417 : BitVec 1 := Scalar.cmpi .eq c16_i32_912 c0_i32_913
  let c1_i32_914 : BitVec 32 := 1#32
  let v1418 : BitVec 32 := Scalar.select v1417 c1_i32_914 c16_i32_912
  let v1419 : BitVec 32 := Scalar.remsi v1416 v1418
  let c0_i32_916 : BitVec 32 := 0#32
  let v1421 : BitVec 1 := Scalar.cmpi .slt v1419 c0_i32_916
  let c0_i32_917 : BitVec 32 := 0#32
  let v1422 : BitVec 1 := Scalar.cmpi .slt v1418 c0_i32_917
  let v1423 : BitVec 1 := Scalar.xori v1421 v1422
  let c0_i32_915 : BitVec 32 := 0#32
  let v1420 : BitVec 1 := Scalar.cmpi .ne v1419 c0_i32_915
  let v1424 : BitVec 1 := Scalar.andi v1423 v1420
  let v1425 : BitVec 32 := Scalar.addi v1419 v1418
  let v1426 : BitVec 32 := Scalar.select v1424 v1425 v1419
  let c1_i32_920 : BitVec 32 := 1#32
  let v1429 : BitVec 32 := Scalar.muli v1426 c1_i32_920
  let v1430 : BitVec 32 := Scalar.addi c0_i32_921 v1429
  v1430.toNat
def k0_dev45 (d0 : Dev nD) : Nat :=
  let c0_i32_935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_924 : BitVec 32 := 1#32
  let v1437 : BitVec 32 := Scalar.addi v2 c1_i32_924
  let c13_i32_925 : BitVec 32 := 13#32
  let v1438 : BitVec 32 := Scalar.addi v1437 c13_i32_925
  let c16_i32_926 : BitVec 32 := 16#32
  let c0_i32_927 : BitVec 32 := 0#32
  let v1439 : BitVec 1 := Scalar.cmpi .eq c16_i32_926 c0_i32_927
  let c1_i32_928 : BitVec 32 := 1#32
  let v1440 : BitVec 32 := Scalar.select v1439 c1_i32_928 c16_i32_926
  let v1441 : BitVec 32 := Scalar.remsi v1438 v1440
  let c0_i32_930 : BitVec 32 := 0#32
  let v1443 : BitVec 1 := Scalar.cmpi .slt v1441 c0_i32_930
  let c0_i32_931 : BitVec 32 := 0#32
  let v1444 : BitVec 1 := Scalar.cmpi .slt v1440 c0_i32_931
  let v1445 : BitVec 1 := Scalar.xori v1443 v1444
  let c0_i32_929 : BitVec 32 := 0#32
  let v1442 : BitVec 1 := Scalar.cmpi .ne v1441 c0_i32_929
  let v1446 : BitVec 1 := Scalar.andi v1445 v1442
  let v1447 : BitVec 32 := Scalar.addi v1441 v1440
  let v1448 : BitVec 32 := Scalar.select v1446 v1447 v1441
  let c1_i32_934 : BitVec 32 := 1#32
  let v1451 : BitVec 32 := Scalar.muli v1448 c1_i32_934
  let v1452 : BitVec 32 := Scalar.addi c0_i32_935 v1451
  v1452.toNat
def k0_dev46 (d0 : Dev nD) : Nat :=
  let c0_i32_949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_938 : BitVec 32 := 1#32
  let v1459 : BitVec 32 := Scalar.addi v2 c1_i32_938
  let c14_i32_939 : BitVec 32 := 14#32
  let v1460 : BitVec 32 := Scalar.addi v1459 c14_i32_939
  let c16_i32_940 : BitVec 32 := 16#32
  let c0_i32_941 : BitVec 32 := 0#32
  let v1461 : BitVec 1 := Scalar.cmpi .eq c16_i32_940 c0_i32_941
  let c1_i32_942 : BitVec 32 := 1#32
  let v1462 : BitVec 32 := Scalar.select v1461 c1_i32_942 c16_i32_940
  let v1463 : BitVec 32 := Scalar.remsi v1460 v1462
  let c0_i32_944 : BitVec 32 := 0#32
  let v1465 : BitVec 1 := Scalar.cmpi .slt v1463 c0_i32_944
  let c0_i32_945 : BitVec 32 := 0#32
  let v1466 : BitVec 1 := Scalar.cmpi .slt v1462 c0_i32_945
  let v1467 : BitVec 1 := Scalar.xori v1465 v1466
  let c0_i32_943 : BitVec 32 := 0#32
  let v1464 : BitVec 1 := Scalar.cmpi .ne v1463 c0_i32_943
  let v1468 : BitVec 1 := Scalar.andi v1467 v1464
  let v1469 : BitVec 32 := Scalar.addi v1463 v1462
  let v1470 : BitVec 32 := Scalar.select v1468 v1469 v1463
  let c1_i32_948 : BitVec 32 := 1#32
  let v1473 : BitVec 32 := Scalar.muli v1470 c1_i32_948
  let v1474 : BitVec 32 := Scalar.addi c0_i32_949 v1473
  v1474.toNat
def k0_dev47 (d0 : Dev nD) : Nat :=
  let c0_i32_963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_952 : BitVec 32 := 1#32
  let v1481 : BitVec 32 := Scalar.addi v2 c1_i32_952
  let c15_i32_953 : BitVec 32 := 15#32
  let v1482 : BitVec 32 := Scalar.addi v1481 c15_i32_953
  let c16_i32_954 : BitVec 32 := 16#32
  let c0_i32_955 : BitVec 32 := 0#32
  let v1483 : BitVec 1 := Scalar.cmpi .eq c16_i32_954 c0_i32_955
  let c1_i32_956 : BitVec 32 := 1#32
  let v1484 : BitVec 32 := Scalar.select v1483 c1_i32_956 c16_i32_954
  let v1485 : BitVec 32 := Scalar.remsi v1482 v1484
  let c0_i32_958 : BitVec 32 := 0#32
  let v1487 : BitVec 1 := Scalar.cmpi .slt v1485 c0_i32_958
  let c0_i32_959 : BitVec 32 := 0#32
  let v1488 : BitVec 1 := Scalar.cmpi .slt v1484 c0_i32_959
  let v1489 : BitVec 1 := Scalar.xori v1487 v1488
  let c0_i32_957 : BitVec 32 := 0#32
  let v1486 : BitVec 1 := Scalar.cmpi .ne v1485 c0_i32_957
  let v1490 : BitVec 1 := Scalar.andi v1489 v1486
  let v1491 : BitVec 32 := Scalar.addi v1485 v1484
  let v1492 : BitVec 32 := Scalar.select v1490 v1491 v1485
  let c1_i32_962 : BitVec 32 := 1#32
  let v1495 : BitVec 32 := Scalar.muli v1492 c1_i32_962
  let v1496 : BitVec 32 := Scalar.addi c0_i32_963 v1495
  v1496.toNat
def k0_off11 (d0 : Dev nD) (c0_i32_966 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1503 : BitVec 32 := Scalar.addi v2 c0_i32_966
  let c16_i32_967 : BitVec 32 := 16#32
  let c0_i32_968 : BitVec 32 := 0#32
  let v1504 : BitVec 1 := Scalar.cmpi .eq c16_i32_967 c0_i32_968
  let c1_i32_969 : BitVec 32 := 1#32
  let v1505 : BitVec 32 := Scalar.select v1504 c1_i32_969 c16_i32_967
  let v1506 : BitVec 32 := Scalar.remsi v1503 v1505
  let c0_i32_971 : BitVec 32 := 0#32
  let v1508 : BitVec 1 := Scalar.cmpi .slt v1506 c0_i32_971
  let c0_i32_972 : BitVec 32 := 0#32
  let v1509 : BitVec 1 := Scalar.cmpi .slt v1505 c0_i32_972
  let v1510 : BitVec 1 := Scalar.xori v1508 v1509
  let c0_i32_970 : BitVec 32 := 0#32
  let v1507 : BitVec 1 := Scalar.cmpi .ne v1506 c0_i32_970
  let v1511 : BitVec 1 := Scalar.andi v1510 v1507
  let v1512 : BitVec 32 := Scalar.addi v1506 v1505
  let v1513 : BitVec 32 := Scalar.select v1511 v1512 v1506
  let c32_i32_974 : BitVec 32 := 32#32
  let v1515 : BitVec 32 := Scalar.muli v1513 c32_i32_974
  let c0_i32_977 : BitVec 32 := 0#32
  ![v1515.toNat, 0]
def k0_off12 (d0 : Dev nD) (c0_i32_966 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1503 : BitVec 32 := Scalar.addi v2 c0_i32_966
  let c16_i32_967 : BitVec 32 := 16#32
  let c0_i32_968 : BitVec 32 := 0#32
  let v1504 : BitVec 1 := Scalar.cmpi .eq c16_i32_967 c0_i32_968
  let c1_i32_969 : BitVec 32 := 1#32
  let v1505 : BitVec 32 := Scalar.select v1504 c1_i32_969 c16_i32_967
  let v1506 : BitVec 32 := Scalar.remsi v1503 v1505
  let c0_i32_971 : BitVec 32 := 0#32
  let v1508 : BitVec 1 := Scalar.cmpi .slt v1506 c0_i32_971
  let c0_i32_972 : BitVec 32 := 0#32
  let v1509 : BitVec 1 := Scalar.cmpi .slt v1505 c0_i32_972
  let v1510 : BitVec 1 := Scalar.xori v1508 v1509
  let c0_i32_970 : BitVec 32 := 0#32
  let v1507 : BitVec 1 := Scalar.cmpi .ne v1506 c0_i32_970
  let v1511 : BitVec 1 := Scalar.andi v1510 v1507
  let v1512 : BitVec 32 := Scalar.addi v1506 v1505
  let v1513 : BitVec 32 := Scalar.select v1511 v1512 v1506
  let c32_i32_979 : BitVec 32 := 32#32
  let v1522 : BitVec 32 := Scalar.muli v1513 c32_i32_979
  let v1523 : Index := Scalar.indexCast v1522
  let c0_980 : Index := 0#32
  ![v1523.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x256x512 : Shape := ⟨3, ![2, 256, 512]⟩
abbrev S512x4096 : Shape := ⟨2, ![512, 4096]⟩
abbrev S2x256x64x64 : Shape := ⟨4, ![2, 256, 64, 64]⟩
abbrev S4096x512 : Shape := ⟨2, ![4096, 512]⟩
abbrev S2x256x4096 : Shape := ⟨3, ![2, 256, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x64x256x256 : Shape := ⟨4, ![2, 64, 256, 256]⟩
abbrev S1x1x256x256 : Shape := ⟨4, ![1, 1, 256, 256]⟩
abbrev S2x64x256 : Shape := ⟨3, ![2, 64, 256]⟩
abbrev S2x64x256x1 : Shape := ⟨4, ![2, 64, 256, 1]⟩
abbrev S1x1x256x1 : Shape := ⟨4, ![1, 1, 256, 1]⟩
abbrev S2x64x64x256 : Shape := ⟨4, ![2, 64, 64, 256]⟩

abbrev nBuf : Space → Nat
  | .hbm => 67
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x4096, .f32⟩
  | .hbm, ⟨2, _⟩ => ⟨S2x256x64x64, .f32⟩
  | .hbm, ⟨3, _⟩ => ⟨S2x256x64x64, .f32⟩
  | .hbm, ⟨4, _⟩ => ⟨S4096x512, .f32⟩
  | .hbm, ⟨5, _⟩ => ⟨S2x256x4096, .f32⟩
  | .hbm, ⟨6, _⟩ => ⟨S2x256x64x64, .f32⟩
  | .hbm, ⟨7, _⟩ => ⟨S256, .i32⟩
  | .hbm, ⟨8, _⟩ => ⟨S256x1, .i32⟩
  | .hbm, ⟨9, _⟩ => ⟨S256, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S1x256, .i32⟩
  | .hbm, ⟨20, _⟩ => ⟨S1x256, .i1⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x256, .i1⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S2x64x256x256, .f32⟩
  | .hbm, ⟨29, _⟩ => ⟨S_, .f32⟩
  | .hbm, ⟨30, _⟩ => ⟨S2x64x256x256, .f32⟩
  | .hbm, ⟨31, _⟩ => ⟨S2x64x256x256, .f32⟩
  | .hbm, ⟨32, _⟩ => ⟨S1x1x256x256, .i1⟩
  | .hbm, ⟨33, _⟩ => ⟨S_, .f32⟩
  | .hbm, ⟨34, _⟩ => ⟨S_, .f32⟩
  | .hbm, ⟨35, _⟩ => ⟨S2x64x256x256, .i1⟩
  | .hbm, ⟨36, _⟩ => ⟨S2x64x256x256, .f32⟩
  | .hbm, ⟨37, _⟩ => ⟨S2x64x256x256, .f32⟩
  | .hbm, ⟨38, _⟩ => ⟨S_, .f32⟩
  | .hbm, ⟨39, _⟩ => ⟨S2x64x256, .f32⟩
  | .hbm, ⟨40, _⟩ => ⟨S2x64x256x1, .f32⟩
  | .hbm, ⟨41, _⟩ => ⟨S2x64x256x256, .f32⟩
  | .hbm, ⟨42, _⟩ => ⟨S2x64x256x256, .f32⟩
  | .hbm, ⟨43, _⟩ => ⟨S2x64x256x256, .f32⟩
  | .hbm, ⟨44, _⟩ => ⟨S_, .i1⟩
  | .hbm, ⟨45, _⟩ => ⟨S256, .i1⟩
  | .hbm, ⟨46, _⟩ => ⟨S1x1x256x1, .i1⟩
  | .hbm, ⟨47, _⟩ => ⟨S_, .f32⟩
  | .hbm, ⟨48, _⟩ => ⟨S2x64x256, .f32⟩
  | .hbm, ⟨49, _⟩ => ⟨S2x64x256x1, .f32⟩
  | .hbm, ⟨50, _⟩ => ⟨S_, .f32⟩
  | .hbm, ⟨51, _⟩ => ⟨S_, .f32⟩
  | .hbm, ⟨52, _⟩ => ⟨S2x64x256x1, .i1⟩
  | .hbm, ⟨53, _⟩ => ⟨S2x64x256x1, .f32⟩
  | .hbm, ⟨54, _⟩ => ⟨S2x64x256x1, .f32⟩
  | .hbm, ⟨55, _⟩ => ⟨S2x64x256x256, .f32⟩
  | .hbm, ⟨56, _⟩ => ⟨S2x64x256x256, .f32⟩
  | .hbm, ⟨57, _⟩ => ⟨S1x1x256x1, .i1⟩
  | .hbm, ⟨58, _⟩ => ⟨S_, .f32⟩
  | .hbm, ⟨59, _⟩ => ⟨S_, .f32⟩
  | .hbm, ⟨60, _⟩ => ⟨S2x64x256x256, .i1⟩
  | .hbm, ⟨61, _⟩ => ⟨S2x64x256x256, .f32⟩
  | .hbm, ⟨62, _⟩ => ⟨S2x64x256x256, .f32⟩
  | .hbm, ⟨63, _⟩ => ⟨S2x64x64x256, .f32⟩
  | .hbm, ⟨64, _⟩ => ⟨S2x256x64x64, .f32⟩
  | .hbm, ⟨65, _⟩ => ⟨S2x256x4096, .f32⟩
  | .hbm, ⟨66, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.NormalForm.lean ====
/- The kernel's body as a few stages, each a fold over the list of its steps. -/
module

public import proofs.«01_k».proof.Proof.Gen.KernelIdeal.Skeleton

@[expose] public section

set_option maxRecDepth 16384

noncomputable section

namespace Cert.KernelIdeal.Stage

open Idealize.ShloMosaic Idealize.SL.Sem
open Cert.KernelIdeal Cert.KernelIdeal.Gen

variable {F : FTy → Type} [FloatOps F] [Named F]

/-! ## Offsets of the rows of batch `b` and the columns of head `h` -/

theorem inbK (b : Fin 2) (h : Fin 4) : ∀ a, (![b.val, h.val, 0, 0] : Fin 4 → Nat) a + S1x1x64x256.size a ≤ S2x4x64x256.size a := by
  revert b h; decide
theorem inbC (b : Fin 2) (h : Fin 4) : ∀ a, (![256 * b.val, 64 * h.val] : Fin 2 → Nat) a + S256x64.size a ≤ S512x256.size a := by
  revert b h; decide
theorem inbR (b : Fin 2) : ∀ a, (![256 * b.val, 0] : Fin 2 → Nat) a + S256x256.size a ≤ S512x256.size a := by
  revert b; decide
theorem inbP (b : Fin 2) : ∀ a, (![256 * b.val, 0] : Fin 2 → Nat) a + S256x512.size a ≤ S512x512.size a := by
  revert b; decide
theorem slicesQ (b : Fin 2) (h : Fin 4) : S512x256.Slices ![256 * b.val, 64 * h.val] S256x64 := by
  revert b h; decide
theorem packedP (b : Fin 2) : (Rect.unit (s := S512x512) ![256 * b.val, 0] S256x512.size (inbP b)).PackedRows (EltTy.packing .bf16) := by
  match b with
  | 0 => exact packedbf16_S512x512_S256x512_0_0
  | 1 => exact packedbf16_S512x512_S256x512_256_0

/-! ## The parts of the scratch buffers the copies name -/

/-- Row chunk at offset `o` of a 512×512 buffer. -/
abbrev chunk {ty : EltTy} (m : Memref sig .tc .vmem S512x512 ty) (o : Fin 2 → Nat) (h : ∀ a, o a + S32x512.size a ≤ S512x512.size a) :
    Memref sig .tc .vmem S32x512 ty :=
  m.slice (Rect.unit (s := S512x512) o S32x512.size h) (fun _ => rfl)

/-- Slot at offset `o` of the receive buffer. -/
abbrev slot (m : Memref sig .tc .vmem S16x32x512 .bf16) (o : Fin 3 → Nat) (h : ∀ a, o a + S1x32x512.size a ≤ S16x32x512.size a) :
    Memref sig .tc .vmem S32x512 .bf16 :=
  (m.slice (Rect.unit (s := S16x32x512) o S1x32x512.size h) (fun _ => rfl)).squeeze S32x512 squeezes_S1x32x512_S32x512

/-- Semaphore at offset `o` of an array of sixteen. -/
abbrev semAt (a : DmaSems sig S16) (o : Fin 1 → Nat) (h : ∀ a, o a + S1.size a ≤ S16.size a) : DmaSem sig :=
  ((a.slice (Rect.unit (s := S16) o S1.size h)).squeeze S_ squeezes_S1_S_).sem

/-- The barrier semaphore. -/
abbrev bar : Sem sig := (SemArray.scalar (sig.barrier 0 rfl) : Sems sig S_).sem

/-! ## Values -/

/-- The mask's bias: zero where a row may look, the named literal elsewhere. -/
def bias : FVec F S256x256 .f32 :=
  k0_pay4 (F := F) (iota .tc S256x256 32 [0] iota_S256x256_d0_w32) k0_pay2 k0_pay3

/-- One head's weights: `exp (q kᵀ + bias)`. -/
def headW (b : Fin 2) (h : Fin 4) (q : FVec F S512x256 .f32) (kt : Vec F S1x1x64x256 .f32) : FVec F S256x256 .f32 :=
  exp (addf (matmul dot_S256x64_S64x256_S256x256_1_0_0_1_n_n none (extractStridedSlice S256x64 ![256 * b.val, 64 * h.val] q (slicesQ b h))
    (shapeCast S64x256 kt shapeCasts_S1x1x64x256_S64x256 : FVec F S64x256 .f32) (constant S256x256 .f32 0x00000000#32)) (bias (F := F)))

/-- One head's context: the weights times the values, each row over its weights' sum. -/
def headCtx (w : FVec F S256x256 .f32) (v : Vec F S256x64 .f32) : FVec F S256x64 .f32 :=
  shapeCast S256x64 (mulf
    (matmul dot_S256x256_S256x64_S256x64_1_0_0_1_n_n none w (shapeCast S256x64 v shapeCasts_S256x64_S256x64 : FVec F S256x64 .f32) (constant S256x64 .f32 0x00000000#32))
    (broadcastTo S256x64 (divf (broadcast S256x1 (Scalar.ofBits .f32 0x3F800000#32 : F .f32) : FVec F S256x1 .f32)
      (shapeCast S256x1 (multiReduction .add [1] S256 w 0x00000000#32 reduces_S256x256_S256 (.inl rfl) rfl : FVec F S256 .f32) shapeCasts_S256_S256x1))
      broadcasts_S256x1_S256x64)) shapeCasts_S256x64_S256x64

/-- What head `h` of batch `b` stores. -/
def headOut (b : Fin 2) (h : Fin 4) (q : FVec F S512x256 .f32) (kt : Vec F S1x1x64x256 .f32) (v : Vec F S256x64 .f32) : FVec F S256x64 .f32 :=
  headCtx (headW b h q kt) v

/-- The running sum once the slots' loads in the list are added to it. -/
def accAdd (acc : FVec F S32x512 .f32) (v : Vec F S1x32x512 .bf16) : FVec F S32x512 .f32 :=
  addf acc (extf .f32 (shapeCast S32x512 v shapeCasts_S1x32x512_S32x512 : FVec F S32x512 .bf16) bitsLt_bf16_f32)

/-- What the reduced chunk is stored as. -/
def accOut (acc : FVec F S32x512 .f32) : FVec F S32x512 .bf16 :=
  shapeCast S32x512 (truncf .bf16 acc bitsLt_bf16_f32 : FVec F S32x512 .bf16) shapeCasts_S32x512_S32x512

/-! ## Stages -/

/-- The body's programs. -/
abbrev PB (F : FTy → Type) : Type 1 := Prog (TpuEff nD τ sig (Elt F) Λ₀ .tc) PUnit

def sigs : List (Dev nD) → PB F → PB F
  | [], k => k
  | t :: ts, k => .op (.semSignal (t, .tc) bar 1) fun _ => sigs ts k

section
variable (arg0 : Memref sig .tc .vmem S512x512 .f32) (arg1 : Memref sig .tc .vmem S512x256 .f32)
  (arg2 : Memref sig .tc .vmem S2x4x64x256 .f32) (arg3 : Memref sig .tc .vmem S512x256 .f32)
  (arg4 : Memref sig .tc .vmem S256x512 .f32) (arg5 : Memref sig .tc .vmem S512x512 .f32)
  (arg6 : Memref sig .tc .vmem S512x512 .bf16) (harg6 : arg6.IsWhole)
  (arg7 : Memref sig .tc .vmem S512x256 .f32) (arg8 : Memref sig .tc .vmem S16x32x512 .bf16) (harg8 : arg8.IsWhole)
  (arg9 : Memref sig .tc .vmem S512x512 .bf16) (harg9 : arg9.IsWhole)
  (arg10 arg11 arg12 arg13 : DmaSems sig S16)

/-- The queries: load `x` and the scaled `Wq`, multiply. -/
def queries (k : FVec F S512x256 .f32 → PB F) : PB F :=
  .op (.load arg0 (Rect.unit (s := S512x512) ![0, 0] S512x512.size inb_S512x512_S512x512_0_0).toLoadRect (View.loadsAt_vmem h_S512x512)) fun x =>
  .op (.load arg1 (Rect.unit (s := S512x256) ![0, 0] S512x256.size inb_S512x256_S512x256_0_0).toLoadRect (View.loadsAt_vmem h_S512x256)) fun w =>
  k (k0_pay1 (F := F) x w)

/-- The heads of batch `b` in the list. -/
def heads (b : Fin 2) (q : FVec F S512x256 .f32) : List (Fin 4) → PB F → PB F
  | [], k => k
  | h :: hs, k =>
    .op (.load arg2 (Rect.unit (s := S2x4x64x256) ![b.val, h.val, 0, 0] S1x1x64x256.size (inbK b h)).toLoadRect (View.loadsAt_vmem h_S1x1x64x256)) fun kt =>
    .op (.load arg3 (Rect.unit (s := S512x256) ![256 * b.val, 64 * h.val] S256x64.size (inbC b h)).toLoadRect (View.loadsAt_vmem h_S256x64)) fun v =>
    .op (.load arg7 (Rect.unit (s := S512x256) ![256 * b.val, 64 * h.val] S256x64.size (inbC b h)).toLoadRect (View.loadsAt_vmem h_S256x64)) fun _ =>
    .op (.store arg7 (Rect.unit (s := S512x256) ![256 * b.val, 64 * h.val] S256x64.size (inbC b h)) (headOut (F := F) b h q kt v) Finset.univ (View.stores_vmem_bits_univ h_S256x64 rfl) (.inl rfl)) fun _ =>
    heads b q hs k

/-- Batch `b`'s output projection, stored as sixteen-bit rows. -/
def proj (b : Fin 2) (k : PB F) : PB F :=
  .op (.load arg7 (Rect.unit (s := S512x256) ![256 * b.val, 0] S256x256.size (inbR b)).toLoadRect (View.loadsAt_vmem h_S256x256)) fun c =>
  .op (.load arg4 (Rect.unit (s := S256x512) ![0, 0] S256x512.size inb_S256x512_S256x512_0_0).toLoadRect (View.loadsAt_vmem h_S256x512)) fun w =>
  .op (.load arg6 (Rect.unit (s := S512x512) ![256 * b.val, 0] S256x512.size (inbP b)).toLoadRect (View.loadsAt_vmem h_S256x512)) fun _ =>
  .op (.store arg6 (Rect.unit (s := S512x512) ![256 * b.val, 0] S256x512.size (inbP b)) (k0_pay14 (F := F) c w) Finset.univ (View.stores_vmem h_S256x512 (harg6.storeExact_slice rfl _ (packedP b)) (fun _ => rfl)) (.inl rfl)) fun _ =>
  k

def barWait (k : PB F) : PB F := .op (.semWait bar 15) fun _ => k

/-- Chunks of the partial product to the devices that reduce them. -/
def sends1 (d : Dev nD) : List (Fin 2 × Fin 8 × Dev nD) → PB F → PB F
  | [], k => k
  | (b, j, t) :: l, k =>
    .op (.enqueueDma (chunk arg6 (k0_off4 d (BitVec.ofNat 32 (8 * b.val)) (BitVec.ofNat 32 j.val)) (k0_off4_inb d b j))
      (.remote (Dev.tc t) (slot arg8 (k0_off3 d) (k0_off3_inb d))
        (.dma (semAt arg10 (k0_off1 d (BitVec.ofNat 32 (8 * b.val)) (BitVec.ofNat 32 j.val)) (k0_off1_inb d b j))))
      (.dma (semAt arg11 (k0_off2 d) (k0_off2_inb d)))
      (harg6.wordExact_slice rfl _ (k0_off4_wordsbf16 d b j)) ((harg8.wordExact_slice rfl _ (k0_off3_wordsbf16 d)).reshape _ _)
      ⟨⟨rfl, Or.inl rfl⟩, trivial⟩) fun _ =>
    sends1 d l k

/-- Wait for slot after slot and read it. -/
def recv (d : Dev nD) (j : Fin 16) (k : Vec F S1x32x512 .bf16 → PB F) : PB F :=
  .op (.waitDma2 (semAt arg11 (k0_off5 d (BitVec.ofNat 32 j.val)) (k0_off5_inb d j))
    (slot arg8 (k0_off6 d (BitVec.ofNat 32 j.val)) (k0_off6_inb d j)) (slot arg8 (k0_off6 d (BitVec.ofNat 32 j.val)) (k0_off6_inb d j))
    ((harg8.wordExact_slice rfl _ (k0_off6_wordsbf16 d j)).reshape _ _) ((harg8.wordExact_slice rfl _ (k0_off6_wordsbf16 d j)).reshape _ _)) fun _ =>
  .op (.load arg8 (Rect.unit (s := S16x32x512) (k0_off7 d (BitVec.ofNat 32 j.val)) S1x32x512.size (k0_off7_inb d j)).toLoadRect (View.loadsAt_vmem h_S1x32x512)) fun v =>
  k v

def recvs (d : Dev nD) : List (Fin 16) → FVec F S32x512 .f32 → (FVec F S32x512 .f32 → PB F) → PB F
  | [], acc, k => k acc
  | j :: l, acc, k => recv arg8 harg8 arg11 d j fun v => recvs d l (accAdd acc v) k

/-- Store the reduced chunk over the device's own chunk of the partial product. -/
def own (d : Dev nD) (v : FVec F S32x512 .bf16) (k : PB F) : PB F :=
  .op (.load arg6 (Rect.unit (s := S512x512) (k0_off8 d) S32x512.size (k0_off8_inb d)).toLoadRect (View.loadsAt_vmem h_S32x512)) fun _ =>
  .op (.store arg6 (Rect.unit (s := S512x512) (k0_off8 d) S32x512.size (k0_off8_inb d)) v Finset.univ (View.stores_vmem h_S32x512 (harg6.storeExact_slice rfl _ (k0_off8_packedbf16 d)) (fun _ => rfl)) (.inl rfl)) fun _ =>
  k

/-- The reduced chunk to every device. -/
def sends2 (d : Dev nD) : List (Fin 16 × Dev nD) → PB F → PB F
  | [], k => k
  | (r, t) :: l, k =>
    .op (.enqueueDma (chunk arg6 (k0_off10 d) (k0_off10_inb d))
      (.remote (Dev.tc t) (chunk arg9 (k0_off10 d) (k0_off10_inb d))
        (.dma (semAt arg12 (k0_off9 d (BitVec.ofNat 32 r.val)) (k0_off9_inb d r))))
      (.dma (semAt arg13 (k0_off2 d) (k0_off2_inb d)))
      (harg6.wordExact_slice rfl _ (k0_off10_wordsbf16 d)) (harg9.wordExact_slice rfl _ (k0_off10_wordsbf16 d))
      ⟨⟨rfl, Or.inl rfl⟩, trivial⟩) fun _ =>
    sends2 d l k

/-- Wait for gathered chunk after gathered chunk and store it in the result. -/
def gathers (d : Dev nD) : List (Fin 16) → PB F → PB F
  | [], k => k
  | j :: l, k =>
    .op (.waitDma2 (semAt arg13 (k0_off5 d (BitVec.ofNat 32 j.val)) (k0_off5_inb d j))
      (chunk arg6 (k0_off11 d (BitVec.ofNat 32 j.val)) (k0_off11_inb d j)) (chunk arg9 (k0_off11 d (BitVec.ofNat 32 j.val)) (k0_off11_inb d j))
      (harg6.wordExact_slice rfl _ (k0_off11_wordsbf16 d j)) (harg9.wordExact_slice rfl _ (k0_off11_wordsbf16 d j))) fun _ =>
    .op (.load arg9 (Rect.unit (s := S512x512) (k0_off12 d (BitVec.ofNat 32 j.val)) S32x512.size (k0_off12_inb d j)).toLoadRect (View.loadsAt_vmem h_S32x512)) fun v =>
    .op (.load arg5 (Rect.unit (s := S512x512) (k0_off12 d (BitVec.ofNat 32 j.val)) S32x512.size (k0_off12_inb d j)).toLoadRect (View.loadsAt_vmem h_S32x512)) fun _ =>
    .op (.store arg5 (Rect.unit (s := S512x512) (k0_off12 d (BitVec.ofNat 32 j.val)) S32x512.size (k0_off12_inb d j)) (k0_pay38 (F := F) v) Finset.univ (View.stores_vmem_bits_univ h_S32x512 rfl) (.inl rfl)) fun _ =>
    gathers d l k

/-- Wait for the first copies' source ends. -/
def waits1 (d : Dev nD) : List (Fin 2 × Fin 8) → PB F → PB F
  | [], k => k
  | (b, j) :: l, k =>
    .op (.waitDma2 (semAt arg10 (k0_off1 d (BitVec.ofNat 32 (8 * b.val)) (BitVec.ofNat 32 j.val)) (k0_off1_inb d b j))
      (slot arg8 (k0_off3 d) (k0_off3_inb d))
      (chunk arg6 (k0_off4 d (BitVec.ofNat 32 (8 * b.val)) (BitVec.ofNat 32 j.val)) (k0_off4_inb d b j))
      ((harg8.wordExact_slice rfl _ (k0_off3_wordsbf16 d)).reshape _ _) (harg6.wordExact_slice rfl _ (k0_off4_wordsbf16 d b j))) fun _ =>
    waits1 d l k

/-- Wait for the second copies' source ends. -/
def waits2 (d : Dev nD) : List (Fin 16) → PB F → PB F
  | [], k => k
  | r :: l, k =>
    .op (.waitDma2 (semAt arg12 (k0_off9 d (BitVec.ofNat 32 r.val)) (k0_off9_inb d r))
      (chunk arg9 (k0_off10 d) (k0_off10_inb d)) (chunk arg6 (k0_off10 d) (k0_off10_inb d))
      (harg9.wordExact_slice rfl _ (k0_off10_wordsbf16 d)) (harg6.wordExact_slice rfl _ (k0_off10_wordsbf16 d))) fun _ =>
    waits2 d l k

/-- The order in which the slots are read, after slot zero's own. -/
def order : List (Fin 16) := [1, 15, 2, 14, 3, 13, 4, 12, 5, 11, 6, 10, 7, 9, 8]

/-- Whom a device signals, in order. -/
def listB (d : Dev nD) : List (Dev nD) :=
  [⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩, ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩, ⟨k0_dev13 d, k0_dev13_lt d⟩, ⟨k0_dev14 d, k0_dev14_lt d⟩, ⟨k0_dev15 d, k0_dev15_lt d⟩]

/-- Whom it sends chunks to, first half. -/
def list10 (d : Dev nD) : List (Fin 2 × Fin 8 × Dev nD) :=
  [(0, 0, ⟨k0_dev16 d, k0_dev16_lt d⟩), (0, 1, ⟨k0_dev17 d, k0_dev17_lt d⟩), (0, 2, ⟨k0_dev18 d, k0_dev18_lt d⟩), (0, 3, ⟨k0_dev19 d, k0_dev19_lt d⟩), (0, 4, ⟨k0_dev20 d, k0_dev20_lt d⟩), (0, 5, ⟨k0_dev21 d, k0_dev21_lt d⟩), (0, 6, ⟨k0_dev22 d, k0_dev22_lt d⟩), (0, 7, ⟨k0_dev23 d, k0_dev23_lt d⟩)]

/-- Whom it sends chunks to, second half. -/
def list11 (d : Dev nD) : List (Fin 2 × Fin 8 × Dev nD) :=
  [(1, 0, ⟨k0_dev24 d, k0_dev24_lt d⟩), (1, 1, ⟨k0_dev25 d, k0_dev25_lt d⟩), (1, 2, ⟨k0_dev26 d, k0_dev26_lt d⟩), (1, 3, ⟨k0_dev27 d, k0_dev27_lt d⟩), (1, 4, ⟨k0_dev28 d, k0_dev28_lt d⟩), (1, 5, ⟨k0_dev29 d, k0_dev29_lt d⟩), (1, 6, ⟨k0_dev30 d, k0_dev30_lt d⟩), (1, 7, ⟨k0_dev31 d, k0_dev31_lt d⟩)]

/-- Whom it sends the reduced chunk to. -/
def list2 (d : Dev nD) : List (Fin 16 × Dev nD) :=
  [(0, ⟨k0_dev32 d, k0_dev32_lt d⟩), (1, ⟨k0_dev33 d, k0_dev33_lt d⟩), (2, ⟨k0_dev34 d, k0_dev34_lt d⟩), (3, ⟨k0_dev35 d, k0_dev35_lt d⟩), (4, ⟨k0_dev36 d, k0_dev36_lt d⟩), (5, ⟨k0_dev37 d, k0_dev37_lt d⟩), (6, ⟨k0_dev38 d, k0_dev38_lt d⟩), (7, ⟨k0_dev39 d, k0_dev39_lt d⟩), (8, ⟨k0_dev40 d, k0_dev40_lt d⟩), (9, ⟨k0_dev41 d, k0_dev41_lt d⟩), (10, ⟨k0_dev42 d, k0_dev42_lt d⟩), (11, ⟨k0_dev43 d, k0_dev43_lt d⟩), (12, ⟨k0_dev44 d, k0_dev44_lt d⟩), (13, ⟨k0_dev45 d, k0_dev45_lt d⟩), (14, ⟨k0_dev46 d, k0_dev46_lt d⟩), (15, ⟨k0_dev47 d, k0_dev47_lt d⟩)]

/-- Everything after the first loads. -/
def tail2 (d : Dev nD) : PB F :=
  recv arg8 harg8 arg11 d 0 fun v₀ =>
  recvs arg8 harg8 arg11 d order (k0_pay26 (F := F) v₀) fun acc =>
  own arg6 harg6 d (accOut (F := F) acc) <|
  sends2 arg6 harg6 arg9 harg9 arg12 arg13 d (list2 d) <|
  gathers arg5 arg6 harg6 arg9 harg9 arg13 d (0 :: order) <|
  waits1 arg6 harg6 arg8 harg8 arg10 d [(0, 0), (0, 1), (0, 2), (0, 3), (0, 4), (0, 5), (0, 6), (0, 7), (1, 0), (1, 1), (1, 2), (1, 3), (1, 4), (1, 5), (1, 6), (1, 7)] <|
  waits2 arg6 harg6 arg9 harg9 arg12 d [0, 1, 2, 3, 4, 5, 6, 7, 8, 9, 10, 11, 12, 13, 14, 15] <|
  .ret ⟨⟩

/-- The whole body. -/
def body : PB F :=
  .op .deviceId fun d =>
  sigs (listB d) <|
  queries arg0 arg1 fun q =>
  heads arg2 arg3 arg7 0 q [0, 1, 2, 3] <|
  proj arg4 arg6 harg6 arg7 0 <|
  barWait <|
  sends1 arg6 harg6 arg8 harg8 arg10 arg11 d (list10 d) <|
  heads arg2 arg3 arg7 1 q [0, 1, 2, 3] <|
  proj arg4 arg6 harg6 arg7 1 <|
  sends1 arg6 harg6 arg8 harg8 arg10 arg11 d (list11 d) <|
  tail2 arg5 arg6 harg6 arg8 harg8 arg9 harg9 arg10 arg11 arg12 arg13 d

end

set_option maxRecDepth 1000000 in
set_option maxHeartbeats 2000000 in
theorem cc0_body_eq (arg0 : Memref sig .tc .vmem S512x512 .f32) (harg0 : arg0.IsWhole) (arg1 : Memref sig .tc .vmem S512x256 .f32) (harg1 : arg1.IsWhole)
    (arg2 : Memref sig .tc .vmem S2x4x64x256 .f32) (harg2 : arg2.IsWhole) (arg3 : Memref sig .tc .vmem S512x256 .f32) (harg3 : arg3.IsWhole)
    (arg4 : Memref sig .tc .vmem S256x512 .f32) (harg4 : arg4.IsWhole) (arg5 : Memref sig .tc .vmem S512x512 .f32) (harg5 : arg5.IsWhole)
    (arg6 : Memref sig .tc .vmem S512x512 .bf16) (harg6 : arg6.IsWhole) (arg7 : Memref sig .tc .vmem S512x256 .f32) (harg7 : arg7.IsWhole)
    (arg8 : Memref sig .tc .vmem S16x32x512 .bf16) (harg8 : arg8.IsWhole) (arg9 : Memref sig .tc .vmem S512x512 .bf16) (harg9 : arg9.IsWhole)
    (arg10 arg11 arg12 arg13 : DmaSems sig S16) :
    cc0_body (F := F) arg0 harg0 arg1 harg1 arg2 harg2 arg3 harg3 arg4 harg4 arg5 harg5 arg6 harg6 arg7 harg7 arg8 harg8 arg9 harg9 arg10 arg11 arg12 arg13
      = body arg0 arg1 arg2 arg3 arg4 arg5 arg6 harg6 arg7 arg8 harg8 arg9 harg9 arg10 arg11 arg12 arg13 := by
  rfl

end Cert.KernelIdeal.Stage

end
-- ==== Proof.Geometry.lean ====
/- The offsets the body computes, in closed form, and the parts of the scratch buffers it names. -/
module

public import proofs.«01_k».proof.Proof.NormalForm
public import Idealize.ShloMosaic.Lib.ValueIdxCore

@[expose] public section

set_option maxRecDepth 16384

noncomputable section

namespace Cert.KernelIdeal.Stage

open Idealize.ShloMosaic Idealize.ShloMosaic.TcCoe Idealize.SL.Sem
open Cert.KernelIdeal Cert.KernelIdeal.Gen

/-! ## Devices -/

/-- Whom device `d`'s `j`-th chunk of batch `b` goes to. -/
def tgt (d : Fin 16) (b : Fin 2) (j : Fin 8) : Fin 16 := ⟨8 * b.val + (d.val + 1 + j.val) % 8, by omega⟩
/-- Whose slot device `d` reads in step `j`. -/
def src (d j : Fin 16) : Fin 16 := ⟨(d.val + j.val) % 16, by omega⟩
/-- Whom device `d`'s `r`-th copy of the reduced chunk goes to. -/
def nxt (d r : Fin 16) : Fin 16 := ⟨(d.val + 1 + r.val) % 16, by omega⟩

theorem listB_eq : ∀ d : Dev nD, listB d = (List.finRange 15).map fun j => nxt d (Fin.castSucc j) := by decide +kernel
theorem list10_eq : ∀ d : Dev nD, list10 d = (List.finRange 8).map fun j => (0, j, tgt d 0 j) := by decide +kernel
theorem list11_eq : ∀ d : Dev nD, list11 d = (List.finRange 8).map fun j => (1, j, tgt d 1 j) := by decide +kernel
theorem list2_eq : ∀ d : Dev nD, list2 d = (List.finRange 16).map fun r => (r, nxt d r) := by decide +kernel

/-! ## Offsets -/

abbrev ixOff (t : Fin 16) : Fin 1 → Nat := ![t.val]
abbrev rowOff (t : Fin 16) : Fin 2 → Nat := ![32 * t.val, 0]
abbrev slotOff (t : Fin 16) : Fin 3 → Nat := ![t.val, 0, 0]

theorem inbIx (t : Fin 16) : ∀ a, ixOff t a + S1.size a ≤ S16.size a := by revert t; decide
theorem inbRow (t : Fin 16) : ∀ a, rowOff t a + S32x512.size a ≤ S512x512.size a := by revert t; decide
theorem inbSlot (t : Fin 16) : ∀ a, slotOff t a + S1x32x512.size a ≤ S16x32x512.size a := by revert t; decide

theorem off1_eq : ∀ (d : Dev nD) (b : Fin 2) (j : Fin 8), k0_off1 d (BitVec.ofNat 32 (8 * b.val)) (BitVec.ofNat 32 j.val) = ixOff (tgt d b j) := by decide +kernel
theorem off4_eq : ∀ (d : Dev nD) (b : Fin 2) (j : Fin 8), k0_off4 d (BitVec.ofNat 32 (8 * b.val)) (BitVec.ofNat 32 j.val) = rowOff (tgt d b j) := by decide +kernel
theorem off2_eq : ∀ d : Dev nD, k0_off2 d = ixOff d := by decide +kernel
theorem off3_eq : ∀ d : Dev nD, k0_off3 d = slotOff d := by decide +kernel
theorem off5_eq : ∀ d j : Fin 16, k0_off5 d (BitVec.ofNat 32 j.val) = ixOff (src d j) := by decide +kernel
theorem off6_eq : ∀ d j : Fin 16, k0_off6 d (BitVec.ofNat 32 j.val) = slotOff (src d j) := by decide +kernel
theorem off7_eq : ∀ d j : Fin 16, k0_off7 d (BitVec.ofNat 32 j.val) = slotOff (src d j) := by decide +kernel
theorem off8_eq : ∀ d : Dev nD, k0_off8 d = rowOff d := by decide +kernel
theorem off9_eq : ∀ d r : Fin 16, k0_off9 d (BitVec.ofNat 32 r.val) = ixOff (nxt d r) := by decide +kernel
theorem off10_eq : ∀ d : Dev nD, k0_off10 d = rowOff d := by decide +kernel
theorem off11_eq : ∀ d j : Fin 16, k0_off11 d (BitVec.ofNat 32 j.val) = rowOff (src d j) := by decide +kernel
theorem off12_eq : ∀ d j : Fin 16, k0_off12 d (BitVec.ofNat 32 j.val) = rowOff (src d j) := by decide +kernel

/-! ## Semaphores -/

/-- Semaphore `t` of array `a`: first copies' source ends, their destination ends, second copies' source
    ends, their destination ends. -/
def semIx (a : Fin 4) (t : Fin 16) : DmaSem sig := ⟨6 + 16 * a.val + t.val, by show _ < 70; omega⟩

theorem semAt_0 (t : Fin 16) (h) : semAt cc0_scratch4 (ixOff t) h = semIx 0 t := by revert t; decide +kernel
theorem semAt_1 (t : Fin 16) (h) : semAt cc0_scratch5 (ixOff t) h = semIx 1 t := by revert t; decide +kernel
theorem semAt_2 (t : Fin 16) (h) : semAt cc0_scratch6 (ixOff t) h = semIx 2 t := by revert t; decide +kernel
theorem semAt_3 (t : Fin 16) (h) : semAt cc0_scratch7 (ixOff t) h = semIx 3 t := by revert t; decide +kernel

/-! ## Parts of the scratch buffers -/

abbrev pM : Memref sig .tc .vmem S512x512 .bf16 := Memref.whole cc0_scratch0
abbrev cM : Memref sig .tc .vmem S512x256 .f32 := Memref.whole cc0_scratch1
abbrev rM : Memref sig .tc .vmem S16x32x512 .bf16 := Memref.whole cc0_scratch2
abbrev aM : Memref sig .tc .vmem S512x512 .bf16 := Memref.whole cc0_scratch3

/-- Chunk `t` of the partial product, of the gather buffer; slot `t` of the receive buffer. -/
abbrev pC (t : Fin 16) : Memref sig .tc .vmem S32x512 .bf16 := chunk pM (rowOff t) (inbRow t)
abbrev aC (t : Fin 16) : Memref sig .tc .vmem S32x512 .bf16 := chunk aM (rowOff t) (inbRow t)
abbrev rC (t : Fin 16) : Memref sig .tc .vmem S32x512 .bf16 := slot rM (slotOff t) (inbSlot t)

/-- The rows of chunk `t`. -/
def rowsOf (t : Fin 16) : Finset S512x512.Idx := Finset.univ.filter fun i => (i 0).val / 32 = t.val
/-- The rows of batch `b`. -/
def halfOf (b : Fin 2) : Finset S512x512.Idx := Finset.univ.filter fun i => (i 0).val / 256 = b.val
def slotOf (t : Fin 16) : Finset S16x32x512.Idx := Finset.univ.filter fun i => (i 0).val = t.val

theorem mem_rowsOf (t : Fin 16) (i : S512x512.Idx) : i ∈ rowsOf t ↔ (i 0).val / 32 = t.val := by simp [rowsOf]
theorem mem_halfOf (b : Fin 2) (i : S512x512.Idx) : i ∈ halfOf b ↔ (i 0).val / 256 = b.val := by simp [halfOf]
theorem mem_slotOf (t : Fin 16) (i : S16x32x512.Idx) : i ∈ slotOf t ↔ (i 0).val = t.val := by simp [slotOf]

theorem mem_rowRect (t : Fin 16) (h) (i : S512x512.Idx) : i ∈ (Rect.unit (s := S512x512) (rowOff t) S32x512.size h).set ↔ (i 0).val / 32 = t.val := by
  rw [Rect.mem_set_unit, Fin.forall_fin_two]
  have h1 : (i 1).val < 512 := (i 1).isLt
  show (32 * t.val ≤ (i 0).val ∧ (i 0).val < 32 * t.val + 32) ∧ (0 ≤ (i 1).val ∧ (i 1).val < 0 + 512) ↔ _
  omega

theorem pC_set (t : Fin 16) : (pC t).view.set = rowsOf t := by
  ext i
  rw [show (pC t).view.set = _ from View.set_slice_whole cc0_scratch0 _]
  exact (mem_rowRect t _ i).trans (by simp [rowsOf])
theorem aC_set (t : Fin 16) : (aC t).view.set = rowsOf t := by
  ext i
  rw [show (aC t).view.set = _ from View.set_slice_whole cc0_scratch3 _]
  exact (mem_rowRect t _ i).trans (by simp [rowsOf])
theorem rC_set (t : Fin 16) : (rC t).view.set = slotOf t := by
  ext i
  rw [show (rC t).view.set = _ from (View.set_reshape _ _).trans (View.set_slice_whole cc0_scratch2 _), Rect.mem_set_unit]
  have h1 : (i 1).val < 32 := (i 1).isLt
  have h2 : (i 2).val < 512 := (i 2).isLt
  have e : (∀ a : Fin 3, slotOff t a ≤ (i a).val ∧ (i a).val < slotOff t a + S1x32x512.size a) ↔ (i 0).val = t.val := by
    rw [Fin.forall_fin_succ, Fin.forall_fin_two]
    show (t.val ≤ (i 0).val ∧ (i 0).val < t.val + 1) ∧ (0 ≤ (i 1).val ∧ (i 1).val < 0 + 32) ∧ (0 ≤ (i 2).val ∧ (i 2).val < 0 + 512) ↔ _
    omega
  exact e.trans (by simp [slotOf])

theorem rows_disj (t t' : Fin 16) (h : t ≠ t') : Disjoint (rowsOf t) (rowsOf t') := by
  refine Finset.disjoint_left.mpr fun i hi hi' => h (Fin.ext ?_)
  rw [← (Finset.mem_filter.mp hi).2, (Finset.mem_filter.mp hi').2]
theorem rows_cover : Finset.univ.biUnion rowsOf = Finset.univ := by
  refine Finset.eq_univ_iff_forall.mpr fun i => Finset.mem_biUnion.mpr ⟨⟨(i 0).val / 32, ?_⟩, Finset.mem_univ _, Finset.mem_filter.mpr ⟨Finset.mem_univ _, rfl⟩⟩
  have h : (i 0).val < 512 := (i 0).isLt
  omega
theorem slot_disj (t t' : Fin 16) (h : t ≠ t') : Disjoint (slotOf t) (slotOf t') := by
  refine Finset.disjoint_left.mpr fun i hi hi' => h (Fin.ext ?_)
  rw [← (Finset.mem_filter.mp hi).2, (Finset.mem_filter.mp hi').2]
theorem slot_cover : Finset.univ.biUnion slotOf = Finset.univ :=
  Finset.eq_univ_iff_forall.mpr fun i => Finset.mem_biUnion.mpr ⟨i 0, Finset.mem_univ _, Finset.mem_filter.mpr ⟨Finset.mem_univ _, rfl⟩⟩
theorem half_disj : Disjoint (halfOf 0) (halfOf 1) := by
  refine Finset.disjoint_left.mpr fun i hi hi' => ?_
  have := (Finset.mem_filter.mp hi).2; have := (Finset.mem_filter.mp hi').2
  simp_all
theorem half_cover : halfOf 0 ∪ halfOf 1 = Finset.univ := by
  refine Finset.eq_univ_iff_forall.mpr fun i => ?_
  have h : (i 0).val < 512 := (i 0).isLt
  rw [Finset.mem_union, halfOf, halfOf, Finset.mem_filter, Finset.mem_filter]
  simp only [Finset.mem_univ, true_and]
  show _ = 0 ∨ _ = 1
  omega
/-- The rows of batch `b` are its eight chunks. -/
theorem half_rows (b : Fin 2) (d : Fin 16) : Finset.univ.biUnion (fun j => rowsOf (tgt d b j)) = halfOf b := by
  ext i
  have h : (i 0).val < 512 := (i 0).isLt
  rw [Finset.mem_biUnion, mem_halfOf]
  constructor
  · rintro ⟨j, -, hj⟩
    have hj' : (i 0).val / 32 = 8 * b.val + (d.val + 1 + j.val) % 8 := (mem_rowsOf _ _).mp hj
    omega
  · intro hb
    have hd := d.isLt
    refine ⟨⟨((i 0).val / 32 + 15 - d.val) % 8, by omega⟩, Finset.mem_univ _, (mem_rowsOf _ _).mpr ?_⟩
    show (i 0).val / 32 = 8 * b.val + (d.val + 1 + ((i 0).val / 32 + 15 - d.val) % 8) % 8
    generalize (i 0).val = n at *
    omega
theorem tgt_inj (d : Fin 16) (b : Fin 2) (j j' : Fin 8) (h : j ≠ j') : tgt d b j ≠ tgt d b j' := by
  revert d b j j'; decide +kernel

end Cert.KernelIdeal.Stage

end
-- ==== Proof.Schedule.lean ====
/- The semaphore cells, who pays what to whom, and in which order a device may wait. -/
module

public import proofs.«01_k».proof.Proof.Geometry
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Transfers
public import Idealize.ShloMosaic.Lib.Ring

@[expose] public section

set_option maxRecDepth 16384

noncomputable section

namespace Cert.KernelIdeal.Stage

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F] [Named F]

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## Cells -/

abbrev barC (c : Dev nD) : GSem nD τ sig := ((c : Thread nD τ), .reg bar)
abbrev cell (a : Fin 4) (c : Dev nD) (t : Fin 16) : GSem nD τ sig := ((c : Thread nD τ), .dma (semIx a t))

/-- What one copy of a chunk credits. -/
def NN : ℕ := (pC 0).view.dmaCredit
theorem NN_pos : 0 < NN := View.dmaCredit_pos _ (by decide)
theorem credit_pC (t : Fin 16) : (pC t).view.dmaCredit = NN := rfl
theorem credit_aC (t : Fin 16) : (aC t).view.dmaCredit = NN := rfl
theorem credit_rC (t : Fin 16) : (rC t).view.dmaCredit = NN := rfl

/-! ## What the parts hold -/

def pAt (c : Dev nD) (t : Fin 16) (q : PosShare TreeShare) (f : Buf (Elt F) ((pC t).view.loc (c : Thread nD τ))) : sProp 𝕄 :=
  (pC t).view.loc (c : Thread nD τ) ↦[(pC t).view.set]{q} f
def aAt (c : Dev nD) (t : Fin 16) (f : Buf (Elt F) ((aC t).view.loc (c : Thread nD τ))) : sProp 𝕄 :=
  (aC t).view.loc (c : Thread nD τ) ↦[(aC t).view.set]{fullShare} f
def rAt (c : Dev nD) (t : Fin 16) (f : Buf (Elt F) ((rC t).view.loc (c : Thread nD τ))) : sProp 𝕄 :=
  (rC t).view.loc (c : Thread nD τ) ↦[(rC t).view.set]{fullShare} f

instance pAt_storable (c : Dev nD) (t : Fin 16) (q f) : BI.Storable (upEmb : UEmb _ 𝕄) (pAt (F := F) c t q f) := by unfold pAt; infer_instance
instance aAt_storable (c : Dev nD) (t : Fin 16) (f) : BI.Storable (upEmb : UEmb _ 𝕄) (aAt (F := F) c t f) := by unfold aAt; infer_instance
instance rAt_storable (c : Dev nD) (t : Fin 16) (f) : BI.Storable (upEmb : UEmb _ 𝕄) (rAt (F := F) c t f) := by unfold rAt; infer_instance

/-- The share of the reduced chunk lent to the copy to `t`. -/
abbrev shr (t : Fin 16) : PosShare TreeShare := dealOf fullShare (Finset.univ : Finset (Fin 16)) t

variable (P : Dev nD → Vec F S512x512 .bf16) (G : Vec F S512x512 .bf16)

/-! ## Payloads -/

/-- To a device's barrier cell, by `d`: `d`'s slot and gather chunk for the device, and that it may copy there. -/
def barPay (c d : Dev nD) : sProp 𝕄 :=
  iprop((∃ f, rAt d c f) ∗ (∃ f, aAt d c f) ∗ reached ER (cell 1 d c) 0 ∗ reached ER (cell 3 d c) 0)
/-- The source of a first copy, back. Its own chunk comes back with the landing instead. -/
def srcPay (c : Dev nD) (t : Fin 16) : sProp 𝕄 := if t = c then iprop(emp) else iprop(∃ f, pAt c t fullShare f)
/-- The slot of `s`, at `s`'s chunk for this device. -/
def dstPay (c : Dev nD) (s : Fin 16) : sProp 𝕄 :=
  iprop((∃ f, rAt c s f ∗ ⌜(rC s).view.read (Elt F) f = (pC c).view.read (Elt F) (P s)⌝) ∗ (if s = c then iprop(∃ f, pAt c c fullShare f) else iprop(emp)))
/-- A second copy's source share, back. -/
def src2Pay (c : Dev nD) (t : Fin 16) : sProp 𝕄 := pAt c c (shr t) G
/-- The gather chunk of `s`, at the reduced chunk. -/
def dst2Pay (c : Dev nD) (s : Fin 16) : sProp 𝕄 := aAt c s G

def arr (i : DmaSem sig) : ℕ := (i.val - 6) / 16
def ixOf (i : DmaSem sig) : Fin 16 := ⟨(i.val - 6) % 16, Nat.mod_lt _ (by decide)⟩
theorem arr_semIx (a : Fin 4) (t : Fin 16) : arr (semIx a t) = a.val := by
  show (6 + 16 * a.val + t.val - 6) / 16 = a.val; have := t.isLt; omega
theorem ixOf_semIx (a : Fin 4) (t : Fin 16) : ixOf (semIx a t) = t := by
  apply Fin.ext; show (6 + 16 * a.val + t.val - 6) % 16 = t.val; have := t.isLt; omega
theorem semIx_ge (a : Fin 4) (t : Fin 16) : ¬ (semIx a t).val < 6 := by
  show ¬ (6 + 16 * a.val + t.val < 6); omega

def dmaPay (c : Dev nD) (a : ℕ) (t : Fin 16) : sProp 𝕄 :=
  if a = 0 then srcPay c t else if a = 1 then dstPay P c t else if a = 2 then src2Pay G c t else dst2Pay G c t

/-- Who pays a cell: the device itself for a source end, the sender for a destination end. -/
def payer (c : Dev nD) (a : ℕ) (t : Fin 16) : Dev nD := if a = 1 ∨ a = 3 then t else c

def cellDuties (g : GSem nD τ sig) : Finset (Dev nD) :=
  match g.2 with
  | .reg _ => Finset.univ.erase g.1.1
  | .dma i => if i.val < 6 then ∅ else {payer g.1.1 (arr i) (ixOf i)}

def dutiesAt (g : GSem nD τ sig) (r : ℕ) : Finset (Dev nD) := if r = 0 ∧ g.1.2 = .tc then cellDuties g else ∅

def Rd : Rounds.Schedule (GSem nD τ sig) (Dev nD) 𝕄 where
  duties g r := dutiesAt g r
  unitless _ := False
  amount g _ _ := match g.2 with | .reg _ => 1 | .dma _ => NN
  payload g _ d := match g.2 with | .reg _ => barPay g.1.1 d | .dma i => dmaPay P G g.1.1 (arr i) (ixOf i)
  amount_pos g _ _ _ := by
    obtain ⟨_, s⟩ := g
    cases s
    · exact Nat.one_pos
    · exact NN_pos

instance Rd_storable (g : GSem nD τ sig) (r : ℕ) (d : Dev nD) : BI.Storable (upEmb : UEmb _ 𝕄) ((Rd (F := F) P G).payload g r d) := by
  obtain ⟨th, s⟩ := g
  cases s with
  | reg _ => show BI.Storable upEmb (barPay th.1 d); unfold barPay; infer_instance
  | dma i =>
    show BI.Storable upEmb (dmaPay P G th.1 (arr i) (ixOf i))
    unfold dmaPay srcPay dstPay src2Pay dst2Pay
    (repeat' split) <;> infer_instance

theorem duties_bar (c : Dev nD) : (Rd (F := F) P G).duties (barC c) 0 = Finset.univ.erase c := by
  show dutiesAt (barC c) 0 = _
  unfold dutiesAt; rw [if_pos ⟨rfl, rfl⟩]; rfl
theorem duties_cell (a : Fin 4) (c : Dev nD) (t : Fin 16) : (Rd (F := F) P G).duties (cell a c t) 0 = {payer c a.val t} := by
  show dutiesAt (cell a c t) 0 = _
  unfold dutiesAt; rw [if_pos ⟨rfl, rfl⟩]
  show (if (semIx a t).val < 6 then ∅ else {payer c (arr (semIx a t)) (ixOf (semIx a t))} : Finset (Dev nD)) = _
  rw [if_neg (semIx_ge a t), arr_semIx, ixOf_semIx]
theorem duties_later (g : GSem nD τ sig) : ∀ r, 1 ≤ r → (Rd (F := F) P G).duties g r = ∅ :=
  fun r hr => by
    show dutiesAt g r = ∅
    exact if_neg fun h => by omega
theorem amount_bar (c d : Dev nD) : (Rd (F := F) P G).amount (barC c) 0 d = 1 := rfl
theorem amount_cell (a : Fin 4) (c : Dev nD) (t : Fin 16) (d : Dev nD) : (Rd (F := F) P G).amount (cell a c t) 0 d = NN := rfl
theorem payload_bar (c d : Dev nD) : (Rd (F := F) P G).payload (barC c) 0 d = barPay c d := rfl
theorem payload_cell (a : Fin 4) (c : Dev nD) (t : Fin 16) (d : Dev nD) : (Rd (F := F) P G).payload (cell a c t) 0 d = dmaPay P G c a.val t := by
  show dmaPay P G c (arr (semIx a t)) (ixOf (semIx a t)) = _
  rw [arr_semIx, ixOf_semIx]
theorem expect_bar (c : Dev nD) : (Rd (F := F) P G).expect (barC c) 0 = 15 := by
  unfold Schedule.expect Schedule.amountOf
  rw [duties_bar, Finset.sum_congr rfl (fun d _ => amount_bar P G c d), Finset.sum_const, Finset.card_erase_of_mem (Finset.mem_univ c), Finset.card_univ, Fintype.card_fin]
  rfl
theorem expect_cell (a : Fin 4) (c : Dev nD) (t : Fin 16) : (Rd (F := F) P G).expect (cell a c t) 0 = NN := by
  unfold Schedule.expect Schedule.amountOf
  rw [duties_cell, Finset.sum_singleton, amount_cell]
theorem rest_bar (c : Dev nD) : bigSep ((Rd (F := F) P G).duties (barC c) 0 \ ∅) (fun d => (Rd (F := F) P G).payload (barC c) 0 d)
    = bigSep (Finset.univ.erase c) (fun d => barPay (F := F) c d) := by
  rw [Finset.sdiff_empty, duties_bar]; rfl
theorem rest_cell (a : Fin 4) (c : Dev nD) (t : Fin 16) : bigSep ((Rd (F := F) P G).duties (cell a c t) 0 \ ∅) (fun d => (Rd (F := F) P G).payload (cell a c t) 0 d)
    = dmaPay P G c a.val t := by
  rw [Finset.sdiff_empty, duties_cell, bigSep_singleton, payload_cell]

/-! ## Levels and debts -/

def L (g : GSem nD τ sig) : Finset Unit := if g.1.2 = .tc then {()} else ∅
def lvS (s : SemLoc sig) : ℕ :=
  match s with
  | .reg _ => 1
  | .dma i => if i.val < 6 then 0 else if arr i = 1 then 2 else if arr i = 3 then 3 else 0
def lv (g : GSem nD τ sig) (_ : Unit) : ℕ := lvS g.2

theorem L_tc (c : Dev nD) (s : SemLoc sig) : L ((c : Thread nD τ), s) = {()} := if_pos rfl
theorem L_of_ne (g : GSem nD τ sig) (h : g.1.2 ≠ .tc) : L g = ∅ := if_neg h
theorem lvS_cell (a : Fin 4) (t : Fin 16) : lvS (.dma (semIx a t)) = if a.val = 1 then 2 else if a.val = 3 then 3 else 0 := by
  show (if (semIx a t).val < 6 then 0 else if arr (semIx a t) = 1 then 2 else if arr (semIx a t) = 3 then 3 else 0) = _
  rw [if_neg (semIx_ge a t), arr_semIx]

/-- Units owed, cell by cell. -/
def due (l : List (GSem nD τ sig × ℕ)) : CellTallies nD τ sig Unit := (l.map fun p => tallyAt p.1 () p.2).sum
theorem due_nil : due [] = 0 := rfl
theorem due_cons (p : GSem nD τ sig × ℕ) (l : List (GSem nD τ sig × ℕ)) : due (p :: l) = due l + tallyAt p.1 () p.2 := by
  unfold due; rw [List.map_cons, List.sum_cons, add_comm]
theorem due_pos (l : List (GSem nD τ sig × ℕ)) (g : GSem nD τ sig) (u : Unit) (h : 0 < due l g u) : ∃ p ∈ l, p.1 = g := by
  induction l with
  | nil => exact absurd h (Nat.lt_irrefl 0)
  | cons p l ih =>
    rw [due_cons] at h
    have h' : 0 < due l g u + (tallyAt p.1 () p.2 : CellTallies nD τ sig Unit) g u := h
    rcases Nat.eq_zero_or_pos (due l g u) with h0 | h0
    · rw [h0, Nat.zero_add, tallyAt_apply] at h'
      by_cases e : g = p.1 ∧ u = ()
      · exact ⟨p, List.mem_cons_self, e.1.symm⟩
      · rw [if_neg e] at h'; exact absurd h' (Nat.lt_irrefl 0)
    · obtain ⟨p', hp', e⟩ := ih h0
      exact ⟨p', List.mem_cons_of_mem _ hp', e⟩

theorem mayWait (c : Dev nD) (s : SemLoc sig) (l : List (GSem nD τ sig × ℕ)) (h : ∀ p ∈ l, p.1.1.2 = .tc ∧ lvS s < lvS p.1.2) :
    (levAts L lv : sProp 𝕄) ⊢ MayWait (c : Thread nD τ) s () (due l) :=
  MayOwe.of_cut (L := L) (lev := lv) (lvS s) (fun p hp => by rw [Finset.mem_singleton.mp hp, L_tc]; exact Finset.mem_singleton_self _)
    (fun g u hg => by
      obtain ⟨p, hp, rfl⟩ := due_pos l g u hg
      rw [show L p.1 = {()} from if_pos (h p hp).1]; exact Finset.mem_singleton_self _)
    (fun p hp => by rw [Finset.mem_singleton.mp hp]; exact le_refl _)
    (fun g u hg => by
      obtain ⟨p, hp, rfl⟩ := due_pos l g u hg
      exact (h p hp).2)

abbrev barDue (t : Dev nD) : GSem nD τ sig × ℕ := (barC t, 1)
abbrev firstDue (c t : Dev nD) : GSem nD τ sig × ℕ := (cell 1 t c, NN)
abbrev secondDue (c t : Dev nD) : GSem nD τ sig × ℕ := (cell 3 t c, NN)

/-- What a device owes at some record of its waits. -/
def owesE (c : Dev nD) (O : CellTallies nD τ sig Unit) : sProp 𝕄 := iprop(∃ W, owes (c : Thread nD τ) O W)

end Cert.KernelIdeal.Stage

end
-- ==== Proof.Steps.lean ====
/- Single steps of the body against the schedule. -/
module

public import proofs.«01_k».proof.Proof.Schedule

@[expose] public section

set_option maxRecDepth 16384

noncomputable section

namespace Cert.KernelIdeal.Stage

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F] [Named F]

local notation "𝕄" => MT nD τ sig Unit (Elt F) ℕ UU ℕ

variable (P : Dev nD → Vec F S512x512 .bf16) (G : Vec F S512x512 .bf16)

abbrev 𝒱₀ : Variants := Variants.none

/-- The weakest precondition of a stage's program on device `c`. -/
abbrev WP (c : Dev nD) (p : PB F) (Q : PUnit → sProp 𝕄) : sProp 𝕄 :=
  wp frame (wpE (defs₀ (F := F)) 𝒱₀ (c : Thread nD τ) none) Set.univ p Q

/-! ## Every cell's invariant -/

theorem pick {I : Type} [DecidableEq I] {s : Finset I} {i : I} (h : i ∈ s) {Φ : I → sProp 𝕄} : (bigSep s Φ : sProp 𝕄) ⊢ Φ i :=
  bigSep_elim h

/-- Every cell's invariant, and the levels. -/
def recs (κ : GSem nD τ sig → ℕ) : sProp 𝕄 :=
  iprop((bigSep Finset.univ fun c : Dev nD => cellInv ER (Rd P G) (κ (barC c)) (barC c))
    ∗ (bigSep Finset.univ fun x : Fin 4 × Dev nD × Fin 16 => cellInv ER (Rd P G) (κ (cell x.1 x.2.1 x.2.2)) (cell x.1 x.2.1 x.2.2))
    ∗ levAts L lv)

instance recs_persistent (κ : GSem nD τ sig → ℕ) : BI.Persistent (recs (F := F) P G κ) := by unfold recs; infer_instance

theorem recs_bar (κ : GSem nD τ sig → ℕ) (c : Dev nD) : recs P G κ ⊢ cellInv ER (Rd (F := F) P G) (κ (barC c)) (barC c) := by
  unfold recs
  iintro ⟨H, -, -⟩
  iapply (pick (s := Finset.univ) (Φ := fun c : Dev nD => cellInv ER (Rd (F := F) P G) (κ (barC c)) (barC c)) (Finset.mem_univ c)); iexact H
theorem recs_cell (κ : GSem nD τ sig → ℕ) (a : Fin 4) (c : Dev nD) (t : Fin 16) :
    recs P G κ ⊢ cellInv ER (Rd (F := F) P G) (κ (cell a c t)) (cell a c t) := by
  unfold recs
  iintro ⟨-, H, -⟩
  iapply (pick (s := Finset.univ) (Φ := fun x : Fin 4 × Dev nD × Fin 16 => cellInv ER (Rd (F := F) P G) (κ (cell x.1 x.2.1 x.2.2)) (cell x.1 x.2.1 x.2.2)) (i := (a, c, t)) (Finset.mem_univ _)); iexact H
theorem recs_lev (κ : GSem nD τ sig → ℕ) : recs (F := F) P G κ ⊢ levAts L lv := by
  unfold recs
  iintro ⟨-, -, H⟩
  iexact H

/-! ## Waits -/

theorem wait_cell (κ : GSem nD τ sig → ℕ) (a : Fin 4) (c : Dev nD) (t : Fin 16) (l : List (GSem nD τ sig × ℕ))
    (hl : ∀ p ∈ l, p.1.1.2 = .tc ∧ lvS (.dma (semIx a t)) < lvS p.1.2)
    {sp sp' : Space} {s s' : Shape} {e e' : EltTy} {sem : DmaSem sig} (hs : sem = semIx a t)
    {sr : Memref sig .tc sp' s' e'} {dst : Memref sig .tc sp s e} {h1 : sr.view.WordExact} {h2 : dst.view.WordExact}
    (hN : dst.view.dmaCredit = NN) (k : PUnit → PB F) (Q : PUnit → sProp 𝕄) :
    iprop(recs P G κ ∗ cred (tallyAt (cell a c t) () NN) ∗ owesE c (due l) ∗ atPos ER (cell a c t) 0 ∅ 0)
      ⊢ iprop(((owesE c (due l) ∗ atPos ER (cell a c t) 1 ∅ 0 ∗ dmaPay P G c a.val t) -∗ WP c (k ⟨⟩) Q)
          -∗ WP c (.op (.waitDma2 sem sr dst h1 h2) k) Q) := by
  subst hs
  unfold owesE
  iintro ⟨#Hr, Hc, ⟨%W, HO⟩, Hat⟩ Hk
  iapply (Rounds.wp_wait_rest_token 𝒱₀ ER (Rd P G) (c : Thread nD τ) none (κ := κ (cell a c t))
      (wpE_waitDma2_eq (src := sr) (dst := dst) 𝒱₀ (c : Thread nD τ) none Set.univ) (Set.mem_univ _) () (O := due l) (W := W) (R := 0) (m := 0) (T := ∅)
      ((Nat.zero_add _).trans (hN.trans (expect_cell P G a c t).symm))) $$ [Hc HO Hat]
  · isplitr; · iapply (recs_cell P G κ a c t); iexact Hr
    isplitl [Hc]; · rw [hN]; iexact Hc
    isplitl [HO]; · iexact HO
    isplitr; · iapply (mayWait c (.dma (semIx a t)) l hl); iapply (recs_lev P G κ); iexact Hr
    iexact Hat
  iintro ⟨HO, Hat, -, Hpay⟩
  ihave Hp := (Entails.of_eq (rest_cell P G a c t)) $$ Hpay
  iapply Hk
  isplitl [HO]; · iexists _; iexact HO
  isplitl [Hat]; · iexact Hat
  iexact Hp

theorem wait_bar (κ : GSem nD τ sig → ℕ) (c : Dev nD) (l : List (GSem nD τ sig × ℕ))
    (hl : ∀ p ∈ l, p.1.1.2 = .tc ∧ lvS (.reg bar) < lvS p.1.2) (k : PB F) (Q : PUnit → sProp 𝕄) :
    iprop(recs P G κ ∗ cred (tallyAt (barC c) () 15) ∗ owesE c (due l) ∗ atPos ER (barC c) 0 ∅ 0)
      ⊢ iprop(((owesE c (due l) ∗ atPos ER (barC c) 1 ∅ 0 ∗ bigSep (Finset.univ.erase c) (fun d => barPay (F := F) c d)) -∗ WP c k Q)
          -∗ WP c (barWait k) Q) := by
  unfold owesE barWait
  iintro ⟨#Hr, Hc, ⟨%W, HO⟩, Hat⟩ Hk
  iapply (Rounds.wp_wait_rest_token 𝒱₀ ER (Rd P G) (c : Thread nD τ) none (κ := κ (barC c))
      (wpE_semWait_eq 𝒱₀ (c : Thread nD τ) none Set.univ) (Set.mem_univ _) () (O := due l) (W := W) (R := 0) (m := 0) (T := ∅)
      ((Nat.zero_add 15).trans (expect_bar P G c).symm)) $$ [Hc HO Hat]
  · isplitr; · iapply (recs_bar P G κ c); iexact Hr
    isplitl [Hc]; · iexact Hc
    isplitl [HO]; · iexact HO
    isplitr; · iapply (mayWait c (.reg bar) l hl); iapply (recs_lev P G κ); iexact Hr
    iexact Hat
  iintro ⟨HO, Hat, -, Hpay⟩
  ihave Hp := (Entails.of_eq (rest_bar P G c)) $$ Hpay
  iapply Hk
  isplitl [HO]; · iexists _; iexact HO
  isplitl [Hat]; · iexact Hat
  iexact Hp

/-! ## A signal -/

theorem signal_bar (κ : GSem nD τ sig → ℕ) (c t : Dev nD) (hct : c ≠ t) (l : List (GSem nD τ sig × ℕ)) (k : PUnit → PB F) (Q : PUnit → sProp 𝕄) :
    iprop(recs P G κ ∗ owesE c (due (barDue t :: l)) ∗ dutyTok ER (barC t) 0 c ∗ barPay t c ∗ reached ER (barC t) 0)
      ⊢ iprop((owesE c (due l) -∗ WP c (k ⟨⟩) Q) -∗ WP c (.op (.semSignal ((t, .tc) : Thread nD τ) bar 1) k) Q) := by
  unfold owesE
  iintro ⟨#Hr, ⟨%W, HO⟩, Ht, Hp, Hre⟩ Hk
  iapply (Rounds.wp_signal 𝒱₀ ER (Rd P G) (c : Thread nD τ) none (dst := (t : Thread nD τ)) (sem := bar) (r := 0) (d := c) (κ := κ (barC t))
      (by rw [duties_bar]; exact Finset.mem_erase.2 ⟨hct, Finset.mem_univ _⟩) (amount_bar P G t c) () (due l) (due_cons (barDue t) l)) $$ [HO Ht Hp Hre]
  · isplitr; · iapply (recs_bar P G κ t); iexact Hr
    isplitl [HO]; · iexact HO
    isplitl [Ht]; · iexact Ht
    isplitl [Hp]; · rw [payload_bar]; iexact Hp
    iexact Hre
  iintro HO
  iapply Hk
  iexists _; iexact HO

/-! ## Copies -/

theorem landed_slot (c t : Dev nD) (fd : Buf (Elt F) ((rC c).view.loc (t : Thread nD τ))) (fs : Vec F S512x512 .bf16) :
    (rC c).view.read (Elt F) ((rC c).view.write (Elt F) fd ((pC t).view.read (Elt F) fs) Finset.univ) = (pC t).view.read (Elt F) fs :=
  View.read_write_univ _ _

theorem landed_chunk (c t : Dev nD) (fd : Buf (Elt F) ((aC c).view.loc (t : Thread nD τ))) (fs : Vec F S512x512 .bf16) (i : S512x512.Idx) (hi : i ∈ (aC c).view.set) :
    (aC c).view.write (Elt F) fd ((pC c).view.read (Elt F) fs) Finset.univ i = fs i := by
  obtain ⟨j, -, rfl⟩ := Finset.mem_map.1 hi
  exact congrFun (View.read_write_univ (v := (aC c).view) fd ((pC c).view.read (Elt F) fs)) j

theorem send_first (κ : GSem nD τ sig → ℕ) (c t : Dev nD) (l : List (GSem nD τ sig × ℕ))
    {os : Fin 2 → Nat} {hos} (eos : os = rowOff t) {od : Fin 3 → Nat} {hod} (eod : od = slotOff c)
    {sS sR : DmaSem sig} (eS : sS = semIx 0 t) (eR : sR = semIx 1 c) {h1 h2 h3}
    (k : PUnit → PB F) (Q : PUnit → sProp 𝕄) :
    iprop(recs P G κ ∗ pAt c t fullShare (P c) ∗ (∃ f, rAt t c f) ∗ owesE c (due (firstDue c t :: l))
        ∗ dutyTok ER (cell 0 c t) 0 c ∗ reached ER (cell 0 c t) 0 ∗ dutyTok ER (cell 1 t c) 0 c ∗ reached ER (cell 1 t c) 0)
      ⊢ iprop(((cred (tallyAt (cell 0 c t) () NN) ∗ owesE c (due l)) -∗ WP c (k ⟨⟩) Q)
        -∗ WP c (.op (.enqueueDma (chunk pM os hos) (.remote (Dev.tc t) (slot rM od hod) (.dma sS)) (.dma sR) h1 h2 h3) k) Q) := by
  subst eos eod eS eR
  unfold owesE pAt rAt
  iintro ⟨#Hr, Hp, ⟨%fd, Hd⟩, ⟨%W, HO⟩, Ht1, Hr1, Ht2, Hr2⟩ Hk
  have hd1 : c ∈ (Rd (F := F) P G).duties (cell 0 c t) 0 := by rw [duties_cell]; exact Finset.mem_singleton_self _
  have hd2 : c ∈ (Rd (F := F) P G).duties (cell 1 t c) 0 := by rw [duties_cell]; exact Finset.mem_singleton_self _
  by_cases htc : t = c
  · iapply (Rounds.wp_send_landing_pointsTo 𝒱₀ ER (Rd P G) (c : Thread nD τ) none (c' := (t : Thread nD τ)) (src := pC t) (dst := rC c)
        (sS := .dma (semIx 0 t)) (sem := .dma (semIx 1 c)) (q := fullShare) (fs := P c) (κ₁ := κ (cell 0 c t)) (κ₂ := κ (cell 1 t c))
        (r₁ := 0) (r₂ := 0) (d₁ := c) (d₂ := c) (fd := fd) hd1 hd2 () () NN rfl (amount_cell P G 0 c t c) (amount_cell P G 1 t c c) (due l) (due_cons (firstDue c t) l) (W := W)
        (by rw [payload_cell]; show _ ⊢ srcPay c t; unfold srcPay; rw [if_pos htc])
        (by
          rw [payload_cell]; show _ ⊢ dstPay P t c; unfold dstPay rAt pAt; rw [if_pos htc.symm]
          subst htc
          iintro ⟨Hd, Hs⟩
          isplitl [Hd]
          · iexists _; isplitl [Hd]; · iexact Hd
            ipureintro; exact landed_slot t t fd (P t)
          iexists _; iexact Hs)) $$ [Hp Hd HO Ht1 Hr1 Ht2 Hr2]
    · isplitr; · iapply (recs_cell P G κ 0 c t); iexact Hr
      isplitr; · iapply (recs_cell P G κ 1 t c); iexact Hr
      isplitl [Hp]; · iexact Hp
      isplitl [Hd]; · iexact Hd
      isplitl [HO]; · iexact HO
      isplitl [Ht1]; · iexact Ht1
      isplitl [Hr1]; · iexact Hr1
      isplitl [Ht2]; · iexact Ht2
      iexact Hr2
    iintro ⟨Hc, HO⟩
    iapply Hk
    isplitl [Hc]; · iexact Hc
    iexists _; iexact HO
  · iapply (Rounds.wp_send_pointsTo 𝒱₀ ER (Rd P G) (c : Thread nD τ) none (c' := (t : Thread nD τ)) (src := pC t) (dst := rC c)
        (sS := .dma (semIx 0 t)) (sem := .dma (semIx 1 c)) (q := fullShare) (fs := P c) (κ₁ := κ (cell 0 c t)) (κ₂ := κ (cell 1 t c))
        (r₁ := 0) (r₂ := 0) (d₁ := c) (d₂ := c) (fd := fd) hd1 hd2 () () NN rfl (amount_cell P G 0 c t c) (amount_cell P G 1 t c c) (due l) (due_cons (firstDue c t) l) (W := W)
        (by rw [payload_cell]; show _ ⊢ srcPay c t; unfold srcPay pAt; rw [if_neg htc]; iintro H; iexists _; iexact H)
        (by
          rw [payload_cell]; show _ ⊢ dstPay P t c; unfold dstPay rAt pAt; rw [if_neg (fun h => htc h.symm)]
          iintro Hd
          isplitl [Hd]
          · iexists _; isplitl [Hd]; · iexact Hd
            ipureintro; exact landed_slot c t fd (P c)
          iempintro)) $$ [Hp Hd HO Ht1 Hr1 Ht2 Hr2]
    · isplitr; · iapply (recs_cell P G κ 0 c t); iexact Hr
      isplitr; · iapply (recs_cell P G κ 1 t c); iexact Hr
      isplitl [Hp]; · iexact Hp
      isplitl [Hd]; · iexact Hd
      isplitl [HO]; · iexact HO
      isplitl [Ht1]; · iexact Ht1
      isplitl [Hr1]; · iexact Hr1
      isplitl [Ht2]; · iexact Ht2
      iexact Hr2
    iintro ⟨Hc, HO⟩
    iapply Hk
    isplitl [Hc]; · iexact Hc
    iexists _; iexact HO

theorem send_second (κ : GSem nD τ sig → ℕ) (c t : Dev nD) (l : List (GSem nD τ sig × ℕ))
    {o : Fin 2 → Nat} {hs hd} (eo : o = rowOff c)
    {sS sR : DmaSem sig} (eS : sS = semIx 2 t) (eR : sR = semIx 3 c) {h1 h2 h3}
    (k : PUnit → PB F) (Q : PUnit → sProp 𝕄) :
    iprop(recs P G κ ∗ pAt c c (shr t) G ∗ (∃ f, aAt t c f) ∗ owesE c (due (secondDue c t :: l))
        ∗ dutyTok ER (cell 2 c t) 0 c ∗ reached ER (cell 2 c t) 0 ∗ dutyTok ER (cell 3 t c) 0 c ∗ reached ER (cell 3 t c) 0)
      ⊢ iprop(((cred (tallyAt (cell 2 c t) () NN) ∗ owesE c (due l)) -∗ WP c (k ⟨⟩) Q)
        -∗ WP c (.op (.enqueueDma (chunk pM o hs) (.remote (Dev.tc t) (chunk aM o hd) (.dma sS)) (.dma sR) h1 h2 h3) k) Q) := by
  subst eo eS eR
  unfold owesE pAt aAt
  iintro ⟨#Hr, Hp, ⟨%fd, Hd⟩, ⟨%W, HO⟩, Ht1, Hr1, Ht2, Hr2⟩ Hk
  have hd1 : c ∈ (Rd (F := F) P G).duties (cell 2 c t) 0 := by rw [duties_cell]; exact Finset.mem_singleton_self _
  have hd2 : c ∈ (Rd (F := F) P G).duties (cell 3 t c) 0 := by rw [duties_cell]; exact Finset.mem_singleton_self _
  iapply (Rounds.wp_send_pointsTo 𝒱₀ ER (Rd P G) (c : Thread nD τ) none (c' := (t : Thread nD τ)) (src := pC c) (dst := aC c)
      (sS := .dma (semIx 2 t)) (sem := .dma (semIx 3 c)) (q := shr t) (fs := G) (κ₁ := κ (cell 2 c t)) (κ₂ := κ (cell 3 t c))
      (r₁ := 0) (r₂ := 0) (d₁ := c) (d₂ := c) (fd := fd) hd1 hd2 () () NN rfl (amount_cell P G 2 c t c) (amount_cell P G 3 t c c) (due l) (due_cons (secondDue c t) l) (W := W)
      (by rw [payload_cell]; show _ ⊢ src2Pay G c t; unfold src2Pay pAt; exact BI.Entails.refl _)
      (by
        rw [payload_cell]; show _ ⊢ dst2Pay G t c; unfold dst2Pay aAt
        exact Entails.of_eq (pointsTo_congr (landed_chunk c t fd G)))) $$ [Hp Hd HO Ht1 Hr1 Ht2 Hr2]
  · isplitr; · iapply (recs_cell P G κ 2 c t); iexact Hr
    isplitr; · iapply (recs_cell P G κ 3 t c); iexact Hr
    isplitl [Hp]; · iexact Hp
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists _; iexact HO

end Cert.KernelIdeal.Stage

end
-- ==== Proof.Stages.lean ====
/- The stages that talk, list by list. -/
module

public import proofs.«01_k».proof.Proof.Steps
public import Idealize.ShloMosaic.Lib.Pipeline.BigSepL

@[expose] public section

set_option maxRecDepth 16384

noncomputable section

namespace Cert.KernelIdeal.Stage

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.SL.BI (bigSepL bigSepL_cons' bigSepL_nil)
open Cert.KernelIdeal Cert.KernelIdeal.Gen

variable {F : FTy → Type} [FloatOps F] [Named F]

local notation "𝕄" => MT nD τ sig Unit (Elt F) ℕ UU ℕ

variable (P : Dev nD → Vec F S512x512 .bf16) (G : Vec F S512x512 .bf16)

/-! ## What a step of each list takes and leaves -/

def sigRes (c t : Dev nD) : sProp 𝕄 := iprop(dutyTok ER (barC t) 0 c ∗ barPay t c ∗ reached ER (barC t) 0)
def firstRes (c t : Dev nD) : sProp 𝕄 :=
  iprop(pAt c t fullShare (P c) ∗ (∃ f, rAt t c f) ∗ dutyTok ER (cell 0 c t) 0 c ∗ reached ER (cell 0 c t) 0
    ∗ dutyTok ER (cell 1 t c) 0 c ∗ reached ER (cell 1 t c) 0)
def secondRes (c t : Dev nD) : sProp 𝕄 :=
  iprop(pAt c c (shr t) G ∗ (∃ f, aAt t c f) ∗ dutyTok ER (cell 2 c t) 0 c ∗ reached ER (cell 2 c t) 0
    ∗ dutyTok ER (cell 3 t c) 0 c ∗ reached ER (cell 3 t c) 0)
def waitRes (a : Fin 4) (c t : Dev nD) : sProp 𝕄 := iprop(cred (tallyAt (cell a c t) () NN) ∗ atPos ER (cell a c t) 0 ∅ 0)
def waited (a : Fin 4) (c t : Dev nD) : sProp 𝕄 := iprop(atPos ER (cell a c t) 1 ∅ 0 ∗ dmaPay P G c a.val t)
def read1 (c t : Dev nD) : sProp 𝕄 :=
  iprop(atPos ER (cell 1 c t) 1 ∅ 0 ∗ (∃ f, rAt c t f) ∗ (if t = c then iprop(∃ f, pAt c c fullShare f) else iprop(emp)))

/-- The part of the sum `s` computes for `c`. -/
def part (c s : Dev nD) : FVec F S32x512 .bf16 := (pC c).view.read (Elt F) (P s)
def accPart (acc : FVec F S32x512 .f32) (w : FVec F S32x512 .bf16) : FVec F S32x512 .f32 := addf acc (extf .f32 w bitsLt_bf16_f32)

/-! ## Signals -/

theorem sigs_run (κ : GSem nD τ sig → ℕ) (c : Dev nD) (l : List (GSem nD τ sig × ℕ)) (k : PB F) (Q : PUnit → sProp 𝕄) :
    ∀ (ts : List (Dev nD)) (hts : ∀ t ∈ ts, c ≠ t),
    iprop(recs P G κ ∗ owesE c (due (ts.map barDue ++ l)) ∗ bigSepL ts (sigRes (F := F) c))
      ⊢ iprop((owesE c (due l) -∗ WP c k Q) -∗ WP c (sigs ts k) Q)
  | [], _ => by
    show iprop(recs P G κ ∗ owesE c (due l) ∗ emp) ⊢ iprop((owesE c (due l) -∗ WP c k Q) -∗ WP c k Q)
    iintro ⟨-, HO, -⟩ Hk
    iapply Hk $$ HO
  | t :: ts, hts => by
    rw [bigSepL_cons']
    show iprop(recs P G κ ∗ owesE c (due (barDue t :: (ts.map barDue ++ l))) ∗ sigRes c t ∗ bigSepL ts (sigRes (F := F) c))
      ⊢ iprop((owesE c (due l) -∗ WP c k Q) -∗ WP c (.op (.semSignal ((t, .tc) : Thread nD τ) bar 1) fun _ => sigs ts k) Q)
    unfold sigRes
    iintro ⟨#Hr, HO, Hs, Hl⟩ Hk
    iapply (signal_bar P G κ c t (hts t List.mem_cons_self) (ts.map barDue ++ l)) $$ [HO Hs]
    · isplitr; · iexact Hr
      isplitl [HO]; · iexact HO
      iexact Hs
    iintro HO
    iapply (sigs_run κ c l k Q ts fun t' h => hts t' (List.mem_cons_of_mem _ h)) $$ [HO Hl]
    · isplitr; · iexact Hr
      isplitl [HO]; · iexact HO
      unfold sigRes
      iexact Hl
    iexact Hk

/-! ## Copies -/

theorem sends1_run (κ : GSem nD τ sig → ℕ) (c : Dev nD) (l : List (GSem nD τ sig × ℕ)) (hp : pM.IsWhole) (hr : rM.IsWhole) (k : PB F) (Q : PUnit → sProp 𝕄) :
    ∀ (ts : List (Fin 2 × Fin 8)),
    iprop(recs P G κ ∗ owesE c (due (ts.map (fun x => firstDue c (tgt c x.1 x.2)) ++ l)) ∗ bigSepL ts (fun x => firstRes P c (tgt c x.1 x.2)))
      ⊢ iprop(((owesE c (due l) ∗ bigSepL ts (fun x => cred (tallyAt (cell 0 c (tgt c x.1 x.2)) () NN))) -∗ WP c k Q)
        -∗ WP c (sends1 pM hp rM hr cc0_scratch4 cc0_scratch5 c (ts.map fun x => (x.1, x.2, tgt c x.1 x.2)) k) Q)
  | [] => by
    show iprop(recs P G κ ∗ owesE c (due l) ∗ emp) ⊢ iprop(((owesE c (due l) ∗ emp) -∗ WP c k Q) -∗ WP c k Q)
    iintro ⟨-, HO, -⟩ Hk
    iapply Hk
    isplitl [HO]; · iexact HO
    iempintro
  | (b, j) :: ts => by
    rw [bigSepL_cons', bigSepL_cons', List.map_cons, List.map_cons, List.cons_append]
    unfold sends1
    iintro ⟨#Hr, HO, Hs, Hl⟩ Hk
    unfold firstRes
    iapply (send_first P G κ c (tgt c b j) (ts.map (fun x => firstDue c (tgt c x.1 x.2)) ++ l) (off4_eq c b j) (off3_eq c)
      (sS := semAt cc0_scratch4 _ _) (sR := semAt cc0_scratch5 _ _)
      (by simp only [off1_eq]; exact semAt_0 _ _) (by simp only [off2_eq]; exact semAt_1 _ _)) $$ [HO Hs]
    · isplitr; · iexact Hr
      icases Hs with ⟨H1, H2, H3⟩
      isplitl [H1]; · iexact H1
      isplitl [H2]; · iexact H2
      isplitl [HO]; · iexact HO
      iexact H3
    iintro ⟨Hc, HO⟩
    iapply (sends1_run κ c l hp hr k Q ts) $$ [HO Hl]
    · isplitr; · iexact Hr
      isplitl [HO]; · iexact HO
      unfold firstRes
      iexact Hl
    iintro ⟨HO, Hcs⟩
    iapply Hk
    isplitl [HO]; · iexact HO
    isplitl [Hc]; · iexact Hc
    iexact Hcs

theorem sends2_run (κ : GSem nD τ sig → ℕ) (c : Dev nD) (l : List (GSem nD τ sig × ℕ)) (hp : pM.IsWhole) (ha : aM.IsWhole) (k : PB F) (Q : PUnit → sProp 𝕄) :
    ∀ (rs : List (Fin 16)),
    iprop(recs P G κ ∗ owesE c (due (rs.map (fun r => secondDue c (nxt c r)) ++ l)) ∗ bigSepL rs (fun r => secondRes G c (nxt c r)))
      ⊢ iprop(((owesE c (due l) ∗ bigSepL rs (fun r => cred (tallyAt (cell 2 c (nxt c r)) () NN))) -∗ WP c k Q)
        -∗ WP c (sends2 pM hp aM ha cc0_scratch6 cc0_scratch7 c (rs.map fun r => (r, nxt c r)) k) Q)
  | [] => by
    show iprop(recs P G κ ∗ owesE c (due l) ∗ emp) ⊢ iprop(((owesE c (due l) ∗ emp) -∗ WP c k Q) -∗ WP c k Q)
    iintro ⟨-, HO, -⟩ Hk
    iapply Hk
    isplitl [HO]; · iexact HO
    iempintro
  | r :: rs => by
    rw [bigSepL_cons', bigSepL_cons', List.map_cons, List.map_cons, List.cons_append]
    unfold sends2
    iintro ⟨#Hr, HO, Hs, Hl⟩ Hk
    unfold secondRes
    iapply (send_second P G κ c (nxt c r) (rs.map (fun r => secondDue c (nxt c r)) ++ l) (off10_eq c)
      (sS := semAt cc0_scratch6 _ _) (sR := semAt cc0_scratch7 _ _)
      (by simp only [off9_eq]; exact semAt_2 _ _) (by simp only [off2_eq]; exact semAt_3 _ _)) $$ [HO Hs]
    · isplitr; · iexact Hr
      icases Hs with ⟨H1, H2, H3⟩
      isplitl [H1]; · iexact H1
      isplitl [H2]; · iexact H2
      isplitl [HO]; · iexact HO
      iexact H3
    iintro ⟨Hc, HO⟩
    iapply (sends2_run κ c l hp ha k Q rs) $$ [HO Hl]
    · isplitr; · iexact Hr
      isplitl [HO]; · iexact HO
      unfold secondRes
      iexact Hl
    iintro ⟨HO, Hcs⟩
    iapply Hk
    isplitl [HO]; · iexact HO
    isplitl [Hc]; · iexact Hc
    iexact Hcs

/-! ## Waits for sources -/

theorem waits1_run (κ : GSem nD τ sig → ℕ) (c : Dev nD) (hp : pM.IsWhole) (hr : rM.IsWhole) (k : PB F) (Q : PUnit → sProp 𝕄) :
    ∀ (ts : List (Fin 2 × Fin 8)),
    iprop(recs P G κ ∗ owesE c (due []) ∗ bigSepL ts (fun x => waitRes (F := F) 0 c (tgt c x.1 x.2)))
      ⊢ iprop(((owesE c (due []) ∗ bigSepL ts (fun x => waited P G 0 c (tgt c x.1 x.2))) -∗ WP c k Q)
        -∗ WP c (waits1 pM hp rM hr cc0_scratch4 c ts k) Q)
  | [] => by
    show iprop(recs P G κ ∗ owesE c (due []) ∗ emp) ⊢ iprop(((owesE c (due []) ∗ emp) -∗ WP c k Q) -∗ WP c k Q)
    iintro ⟨-, HO, -⟩ Hk
    iapply Hk
    isplitl [HO]; · iexact HO
    iempintro
  | (b, j) :: ts => by
    rw [bigSepL_cons', bigSepL_cons']
    unfold waits1
    iintro ⟨#Hr, HO, Hs, Hl⟩ Hk
    unfold waitRes
    icases Hs with ⟨Hc, Hat⟩
    iapply (wait_cell P G κ 0 c (tgt c b j) [] (fun _ h => absurd h List.not_mem_nil)
      (sem := semAt cc0_scratch4 _ _) (by simp only [off1_eq]; exact semAt_0 _ _) (by rfl)) $$ [HO Hc Hat]
    · isplitr; · iexact Hr
      isplitl [Hc]; · iexact Hc
      isplitl [HO]; · iexact HO
      iexact Hat
    iintro ⟨HO, Hat, Hp⟩
    iapply (waits1_run κ c hp hr k Q ts) $$ [HO Hl]
    · isplitr; · iexact Hr
      isplitl [HO]; · iexact HO
      unfold waitRes
      iexact Hl
    iintro ⟨HO, Hcs⟩
    iapply Hk
    isplitl [HO]; · iexact HO
    isplitl [Hat Hp]
    · unfold waited
      isplitl [Hat]; · iexact Hat
      iexact Hp
    iexact Hcs

theorem waits2_run (κ : GSem nD τ sig → ℕ) (c : Dev nD) (hp : pM.IsWhole) (ha : aM.IsWhole) (k : PB F) (Q : PUnit → sProp 𝕄) :
    ∀ (rs : List (Fin 16)),
    iprop(recs P G κ ∗ owesE c (due []) ∗ bigSepL rs (fun r => waitRes (F := F) 2 c (nxt c r)))
      ⊢ iprop(((owesE c (due []) ∗ bigSepL rs (fun r => waited P G 2 c (nxt c r))) -∗ WP c k Q)
        -∗ WP c (waits2 pM hp aM ha cc0_scratch6 c rs k) Q)
  | [] => by
    show iprop(recs P G κ ∗ owesE c (due []) ∗ emp) ⊢ iprop(((owesE c (due []) ∗ emp) -∗ WP c k Q) -∗ WP c k Q)
    iintro ⟨-, HO, -⟩ Hk
    iapply Hk
    isplitl [HO]; · iexact HO
    iempintro
  | r :: rs => by
    rw [bigSepL_cons', bigSepL_cons']
    unfold waits2
    iintro ⟨#Hr, HO, Hs, Hl⟩ Hk
    unfold waitRes
    icases Hs with ⟨Hc, Hat⟩
    iapply (wait_cell P G κ 2 c (nxt c r) [] (fun _ h => absurd h List.not_mem_nil)
      (sem := semAt cc0_scratch6 _ _) (by simp only [off9_eq]; exact semAt_2 _ _) (by rfl)) $$ [HO Hc Hat]
    · isplitr; · iexact Hr
      isplitl [Hc]; · iexact Hc
      isplitl [HO]; · iexact HO
      iexact Hat
    iintro ⟨HO, Hat, Hp⟩
    iapply (waits2_run κ c hp ha k Q rs) $$ [HO Hl]
    · isplitr; · iexact Hr
      isplitl [HO]; · iexact HO
      unfold waitRes
      iexact Hl
    iintro ⟨HO, Hcs⟩
    iapply Hk
    isplitl [HO]; · iexact HO
    isplitl [Hat Hp]
    · unfold waited
      isplitl [Hat]; · iexact Hat
      iexact Hp
    iexact Hcs

/-! ## The slots -/

theorem load_slot (c s : Dev nD) {o : Fin 3 → Nat} (eo : o = slotOff s) {h} {hl} (f : Buf (Elt F) ((rC s).view.loc (c : Thread nD τ)))
    (w : FVec F S32x512 .bf16) (hw : (rC s).view.read (Elt F) f = w) (k : Vec F S1x32x512 .bf16 → PB F) (Q : PUnit → sProp 𝕄) :
    (rAt c s f : sProp 𝕄) ⊢ iprop((∀ v : Vec F S1x32x512 .bf16, ⌜shapeCast S32x512 v shapeCasts_S1x32x512_S32x512 = w⌝ -∗ rAt c s f -∗ WP c (k v) Q)
      -∗ WP c (.op (.load rM (Rect.unit (s := S16x32x512) o S1x32x512.size h).toLoadRect hl) k) Q) := by
  subst eo hw
  unfold rAt
  iintro H Hk
  have hS : (rM.access (Rect.unit (s := S16x32x512) (slotOff s) S1x32x512.size h)).set ⊆ (rC s).view.set := by
    rw [show (rC s).view.set = _ from View.set_reshape _ _]
  iapply (wp_load_rect 𝒱₀ (c : Thread nD τ) none Set.univ hS) $$ H
  iintro H
  iapply Hk $$ [] H
  ipureintro
  rfl

theorem recv_run (κ : GSem nD τ sig → ℕ) (c : Dev nD) (l : List (GSem nD τ sig × ℕ)) (hl : ∀ p ∈ l, p.1.1.2 = .tc ∧ 2 < lvS p.1.2)
    (hr : rM.IsWhole) (j : Fin 16) (k : Vec F S1x32x512 .bf16 → PB F) (Q : PUnit → sProp 𝕄) :
    iprop(recs P G κ ∗ owesE c (due l) ∗ waitRes (F := F) 1 c (src c j))
      ⊢ iprop((∀ v : Vec F S1x32x512 .bf16, ⌜shapeCast S32x512 v shapeCasts_S1x32x512_S32x512 = part P c (src c j)⌝
          -∗ (owesE c (due l) ∗ read1 c (src c j)) -∗ WP c (k v) Q)
        -∗ WP c (recv rM hr cc0_scratch5 c j k) Q) := by
  unfold recv waitRes
  iintro ⟨#Hr, HO, Hc, Hat⟩ Hk
  iapply (wait_cell P G κ 1 c (src c j) l (fun p h => ⟨(hl p h).1, by rw [lvS_cell]; exact (hl p h).2⟩)
      (sem := semAt cc0_scratch5 _ _) (by simp only [off5_eq]; exact semAt_1 _ _) (by rfl)) $$ [HO Hc Hat]
  · isplitr; · iexact Hr
    isplitl [Hc]; · iexact Hc
    isplitl [HO]; · iexact HO
    iexact Hat
  iintro ⟨HO, Hat, Hp⟩
  ihave Hp' := (Entails.of_eq (show dmaPay P G c (1 : Fin 4).val (src c j) = dstPay P c (src c j) from rfl)) $$ Hp
  unfold dstPay
  icases Hp' with ⟨⟨%f, Hf, %hf⟩, Hown⟩
  iapply (load_slot c (src c j) (off7_eq c j) f (part P c (src c j)) hf) $$ Hf
  iintro %v %hv Hf
  iapply Hk $$ []
  · ipureintro; exact hv
  unfold read1
  isplitl [HO]; · iexact HO
  isplitl [Hat]; · iexact Hat
  isplitl [Hf]; · iexists f; iexact Hf
  iexact Hown

theorem recvs_run (κ : GSem nD τ sig → ℕ) (c : Dev nD) (l : List (GSem nD τ sig × ℕ)) (hl : ∀ p ∈ l, p.1.1.2 = .tc ∧ 2 < lvS p.1.2)
    (hr : rM.IsWhole) (k : FVec F S32x512 .f32 → PB F) (Q : PUnit → sProp 𝕄) :
    ∀ (js : List (Fin 16)) (acc : FVec F S32x512 .f32),
    iprop(recs P G κ ∗ owesE c (due l) ∗ bigSepL js (fun j => waitRes (F := F) 1 c (src c j)))
      ⊢ iprop(((owesE c (due l) ∗ bigSepL js (fun j => read1 (F := F) c (src c j)))
            -∗ WP c (k (js.foldl (fun acc j => accPart acc (part P c (src c j))) acc)) Q)
        -∗ WP c (recvs rM hr cc0_scratch5 c js acc k) Q)
  | [], acc => by
    show iprop(recs P G κ ∗ owesE c (due l) ∗ emp) ⊢ iprop(((owesE c (due l) ∗ emp) -∗ WP c (k acc) Q) -∗ WP c (k acc) Q)
    iintro ⟨-, HO, -⟩ Hk
    iapply Hk
    isplitl [HO]; · iexact HO
    iempintro
  | j :: js, acc => by
    rw [bigSepL_cons', bigSepL_cons']
    unfold recvs
    iintro ⟨#Hr, HO, Hs, Hl⟩ Hk
    iapply (recv_run P G κ c l hl hr j) $$ [HO Hs]
    · isplitr; · iexact Hr
      isplitl [HO]; · iexact HO
      iexact Hs
    iintro %v %hv ⟨HO, H1⟩
    iapply (recvs_run κ c l hl hr k Q js (accAdd acc v)) $$ [HO Hl]
    · isplitr; · iexact Hr
      isplitl [HO]; · iexact HO
      iexact Hl
    iintro ⟨HO, Hcs⟩
    rw [show accAdd acc v = accPart acc (part P c (src c j)) from by rw [← hv]; rfl]
    iapply Hk
    isplitl [HO]; · iexact HO
    isplitl [H1]; · iexact H1
    iexact Hcs

end Cert.KernelIdeal.Stage

end
-- ==== Proof.Blocks.lean ====
/- The stages that compute, block by block. -/
module

public import proofs.«01_k».proof.Proof.Stages

@[expose] public section

set_option maxRecDepth 16384

noncomputable section

namespace Cert.KernelIdeal.Stage

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.SL.BI (bigSepL bigSepL_cons' bigSepL_nil)
open Cert.KernelIdeal Cert.KernelIdeal.Gen

variable {F : FTy → Type} [FloatOps F] [Named F]

local notation "𝕄" => MT nD τ sig Unit (Elt F) ℕ UU ℕ

variable (P : Dev nD → Vec F S512x512 .bf16) (G : Vec F S512x512 .bf16)

/-! ## The staged blocks -/

abbrev xM : Memref sig .tc .vmem S512x512 .f32 := Memref.whole cc0_stg0_0
abbrev wM : Memref sig .tc .vmem S512x256 .f32 := Memref.whole cc0_stg1_0
abbrev kM : Memref sig .tc .vmem S2x4x64x256 .f32 := Memref.whole cc0_stg2_0
abbrev vM : Memref sig .tc .vmem S512x256 .f32 := Memref.whole cc0_stg3_0
abbrev woM : Memref sig .tc .vmem S256x512 .f32 := Memref.whole cc0_stg4_0
abbrev oM : Memref sig .tc .vmem S512x512 .f32 := Memref.whole cc0_stg5_0

/-- A whole buffer on device `c` at contents `f`. -/
abbrev hold {b : Ref sig .tc} (c : Dev nD) (f : b.ty.Contents (Elt F)) : sProp 𝕄 :=
  ((c : Thread nD τ).loc b) ↦[Finset.univ]{fullShare} f

/-- The result: the reduced array, widened. -/
def outOf (G : Vec F S512x512 .bf16) : Vec F S512x512 .f32 := extf .f32 (G : FVec F S512x512 .bf16) bitsLt_bf16_f32

/-! ## Loads and stores of a whole buffer's parts -/

theorem load_of (c : Dev nD) {s : Shape} {e : EltTy} {m : Memref sig .tc .vmem s e} {r : Rect s} {hl : m.view.LoadsAt r.toLoadRect}
    (f : Buf (Elt F) ((m.access r).loc (c : Thread nD τ))) (k : (r.shape.Idx → Elt F e) → PB F) (Q : PUnit → sProp 𝕄) :
    ((m.access r).loc (c : Thread nD τ) ↦[Finset.univ]{fullShare} f : sProp 𝕄)
      ⊢ iprop((((m.access r).loc (c : Thread nD τ) ↦[Finset.univ]{fullShare} f) -∗ WP c (k ((m.access r).read (Elt F) f)) Q)
        -∗ WP c (.op (.load m r.toLoadRect hl) k) Q) :=
  wp_load_rect 𝒱₀ (c : Thread nD τ) none Set.univ (Finset.subset_univ _)

/-- A store whose words are what `T` holds there: `T` holds there afterwards, the rest stays. -/
theorem store_of (c : Dev nD) {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    (S : Finset (Idx ((m.access r).loc (c : Thread nD τ)))) (hS : (m.access r).set ⊆ S)
    (T f : Buf (Elt F) ((m.access r).loc (c : Thread nD τ))) (hw : w = (m.access r).read (Elt F) T) (k : PUnit → PB F) (Q : PUnit → sProp 𝕄) :
    ((m.access r).loc (c : Thread nD τ) ↦[S]{fullShare} f : sProp 𝕄)
      ⊢ iprop((((m.access r).loc (c : Thread nD τ) ↦[S]{fullShare} ((m.access r).set.piecewise T f)) -∗ WP c (k ⟨⟩) Q)
        -∗ WP c (.op (.store m r w Finset.univ hx hm) k) Q) := by
  subst hw
  have h := wp_store (Val := Elt F) (defs := defs₀ (F := F)) (Γ := PendingWaitsCtx.empty) (Q := Q) (k := k) (hx := hx) (hm := hm) (w := (m.access r).read (Elt F) T) (f := f) (Mk := Finset.univ) 𝒱₀ (c : Thread nD τ) none Set.univ (S := S) hS
  rw [View.write_read_eq_piecewise] at h
  exact h

/-! ## The reduced chunk -/

theorem own_run (c : Dev nD) (hp : pM.IsWhole) (v : FVec F S32x512 .bf16) (hv : v = (pC c).view.read (Elt F) G) (k : PB F) (Q : PUnit → sProp 𝕄) :
    iprop(∃ f, pAt (F := F) c c fullShare f) ⊢ iprop((pAt c c fullShare G -∗ WP c k Q) -∗ WP c (own pM hp c v k) Q) := by
  unfold own pAt
  have key : ∀ (o : Fin 2 → Nat) (ho) (e : o = rowOff c) (hl) (hx) (f : Buf (Elt F) ((pC c).view.loc (c : Thread nD τ))),
      ((pC c).view.loc (c : Thread nD τ) ↦[(pC c).view.set]{fullShare} f : sProp 𝕄)
        ⊢ iprop((((pC c).view.loc (c : Thread nD τ) ↦[(pC c).view.set]{fullShare} G) -∗ WP c k Q)
          -∗ WP c (.op (.load pM (Rect.unit (s := S512x512) o S32x512.size ho).toLoadRect hl) fun _ =>
              .op (.store pM (Rect.unit (s := S512x512) o S32x512.size ho) v Finset.univ hx (.inl rfl)) fun _ => k) Q) := by
    intro o ho e hl hx f
    subst e
    iintro H Hk
    iapply (wp_load_rect 𝒱₀ (c : Thread nD τ) none Set.univ (m := pM) (r := Rect.unit (s := S512x512) (rowOff c) S32x512.size ho) (S := (pC c).view.set) (Finset.Subset.refl _)) $$ H
    iintro H
    iapply (store_of c (m := pM) (r := Rect.unit (s := S512x512) (rowOff c) S32x512.size ho) (pC c).view.set (Finset.Subset.refl _) G f hv) $$ H
    iintro H
    iapply Hk
    iapply (Entails.of_eq (pointsTo_congr (f := (pC c).view.set.piecewise G f) (g := G) (fun i hi => Finset.piecewise_eq_of_mem _ _ _ hi))) $$ H
  iintro ⟨%f, H⟩ Hk
  iapply (key _ (k0_off8_inb c) (off8_eq c) _ _ f) $$ H
  iexact Hk

/-! ## The gathered chunks -/

theorem load_chunk (c s : Dev nD) {o : Fin 2 → Nat} (eo : o = rowOff s) {h} {hl} (k : Vec F S32x512 .bf16 → PB F) (Q : PUnit → sProp 𝕄) :
    (aAt c s G : sProp 𝕄) ⊢ iprop((aAt c s G -∗ WP c (k ((aC s).view.read (Elt F) G)) Q)
      -∗ WP c (.op (.load aM (Rect.unit (s := S512x512) o S32x512.size h).toLoadRect hl) k) Q) := by
  subst eo
  unfold aAt
  exact wp_load_rect 𝒱₀ (c : Thread nD τ) none Set.univ (m := aM) (r := Rect.unit (s := S512x512) (rowOff s) S32x512.size h) (S := (aC s).view.set) (Finset.Subset.refl _)

theorem out_step (c s : Dev nD) {o : Fin 2 → Nat} (eo : o = rowOff s) {h} {hl} {hx} {hm} (f : Vec F S512x512 .f32) (k : PB F) (Q : PUnit → sProp 𝕄) :
    (hold (b := cc0_stg5_0) c f : sProp 𝕄) ⊢ iprop((hold (b := cc0_stg5_0) c ((rowsOf s).piecewise (outOf G) f) -∗ WP c k Q)
      -∗ WP c (.op (.load oM (Rect.unit (s := S512x512) o S32x512.size h).toLoadRect hl) fun _ =>
          .op (.store oM (Rect.unit (s := S512x512) o S32x512.size h) (k0_pay38 (F := F) ((aC s).view.read (Elt F) G)) Finset.univ hx hm) fun _ => k) Q) := by
  subst eo
  iintro H Hk
  iapply (load_of c (m := oM) (r := Rect.unit (s := S512x512) (rowOff s) S32x512.size h) f) $$ H
  iintro H
  iapply (store_of c (m := oM) (r := Rect.unit (s := S512x512) (rowOff s) S32x512.size h) Finset.univ (Finset.subset_univ _) (outOf G) f rfl) $$ H
  have e : (oM.access (Rect.unit (s := S512x512) (rowOff s) S32x512.size h)).set = rowsOf s := by
    ext i
    rw [show (oM.access (Rect.unit (s := S512x512) (rowOff s) S32x512.size h)).set = _ from View.set_slice_whole cc0_stg5_0 _]
    exact (mem_rowRect s h i).trans (mem_rowsOf s i).symm
  rw [e]
  iintro H
  iapply Hk $$ H

theorem gathers_run (κ : GSem nD τ sig → ℕ) (c : Dev nD) (hp : pM.IsWhole) (ha : aM.IsWhole) (k : PB F) (Q : PUnit → sProp 𝕄) :
    ∀ (js : List (Fin 16)) (f : Vec F S512x512 .f32),
    iprop(recs P G κ ∗ owesE c (due []) ∗ bigSepL js (fun j => waitRes (F := F) 3 c (src c j)) ∗ hold (b := cc0_stg5_0) c f)
      ⊢ iprop((∀ f' : Vec F S512x512 .f32, ⌜∀ i, ((∃ j ∈ js, i ∈ rowsOf (src c j)) ∨ f i = outOf G i) → f' i = outOf G i⌝
          -∗ (owesE c (due []) ∗ bigSepL js (fun j => waited P G 3 c (src c j)) ∗ hold (b := cc0_stg5_0) c f') -∗ WP c k Q)
        -∗ WP c (gathers oM pM hp aM ha cc0_scratch7 c js k) Q)
  | [], f => by
    show iprop(recs P G κ ∗ owesE c (due []) ∗ emp ∗ hold (b := cc0_stg5_0) c f)
      ⊢ iprop((∀ f' : Vec F S512x512 .f32, ⌜∀ i, ((∃ j ∈ [], i ∈ rowsOf (src c j)) ∨ f i = outOf G i) → f' i = outOf G i⌝
          -∗ (owesE c (due []) ∗ emp ∗ hold (b := cc0_stg5_0) c f') -∗ WP c k Q) -∗ WP c k Q)
    iintro ⟨-, HO, -, Hf⟩ Hk
    iapply Hk $$ %f []
    · ipureintro
      intro i hi
      rcases hi with ⟨_, h, _⟩ | h
      · exact absurd h List.not_mem_nil
      · exact h
    isplitl [HO]; · iexact HO
    isplitr; · iempintro
    iexact Hf
  | j :: js, f => by
    rw [bigSepL_cons', bigSepL_cons']
    unfold gathers
    iintro ⟨#Hr, HO, ⟨Hs, Hl⟩, Hf⟩ Hk
    unfold waitRes
    icases Hs with ⟨Hc, Hat⟩
    iapply (wait_cell P G κ 3 c (src c j) [] (fun _ h => absurd h List.not_mem_nil)
      (sem := semAt cc0_scratch7 _ _) (by simp only [off5_eq]; exact semAt_3 _ _) (by rfl)) $$ [HO Hc Hat]
    · isplitr; · iexact Hr
      isplitl [Hc]; · iexact Hc
      isplitl [HO]; · iexact HO
      iexact Hat
    iintro ⟨HO, Hat, Hp⟩
    ihave Hp' := (Entails.of_eq (show dmaPay P G c (3 : Fin 4).val (src c j) = aAt c (src c j) G from rfl)) $$ Hp
    iapply (load_chunk G c (src c j) (off12_eq c j)) $$ Hp'
    iintro Hp
    iapply (out_step G c (src c j) (off12_eq c j) f) $$ Hf
    iintro Hf
    iapply (gathers_run κ c hp ha k Q js _) $$ [HO Hl Hf]
    · isplitr; · iexact Hr
      isplitl [HO]; · iexact HO
      isplitl [Hl]; · unfold waitRes; iexact Hl
      iexact Hf
    iintro %f' %hf' ⟨HO, Hcs, Hf⟩
    iapply Hk $$ %f' []
    · ipureintro
      intro i hi
      by_cases hj : i ∈ rowsOf (src c j)
      · exact hf' i (.inr (Finset.piecewise_eq_of_mem _ _ _ hj))
      · rcases hi with ⟨j', h, h'⟩ | h
        · rcases List.mem_cons.1 h with rfl | h
          · exact absurd h' hj
          · exact hf' i (.inl ⟨j', h, h'⟩)
        · exact hf' i (.inr ((Finset.piecewise_eq_of_notMem _ _ _ hj).trans h))
    isplitl [HO]; · iexact HO
    isplitl [Hat Hp Hcs]
    · isplitl [Hat Hp]
      · unfold waited
        isplitl [Hat]; · iexact Hat
        iapply (Entails.of_eq (show aAt c (src c j) G = dmaPay P G c (3 : Fin 4).val (src c j) from rfl)) $$ Hp
      iexact Hcs
    iexact Hf

/-! ## Queries, heads, projection -/

theorem queries_run (c : Dev nD) (X : Vec F S512x512 .f32) (W : Vec F S512x256 .f32) (k : FVec F S512x256 .f32 → PB F) (Q : PUnit → sProp 𝕄) :
    iprop(hold (b := cc0_stg0_0) c X ∗ hold (b := cc0_stg1_0) c W)
      ⊢ iprop(((hold (b := cc0_stg0_0) c X ∗ hold (b := cc0_stg1_0) c W) -∗ WP c (k (k0_pay1 X W)) Q) -∗ WP c (queries xM wM k) Q) := by
  unfold queries
  iintro ⟨Hx, Hw⟩ Hk
  iapply (load_of c (m := xM) (r := Rect.unit (s := S512x512) ![0, 0] S512x512.size inb_S512x512_S512x512_0_0) X) $$ Hx
  iintro Hx
  iapply (load_of c (m := wM) (r := Rect.unit (s := S512x256) ![0, 0] S512x256.size inb_S512x256_S512x256_0_0) W) $$ Hw
  iintro Hw
  have hz2 : (![0, 0] : Fin 2 → Nat) = fun _ => 0 := by funext a; revert a; decide
  have eX : (xM.access (Rect.unit (s := S512x512) ![0, 0] S512x512.size inb_S512x512_S512x512_0_0)).read (Elt F) X = X :=
    Memref.read_access_unit_zero (Elt F) cc0_stg0_0 hz2 _ X
  have eW : (wM.access (Rect.unit (s := S512x256) ![0, 0] S512x256.size inb_S512x256_S512x256_0_0)).read (Elt F) W = W :=
    Memref.read_access_unit_zero (Elt F) cc0_stg1_0 hz2 _ W
  rw [eX, eW]
  iapply Hk
  isplitl [Hx]; · iexact Hx
  iexact Hw

/-- The rows of batch `b`, columns of head `h`. -/
abbrev headRect (b : Fin 2) (h : Fin 4) : Rect S512x256 := Rect.unit (s := S512x256) ![256 * b.val, 64 * h.val] S256x64.size (inbC b h)
abbrev keyRect (b : Fin 2) (h : Fin 4) : Rect S2x4x64x256 := Rect.unit (s := S2x4x64x256) ![b.val, h.val, 0, 0] S1x1x64x256.size (inbK b h)
abbrev ctxRect (b : Fin 2) : Rect S512x256 := Rect.unit (s := S512x256) ![256 * b.val, 0] S256x256.size (inbR b)
abbrev projRect (b : Fin 2) : Rect S512x512 := Rect.unit (s := S512x512) ![256 * b.val, 0] S256x512.size (inbP b)

theorem mem_headRect (b : Fin 2) (h : Fin 4) (i : S512x256.Idx) : i ∈ (headRect b h).set ↔ (i 0).val / 256 = b.val ∧ (i 1).val / 64 = h.val := by
  rw [Rect.mem_set_unit, Fin.forall_fin_two]
  show (256 * b.val ≤ (i 0).val ∧ (i 0).val < 256 * b.val + 256) ∧ (64 * h.val ≤ (i 1).val ∧ (i 1).val < 64 * h.val + 64) ↔ _
  omega
theorem mem_ctxRect (b : Fin 2) (i : S512x256.Idx) : i ∈ (ctxRect b).set ↔ (i 0).val / 256 = b.val := by
  rw [Rect.mem_set_unit, Fin.forall_fin_two]
  have h1 : (i 1).val < 256 := (i 1).isLt
  show (256 * b.val ≤ (i 0).val ∧ (i 0).val < 256 * b.val + 256) ∧ (0 ≤ (i 1).val ∧ (i 1).val < 0 + 256) ↔ _
  omega
theorem mem_projRect (b : Fin 2) (i : S512x512.Idx) : i ∈ (projRect b).set ↔ (i 0).val / 256 = b.val := by
  rw [Rect.mem_set_unit, Fin.forall_fin_two]
  have h1 : (i 1).val < 512 := (i 1).isLt
  show (256 * b.val ≤ (i 0).val ∧ (i 0).val < 256 * b.val + 256) ∧ (0 ≤ (i 1).val ∧ (i 1).val < 0 + 512) ↔ _
  omega

theorem head_set (b : Fin 2) (h : Fin 4) : (cM.access (headRect b h)).set = (headRect b h).set := View.set_slice_whole cc0_scratch1 _
theorem proj_set (b : Fin 2) : (pM.access (projRect b)).set = halfOf b := by
  ext i
  rw [show (pM.access (projRect b)).set = _ from View.set_slice_whole cc0_scratch0 _]
  exact (mem_projRect b i).trans (mem_halfOf b i).symm

theorem heads_run (c : Dev nD) (b : Fin 2) (q : FVec F S512x256 .f32) (KT : Vec F S2x4x64x256 .f32) (VV : Vec F S512x256 .f32) (C : Vec F S512x256 .f32)
    (hC : ∀ h, (cM.access (headRect b h)).read (Elt F) C = headOut b h q ((kM.access (keyRect b h)).read (Elt F) KT) ((vM.access (headRect b h)).read (Elt F) VV))
    (k : PB F) (Q : PUnit → sProp 𝕄) :
    ∀ (hs : List (Fin 4)) (f : Vec F S512x256 .f32),
    iprop(hold (b := cc0_stg2_0) c KT ∗ hold (b := cc0_stg3_0) c VV ∗ hold (b := cc0_scratch1) c f)
      ⊢ iprop((∀ f' : Vec F S512x256 .f32, ⌜∀ i, ((∃ h ∈ hs, i ∈ (headRect b h).set) ∨ f i = C i) → f' i = C i⌝
          -∗ (hold (b := cc0_stg2_0) c KT ∗ hold (b := cc0_stg3_0) c VV ∗ hold (b := cc0_scratch1) c f') -∗ WP c k Q)
        -∗ WP c (heads kM vM cM b q hs k) Q)
  | [], f => by
    unfold heads
    iintro H Hk
    iapply Hk $$ %f [] H
    ipureintro
    intro i hi
    rcases hi with ⟨_, h, _⟩ | h
    · exact absurd h List.not_mem_nil
    · exact h
  | h :: hs, f => by
    unfold heads
    iintro ⟨HK, HV, Hf⟩ Hk
    iapply (load_of c (m := kM) (r := keyRect b h) KT) $$ HK
    iintro HK
    iapply (load_of c (m := vM) (r := headRect b h) VV) $$ HV
    iintro HV
    iapply (load_of c (m := cM) (r := headRect b h) f) $$ Hf
    iintro Hf
    iapply (store_of c (m := cM) (r := headRect b h) Finset.univ (Finset.subset_univ _) C f (hC h).symm) $$ Hf
    rw [head_set]
    iintro Hf
    iapply (heads_run c b q KT VV C hC k Q hs _) $$ [HK HV Hf]
    · isplitl [HK]; · iexact HK
      isplitl [HV]; · iexact HV
      iexact Hf
    iintro %f' %hf' H
    iapply Hk $$ %f' [] H
    ipureintro
    intro i hi
    by_cases hj : i ∈ (headRect b h).set
    · exact hf' i (.inr (Finset.piecewise_eq_of_mem _ _ _ hj))
    · rcases hi with ⟨j', hm, h'⟩ | hm
      · rcases List.mem_cons.1 hm with rfl | hm
        · exact absurd h' hj
        · exact hf' i (.inl ⟨j', hm, h'⟩)
      · exact hf' i (.inr ((Finset.piecewise_eq_of_notMem _ _ _ hj).trans hm))

/-- All four heads of a batch fill its rows. -/
theorem heads_all (b : Fin 2) (i : S512x256.Idx) (hi : (i 0).val / 256 = b.val) : ∃ h ∈ [(0 : Fin 4), 1, 2, 3], i ∈ (headRect b h).set := by
  have h1 : (i 1).val < 256 := (i 1).isLt
  have hm : ∀ h : Fin 4, h ∈ [(0 : Fin 4), 1, 2, 3] := by decide
  exact ⟨⟨(i 1).val / 64, by omega⟩, hm _, (mem_headRect b _ i).2 ⟨hi, rfl⟩⟩

theorem read_rows (b : Fin 2) (f C : Vec F S512x256 .f32) (h : ∀ i : S512x256.Idx, (i 0).val / 256 = b.val → f i = C i) :
    (cM.access (ctxRect b)).read (Elt F) f = (cM.access (ctxRect b)).read (Elt F) C := by
  funext j
  refine h _ ((mem_ctxRect b _).1 ?_)
  rw [← Rect.map_emb_univ]; exact Finset.mem_map_of_mem _ (Finset.mem_univ j)

theorem proj_run (c : Dev nD) (hp : pM.IsWhole) (b : Fin 2) (C : Vec F S512x256 .f32) (WO : Vec F S256x512 .f32)
    (hP : (pM.access (projRect b)).read (Elt F) (P c) = k0_pay14 ((cM.access (ctxRect b)).read (Elt F) C) WO)
    (f : Vec F S512x256 .f32) (hf : ∀ i : S512x256.Idx, (i 0).val / 256 = b.val → f i = C i) (k : PB F) (Q : PUnit → sProp 𝕄) :
    iprop(hold (b := cc0_scratch1) c f ∗ hold (b := cc0_stg4_0) c WO ∗ (∃ g, (c : Thread nD τ).loc cc0_scratch0 ↦[halfOf b]{fullShare} g))
      ⊢ iprop(((hold (b := cc0_scratch1) c f ∗ hold (b := cc0_stg4_0) c WO ∗ ((c : Thread nD τ).loc cc0_scratch0 ↦[halfOf b]{fullShare} (P c))) -∗ WP c k Q)
        -∗ WP c (proj woM pM hp cM b k) Q) := by
  unfold proj
  iintro ⟨Hf, Hw, ⟨%g, Hg⟩⟩ Hk
  iapply (load_of c (m := cM) (r := ctxRect b) f) $$ Hf
  iintro Hf
  iapply (load_of c (m := woM) (r := Rect.unit (s := S256x512) ![0, 0] S256x512.size inb_S256x512_S256x512_0_0) WO) $$ Hw
  iintro Hw
  have hz2 : (![0, 0] : Fin 2 → Nat) = fun _ => 0 := by funext a; revert a; decide
  have eW : (woM.access (Rect.unit (s := S256x512) ![0, 0] S256x512.size inb_S256x512_S256x512_0_0)).read (Elt F) WO = WO :=
    Memref.read_access_unit_zero (Elt F) cc0_stg4_0 hz2 _ WO
  rw [eW, read_rows b f C hf]
  iapply (wp_load_rect 𝒱₀ (c : Thread nD τ) none Set.univ (m := pM) (r := projRect b) (S := halfOf b) (proj_set b).le) $$ Hg
  iintro Hg
  iapply (store_of c (m := pM) (r := projRect b) (halfOf b) (proj_set b).le (P c) g hP.symm) $$ Hg
  iintro Hg
  iapply Hk
  isplitl [Hf]; · iexact Hf
  isplitl [Hw]; · iexact Hw
  iapply (Entails.of_eq (pointsTo_congr (f := (pM.access (projRect b)).set.piecewise (P c) g) (g := P c) (I := halfOf b)
    (fun i hi => Finset.piecewise_eq_of_mem _ _ _ ((proj_set b).symm ▸ hi)))) $$ Hg

end Cert.KernelIdeal.Stage

end
-- ==== Proof.Parts.lean ====
/- Families over the devices as lists, and buffers as their parts. -/
module

public import proofs.«01_k».proof.Proof.Blocks

@[expose] public section

set_option maxRecDepth 16384

noncomputable section

namespace Cert.KernelIdeal.Stage

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.SL.BI (bigSepL bigSepL_cons' bigSepL_nil)
open Cert.KernelIdeal Cert.KernelIdeal.Gen

variable {F : FTy → Type} [FloatOps F] [Named F]

local notation "𝕄" => MT nD τ sig Unit (Elt F) ℕ UU ℕ

variable (P : Dev nD → Vec F S512x512 .bf16) (G : Vec F S512x512 .bf16)

/-! ## Families over the devices, in the body's orders -/

def pairs0 : List (Fin 2 × Fin 8) := (List.finRange 8).map fun j => (0, j)
def pairs1 : List (Fin 2 × Fin 8) := (List.finRange 8).map fun j => (1, j)

theorem list10_pairs (d : Dev nD) : list10 d = pairs0.map fun x => (x.1, x.2, tgt d x.1 x.2) := by
  rw [list10_eq, pairs0, List.map_map]; rfl
theorem list11_pairs (d : Dev nD) : list11 d = pairs1.map fun x => (x.1, x.2, tgt d x.1 x.2) := by
  rw [list11_eq, pairs1, List.map_map]; rfl

theorem pairs_all : ∀ c : Dev nD, (Finset.univ : Finset (Fin 16)) = ((pairs0 ++ pairs1).map fun x => tgt c x.1 x.2).toFinset ∧ ((pairs0 ++ pairs1).map fun x => tgt c x.1 x.2).Nodup := by
  decide +kernel
theorem nxt_all : ∀ c : Dev nD, (Finset.univ : Finset (Fin 16)) = ((List.finRange 16).map (nxt c)).toFinset ∧ ((List.finRange 16).map (nxt c)).Nodup := by
  decide +kernel
theorem src_all : ∀ c : Dev nD, (Finset.univ : Finset (Fin 16)) = ((0 :: order).map (src c)).toFinset ∧ ((0 :: order).map (src c)).Nodup := by
  decide +kernel
theorem listB_all : ∀ c : Dev nD, (Finset.univ : Finset (Fin 16)).erase c = (listB c).toFinset ∧ (listB c).Nodup ∧ ∀ t ∈ listB c, c ≠ t := by
  decide +kernel

theorem over_pairs (c : Dev nD) (Φ : Fin 16 → sProp 𝕄) :
    bigSep Finset.univ Φ = iprop(bigSepL pairs0 (fun x => Φ (tgt c x.1 x.2)) ∗ bigSepL pairs1 (fun x => Φ (tgt c x.1 x.2))) := by
  rw [bigSep_univ_eq_bigSepL _ (pairs_all c).1 (pairs_all c).2, bigSepL_map, bigSepL_append]
theorem over_nxt (c : Dev nD) (Φ : Fin 16 → sProp 𝕄) : bigSep Finset.univ Φ = bigSepL (List.finRange 16) (fun r => Φ (nxt c r)) := by
  rw [bigSep_univ_eq_bigSepL _ (nxt_all c).1 (nxt_all c).2, bigSepL_map]
theorem over_src (c : Dev nD) (Φ : Fin 16 → sProp 𝕄) : bigSep Finset.univ Φ = bigSepL (0 :: order) (fun j => Φ (src c j)) := by
  rw [bigSep_univ_eq_bigSepL _ (src_all c).1 (src_all c).2, bigSepL_map]
theorem over_listB (c : Dev nD) (Φ : Fin 16 → sProp 𝕄) : bigSep (Finset.univ.erase c) Φ = bigSepL (listB c) Φ :=
  bigSep_eq_bigSepL_of_eq _ (listB_all c).1 (listB_all c).2.1 Φ

theorem apart {I : Type} [DecidableEq I] {s : Finset I} {i : I} (h : i ∈ s) (Φ : I → sProp 𝕄) : bigSep s Φ = iprop(Φ i ∗ bigSep (s.erase i) Φ) :=
  bigSep_erase h

theorem some_of {A : Type} (Φ : A → sProp 𝕄) (a : A) : Φ a ⊢ (iprop(∃ f, Φ f) : sProp 𝕄) := by
  iintro H
  iexists a
  iexact H

/-! ## The partial product by chunks -/

theorem pAt_eq (c : Dev nD) (t : Fin 16) (q : PosShare TreeShare) (f : Vec F S512x512 .bf16) :
    pAt c t q f = ((c : Thread nD τ).loc cc0_scratch0 ↦[rowsOf t]{q} f : sProp 𝕄) :=
  congrArg (fun S : Finset S512x512.Idx => ((c : Thread nD τ).loc cc0_scratch0 ↦[S]{q} f : sProp 𝕄)) (pC_set t)
theorem rAt_eq (c : Dev nD) (t : Fin 16) (f : Vec F S16x32x512 .bf16) :
    rAt c t f = ((c : Thread nD τ).loc cc0_scratch2 ↦[slotOf t]{fullShare} f : sProp 𝕄) :=
  congrArg (fun S : Finset S16x32x512.Idx => ((c : Thread nD τ).loc cc0_scratch2 ↦[S]{fullShare} f : sProp 𝕄)) (rC_set t)
theorem aAt_eq (c : Dev nD) (t : Fin 16) (f : Vec F S512x512 .bf16) :
    aAt c t f = ((c : Thread nD τ).loc cc0_scratch3 ↦[rowsOf t]{fullShare} f : sProp 𝕄) :=
  congrArg (fun S : Finset S512x512.Idx => ((c : Thread nD τ).loc cc0_scratch3 ↦[S]{fullShare} f : sProp 𝕄)) (aC_set t)

theorem half_chunks (c : Dev nD) (b : Fin 2) (f : Vec F S512x512 .bf16) :
    ((c : Thread nD τ).loc cc0_scratch0 ↦[halfOf b]{fullShare} f : sProp 𝕄) = bigSepL (List.finRange 8) (fun j => pAt c (tgt c b j) fullShare f) := by
  rw [← half_rows b c]
  refine (pointsTo_biUnion (ℓ := (c : Thread nD τ).loc cc0_scratch0) Finset.univ (fun j => rowsOf (tgt c b j))
    (fun j _ j' _ h => rows_disj _ _ (tgt_inj c b j j' h))).trans ?_
  rw [bigSep_univ_eq_bigSepL (List.finRange 8) (by decide) (by decide)]
  simp only [pAt_eq]

theorem halves (c : Dev nD) (f : Vec F S512x512 .bf16) : (hold (b := cc0_scratch0) c f : sProp 𝕄)
    ⊢ iprop((∃ g, (c : Thread nD τ).loc cc0_scratch0 ↦[halfOf 0]{fullShare} g) ∗ (∃ g, (c : Thread nD τ).loc cc0_scratch0 ↦[halfOf 1]{fullShare} g)) := by
  unfold hold
  rw [← half_cover]
  iintro H
  ihave H' := (pointsTo_union half_disj).1 $$ H
  icases H' with ⟨H0, H1⟩
  isplitl [H0]; · iexists f; iexact H0
  iexists f; iexact H1

theorem chunks_join (c : Dev nD) (f₀ : Vec F S512x512 .bf16) : bigSep Finset.univ (fun t : Fin 16 => iprop(∃ f, pAt (F := F) c t fullShare f))
    ⊢ (iprop(∃ f, hold (b := cc0_scratch0) c f) : sProp 𝕄) := by
  simp only [pAt_eq]
  exact Ring.pointsTo_blocks_join_exists (ℓ := (c : Thread nD τ).loc cc0_scratch0) rowsOf rows_disj rows_cover f₀

/-! ## The slots and the gathered chunks -/

theorem slots_split (c : Dev nD) (f : Vec F S16x32x512 .bf16) : (hold (b := cc0_scratch2) c f : sProp 𝕄)
    ⊢ bigSep Finset.univ (fun t : Fin 16 => iprop(∃ f, rAt (F := F) c t f)) := by
  refine (Entails.of_eq (Ring.pointsTo_blocks (ℓ := (c : Thread nD τ).loc cc0_scratch2) slotOf slot_disj slot_cover f)).trans (bigSep_mono fun t _ => ?_)
  simp only [rAt_eq]
  exact some_of (fun f => ((c : Thread nD τ).loc cc0_scratch2 ↦[slotOf t]{fullShare} f : sProp 𝕄)) f
theorem slots_join (c : Dev nD) (f₀ : Vec F S16x32x512 .bf16) : bigSep Finset.univ (fun t : Fin 16 => iprop(∃ f, rAt (F := F) c t f))
    ⊢ (iprop(∃ f, hold (b := cc0_scratch2) c f) : sProp 𝕄) := by
  simp only [rAt_eq]
  exact Ring.pointsTo_blocks_join_exists (ℓ := (c : Thread nD τ).loc cc0_scratch2) slotOf slot_disj slot_cover f₀

theorem gather_split (c : Dev nD) (f : Vec F S512x512 .bf16) : (hold (b := cc0_scratch3) c f : sProp 𝕄)
    ⊢ bigSep Finset.univ (fun t : Fin 16 => iprop(∃ f, aAt (F := F) c t f)) := by
  refine (Entails.of_eq (Ring.pointsTo_blocks (ℓ := (c : Thread nD τ).loc cc0_scratch3) rowsOf rows_disj rows_cover f)).trans (bigSep_mono fun t _ => ?_)
  simp only [aAt_eq]
  exact some_of (fun f => ((c : Thread nD τ).loc cc0_scratch3 ↦[rowsOf t]{fullShare} f : sProp 𝕄)) f
theorem gather_join (c : Dev nD) : bigSep Finset.univ (fun t : Fin 16 => aAt c t G) ⊢ (hold (b := cc0_scratch3) c G : sProp 𝕄) := by
  simp only [aAt_eq]
  exact Entails.of_eq (Ring.pointsTo_blocks (ℓ := (c : Thread nD τ).loc cc0_scratch3) rowsOf rows_disj rows_cover G).symm

/-- The reduced chunk, lent sixteen times. -/
theorem lend (c : Dev nD) : (pAt c c fullShare G : sProp 𝕄) = bigSep Finset.univ (fun t : Fin 16 => pAt c c (shr t) G) := by
  unfold pAt
  exact pointsTo_deal Finset.univ ⟨0, Finset.mem_univ _⟩ fullShare

end Cert.KernelIdeal.Stage

end
-- ==== Proof.Run.lean ====
/- The first half of the body, run on one device: the barrier, the attention and the first copies. -/
module

public import proofs.«01_k».proof.Proof.Parts

@[expose] public section

set_option maxRecDepth 16384

noncomputable section

namespace Cert.KernelIdeal.Stage

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.SL.BI (bigSepL bigSepL_cons' bigSepL_nil)
open Cert.KernelIdeal Cert.KernelIdeal.Gen

variable {F : FTy → Type} [FloatOps F] [Named F]

local notation "𝕄" => MT nD τ sig Unit (Elt F) ℕ UU ℕ

variable (P : Dev nD → Vec F S512x512 .bf16) (G : Vec F S512x512 .bf16)

theorem fam_sep {I : Type} (s : Finset I) (Φ Ψ : I → sProp 𝕄) : bigSep s (fun i => iprop(Φ i ∗ Ψ i)) = iprop(bigSep s Φ ∗ bigSep s Ψ) :=
  bigSep_sep' s Φ Ψ

theorem list_sep {I : Type} (l : List I) (Φ Ψ : I → sProp 𝕄) : iprop(bigSepL l Φ ∗ bigSepL l Ψ) ⊢ bigSepL l (fun i => iprop(Φ i ∗ Ψ i)) := by
  induction l with
  | nil => show iprop(emp ∗ emp) ⊢ (iprop(emp) : sProp 𝕄); iintro ⟨H, -⟩; iexact H
  | cons i l ih =>
    rw [bigSepL_cons', bigSepL_cons', bigSepL_cons']
    iintro ⟨⟨Ha, Hb⟩, ⟨Hc, Hd⟩⟩
    isplitl [Ha Hc]
    · isplitl [Ha]; · iexact Ha
      iexact Hc
    iapply ih
    isplitl [Hb]; · iexact Hb
    iexact Hd

/-- A device's positions on one array of cells, and that the round there is reached. -/
def posOf (a : Fin 4) (c : Dev nD) (r : ℕ) : sProp 𝕄 := bigSep Finset.univ fun t : Fin 16 => atPos ER (cell a c t) r ∅ 0
def reachedOf (a : Fin 4) (c : Dev nD) : sProp 𝕄 := bigSep Finset.univ fun t : Fin 16 => reached ER (cell a c t) 0
def reachedAt (a : Fin 4) (c : Dev nD) : sProp 𝕄 := bigSep Finset.univ fun t : Fin 16 => reached ER (cell a t c) 0
instance reachedOf_persistent (a : Fin 4) (c : Dev nD) : BI.Persistent (reachedOf (F := F) a c) := by unfold reachedOf; infer_instance
instance reachedAt_persistent (a : Fin 4) (c : Dev nD) : BI.Persistent (reachedAt (F := F) a c) := by unfold reachedAt; infer_instance
def tokOf (a : Fin 4) (c : Dev nD) : sProp 𝕄 := bigSep Finset.univ fun t : Fin 16 => dutyTok ER (cell a c t) 0 c
def tokAt (a : Fin 4) (c : Dev nD) : sProp 𝕄 := bigSep Finset.univ fun t : Fin 16 => dutyTok ER (cell a t c) 0 c
def credOf (a : Fin 4) (c : Dev nD) : sProp 𝕄 := bigSep Finset.univ fun t : Fin 16 => cred (tallyAt (cell a c t) () NN)
def barTok (c : Dev nD) : sProp 𝕄 := bigSep (Finset.univ.erase c) fun t => iprop(dutyTok ER (barC t) 0 c ∗ reached ER (barC t) 0)
def slotsAt (c : Dev nD) : sProp 𝕄 := bigSep Finset.univ fun t : Fin 16 => iprop(∃ f, rAt (F := F) t c f)
def gathAt (c : Dev nD) : sProp 𝕄 := bigSep Finset.univ fun t : Fin 16 => iprop(∃ f, aAt (F := F) t c f)

def dues1 (c : Dev nD) : List (GSem nD τ sig × ℕ) := pairs0.map fun x => firstDue c (tgt c x.1 x.2)
def dues2 (c : Dev nD) : List (GSem nD τ sig × ℕ) := pairs1.map fun x => firstDue c (tgt c x.1 x.2)
def dues3 (c : Dev nD) : List (GSem nD τ sig × ℕ) := (List.finRange 16).map fun r => secondDue c (nxt c r)
/-- Everything a device owes at launch, in the order it pays. -/
def dues (c : Dev nD) : List (GSem nD τ sig × ℕ) := (listB c).map barDue ++ (dues1 c ++ (dues2 c ++ (dues3 c ++ [])))

theorem dues3_lv (c : Dev nD) : ∀ p ∈ dues3 c ++ [], p.1.1.2 = .tc ∧ 2 < lvS p.1.2 := by
  intro p hp
  rw [List.append_nil] at hp
  obtain ⟨r, -, rfl⟩ := List.mem_map.mp hp
  refine ⟨rfl, ?_⟩
  show 2 < lvS (.dma (semIx 3 c))
  rw [lvS_cell]; decide
theorem dues12_lv (c : Dev nD) : ∀ p ∈ dues1 c ++ (dues2 c ++ (dues3 c ++ [])), p.1.1.2 = .tc ∧ lvS (.reg bar) < lvS p.1.2 := by
  intro p hp
  show _ ∧ 1 < lvS p.1.2
  have hf : ∀ t : Dev nD, (firstDue c t).1.1.2 = .tc ∧ 1 < lvS (firstDue c t).1.2 := fun t => by
    refine ⟨rfl, ?_⟩
    show 1 < lvS (.dma (semIx 1 c))
    rw [lvS_cell]; decide
  rcases List.mem_append.mp hp with h | h
  · obtain ⟨x, -, rfl⟩ := List.mem_map.mp h; exact hf _
  rcases List.mem_append.mp h with h | h
  · obtain ⟨x, -, rfl⟩ := List.mem_map.mp h; exact hf _
  · obtain ⟨h1, h2⟩ := dues3_lv c p h; exact ⟨h1, by omega⟩

/-- The slots and gather chunks of device `c` with the word that their cells are at round zero: what its signals carry, and its own. -/
theorem bar_deal (c : Dev nD) :
    iprop((bigSep Finset.univ fun t : Fin 16 => iprop(∃ f, rAt (F := F) c t f)) ∗ (bigSep Finset.univ fun t : Fin 16 => iprop(∃ f, aAt (F := F) c t f))
        ∗ reachedOf 1 c ∗ reachedOf 3 c ∗ barTok c)
      ⊢ iprop(barPay (F := F) c c ∗ bigSepL (listB c) (sigRes (F := F) c)) := by
  have e : iprop((bigSep Finset.univ fun t : Fin 16 => iprop(∃ f, rAt (F := F) c t f)) ∗ (bigSep Finset.univ fun t : Fin 16 => iprop(∃ f, aAt (F := F) c t f))
        ∗ reachedOf 1 c ∗ reachedOf 3 c) = bigSep Finset.univ fun t : Fin 16 => barPay (F := F) t c := by
    unfold barPay reachedOf
    rw [fam_sep, fam_sep, fam_sep]
  have e2 : iprop(bigSep (Finset.univ.erase c) (fun t : Fin 16 => barPay (F := F) t c) ∗ barTok c) ⊢ bigSepL (listB c) (sigRes (F := F) c) := by
    rw [← over_listB]
    unfold sigRes barTok
    rw [fam_sep, fam_sep, fam_sep]
    iintro ⟨H1, H2, H3⟩
    isplitl [H2]; · iexact H2
    isplitl [H1]; · iexact H1
    iexact H3
  replace e := e.trans (apart (Finset.mem_univ c) (fun t => barPay (F := F) t c))
  iintro ⟨H1, H2, H3, H4, H5⟩
  ihave H := (Entails.of_eq e) $$ [H1 H2 H3 H4]
  · isplitl [H1]; · iexact H1
    isplitl [H2]; · iexact H2
    isplitl [H3]; · iexact H3
    iexact H4
  icases H with ⟨Hc, Hr⟩
  isplitl [Hc]; · iexact Hc
  iapply e2
  isplitl [Hr]; · iexact Hr
  iexact H5

/-- What the barrier lets a device know and write. -/
theorem bar_got (c : Dev nD) : iprop(barPay (F := F) c c ∗ bigSep (Finset.univ.erase c) (fun d => barPay (F := F) c d))
    ⊢ iprop(slotsAt (F := F) c ∗ gathAt (F := F) c ∗ reachedAt (F := F) 1 c ∗ reachedAt (F := F) 3 c) := by
  rw [← apart (Finset.mem_univ c) (fun d => barPay (F := F) c d)]
  unfold barPay slotsAt gathAt reachedAt
  rw [fam_sep, fam_sep, fam_sep]

/-- The first copies' resources but for their sources. -/
theorem first_deal (c : Dev nD) : iprop(slotsAt (F := F) c ∗ tokOf 0 c ∗ reachedOf 0 c ∗ tokAt 1 c ∗ reachedAt 1 c)
    ⊢ bigSep Finset.univ (fun t : Fin 16 => iprop((∃ f, rAt (F := F) t c f) ∗ dutyTok ER (cell 0 c t) 0 c ∗ reached ER (cell 0 c t) 0
      ∗ dutyTok ER (cell 1 t c) 0 c ∗ reached ER (cell 1 t c) 0)) := by
  unfold slotsAt tokOf reachedOf tokAt reachedAt
  rw [fam_sep, fam_sep, fam_sep, fam_sep]

theorem half_pairs0 (c : Dev nD) (f : Vec F S512x512 .bf16) :
    ((c : Thread nD τ).loc cc0_scratch0 ↦[halfOf 0]{fullShare} f : sProp 𝕄) = bigSepL pairs0 (fun x => pAt c (tgt c x.1 x.2) fullShare f) := by
  rw [half_chunks c 0, pairs0, bigSepL_map]
theorem half_pairs1 (c : Dev nD) (f : Vec F S512x512 .bf16) :
    ((c : Thread nD τ).loc cc0_scratch0 ↦[halfOf 1]{fullShare} f : sProp 𝕄) = bigSepL pairs1 (fun x => pAt c (tgt c x.1 x.2) fullShare f) := by
  rw [half_chunks c 1, pairs1, bigSepL_map]

theorem cred_pairs (c : Dev nD) : iprop((bigSepL pairs0 fun x => cred (tallyAt (cell 0 c (tgt c x.1 x.2)) () NN))
    ∗ (bigSepL pairs1 fun x => cred (tallyAt (cell 0 c (tgt c x.1 x.2)) () NN))) ⊢ (credOf (F := F) 0 c : sProp 𝕄) := by
  unfold credOf
  rw [over_pairs c]

abbrev tailBody (c : Dev nD) (hp : pM.IsWhole) (hr : rM.IsWhole) (ha : aM.IsWhole) : PB F :=
  tail2 oM pM hp rM hr aM ha cc0_scratch4 cc0_scratch5 cc0_scratch6 cc0_scratch7 c

theorem own_index (c : Dev nD) (k : Dev nD → PB F) (Q : PUnit → sProp 𝕄) : WP c (.op .deviceId k) Q = WP c (k c) Q :=
  wp_deviceId 𝒱₀ (c : Thread nD τ) none Set.univ

theorem run_first (κ : GSem nD τ sig → ℕ) (c : Dev nD) (hp : pM.IsWhole) (hr : rM.IsWhole) (ha : aM.IsWhole)
    (X : Vec F S512x512 .f32) (W : Vec F S512x256 .f32) (KT : Vec F S2x4x64x256 .f32) (VV : Vec F S512x256 .f32) (WO : Vec F S256x512 .f32)
    (C : Vec F S512x256 .f32)
    (hC : ∀ b h, (cM.access (headRect b h)).read (Elt F) C = headOut b h (k0_pay1 X W) ((kM.access (keyRect b h)).read (Elt F) KT) ((vM.access (headRect b h)).read (Elt F) VV))
    (hP : ∀ b, (pM.access (projRect b)).read (Elt F) (P c) = k0_pay14 ((cM.access (ctxRect b)).read (Elt F) C) WO)
    (f0 : Vec F S512x512 .bf16) (f1 : Vec F S512x256 .f32) (f2 : Vec F S16x32x512 .bf16) (f3 : Vec F S512x512 .bf16) (Q : PUnit → sProp 𝕄) :
    iprop(recs P G κ ∗ owesE c (due (dues c)) ∗ atPos ER (barC c) 0 ∅ 0 ∗ cred (tallyAt (barC c) () 15) ∗ barTok c
        ∗ (reachedOf 0 c ∗ reachedOf 1 c ∗ reachedOf 3 c) ∗ tokOf 0 c ∗ tokAt 1 c
        ∗ (hold (b := cc0_stg0_0) c X ∗ hold (b := cc0_stg1_0) c W ∗ hold (b := cc0_stg2_0) c KT ∗ hold (b := cc0_stg3_0) c VV ∗ hold (b := cc0_stg4_0) c WO)
        ∗ hold (b := cc0_scratch0) c f0 ∗ hold (b := cc0_scratch1) c f1 ∗ hold (b := cc0_scratch2) c f2 ∗ hold (b := cc0_scratch3) c f3)
      ⊢ iprop(((owesE c (due (dues3 c ++ [])) ∗ atPos ER (barC c) 1 ∅ 0 ∗ credOf (F := F) 0 c ∗ gathAt (F := F) c ∗ reachedAt (F := F) 3 c
          ∗ (hold (b := cc0_stg0_0) c X ∗ hold (b := cc0_stg1_0) c W ∗ hold (b := cc0_stg2_0) c KT ∗ hold (b := cc0_stg3_0) c VV ∗ hold (b := cc0_stg4_0) c WO)
          ∗ (∃ f, hold (b := cc0_scratch1) c f)) -∗ WP c (tailBody c hp hr ha) Q)
        -∗ WP c (body xM wM kM vM woM oM pM hp cM rM hr aM ha cc0_scratch4 cc0_scratch5 cc0_scratch6 cc0_scratch7) Q) := by
  unfold body
  simp only [list10_pairs, list11_pairs]
  rw [own_index]
  iintro ⟨#Hr, HO, Hbar, Hcb, Hbt, ⟨#Hr0, #Hr1, #Hr3⟩, Ht0, Ht1, ⟨HX, HW, HK, HV, HWO⟩, H0, H1, H2, H3⟩ Hk
  ihave Hs := (slots_split c f2) $$ H2
  ihave Ha := (gather_split c f3) $$ H3
  ihave Hd := (bar_deal c) $$ [Hs Ha Hbt]
  · isplitl [Hs]; · iexact Hs
    isplitl [Ha]; · iexact Ha
    isplitr; · iexact Hr1
    isplitr; · iexact Hr3
    iexact Hbt
  icases Hd with ⟨Hown, Hsig⟩
  iapply (sigs_run P G κ c _ _ Q (listB c) (listB_all c).2.2) $$ [HO Hsig]
  · isplitr; · iexact Hr
    isplitl [HO]; · iexact HO
    iexact Hsig
  iintro HO
  iapply (queries_run c X W _ Q) $$ [HX HW]
  · isplitl [HX]; · iexact HX
    iexact HW
  iintro ⟨HX, HW⟩
  iapply (heads_run c 0 (k0_pay1 X W) KT VV C (hC 0) _ Q [0, 1, 2, 3] f1) $$ [HK HV H1]
  · isplitl [HK]; · iexact HK
    isplitl [HV]; · iexact HV
    iexact H1
  iintro %g1 %hg1 ⟨HK, HV, H1⟩
  ihave Hh := (halves c f0) $$ H0
  icases Hh with ⟨Hh0, Hh1⟩
  iapply (proj_run P c hp 0 C WO (hP 0) g1 (fun i hi => hg1 i (.inl (heads_all 0 i hi))) _ Q) $$ [H1 HWO Hh0]
  · isplitl [H1]; · iexact H1
    isplitl [HWO]; · iexact HWO
    iexact Hh0
  iintro ⟨H1, HWO, Hh0⟩
  iapply (wait_bar P G κ c _ (dues12_lv c) _ Q) $$ [HO Hbar Hcb]
  · isplitr; · iexact Hr
    isplitl [Hcb]; · iexact Hcb
    isplitl [HO]; · iexact HO
    iexact Hbar
  iintro ⟨HO, Hbar, Hgot⟩
  ihave Hg := (bar_got c) $$ [Hown Hgot]
  · isplitl [Hown]; · iexact Hown
    iexact Hgot
  icases Hg with ⟨Hsl, Hga, #Hq1, #Hq3⟩
  ihave Hf := (first_deal c) $$ [Hsl Ht0 Ht1]
  · isplitl [Hsl]; · iexact Hsl
    isplitl [Ht0]; · iexact Ht0
    isplitr; · iexact Hr0
    isplitl [Ht1]; · iexact Ht1
    iexact Hq1
  ihave Hf' := (Entails.of_eq (over_pairs c _)) $$ Hf
  icases Hf' with ⟨Hf0, Hf1⟩
  ihave Hp0 := (Entails.of_eq (half_pairs0 c (P c))) $$ Hh0
  ihave Hs0 := (list_sep pairs0 (fun x => pAt c (tgt c x.1 x.2) fullShare (P c)) _) $$ [Hp0 Hf0]
  · isplitl [Hp0]; · iexact Hp0
    iexact Hf0
  iapply (sends1_run P G κ c _ hp hr _ Q pairs0) $$ [HO Hs0]
  · isplitr; · iexact Hr
    isplitl [HO]; · iexact HO
    iexact Hs0
  iintro ⟨HO, Hc0⟩
  iapply (heads_run c 1 (k0_pay1 X W) KT VV C (hC 1) _ Q [0, 1, 2, 3] g1) $$ [HK HV H1]
  · isplitl [HK]; · iexact HK
    isplitl [HV]; · iexact HV
    iexact H1
  iintro %g2 %hg2 ⟨HK, HV, H1⟩
  iapply (proj_run P c hp 1 C WO (hP 1) g2 (fun i hi => hg2 i (.inl (heads_all 1 i hi))) _ Q) $$ [H1 HWO Hh1]
  · isplitl [H1]; · iexact H1
    isplitl [HWO]; · iexact HWO
    iexact Hh1
  iintro ⟨H1, HWO, Hh1⟩
  ihave Hp1 := (Entails.of_eq (half_pairs1 c (P c))) $$ Hh1
  ihave Hs1 := (list_sep pairs1 (fun x => pAt c (tgt c x.1 x.2) fullShare (P c)) _) $$ [Hp1 Hf1]
  · isplitl [Hp1]; · iexact Hp1
    iexact Hf1
  iapply (sends1_run P G κ c _ hp hr _ Q pairs1) $$ [HO Hs1]
  · isplitr; · iexact Hr
    isplitl [HO]; · iexact HO
    iexact Hs1
  iintro ⟨HO, Hc1⟩
  iapply Hk
  isplitl [HO]; · iexact HO
  isplitl [Hbar]; · iexact Hbar
  isplitl [Hc0 Hc1]
  · iapply (cred_pairs c)
    isplitl [Hc0]; · iexact Hc0
    iexact Hc1
  isplitl [Hga]; · iexact Hga
  isplitr; · iexact Hq3
  isplitl [HX HW HK HV HWO]
  · isplitl [HX]; · iexact HX
    isplitl [HW]; · iexact HW
    isplitl [HK]; · iexact HK
    isplitl [HV]; · iexact HV
    iexact HWO
  iexists g2
  iexact H1

end Cert.KernelIdeal.Stage

end
-- ==== Proof.Finish.lean ====
/- The second half of the body, run on one device: the sums, the second copies, the gather, and the closing of the cells. -/
module

public import proofs.«01_k».proof.Proof.Run

@[expose] public section

set_option maxRecDepth 16384

noncomputable section

namespace Cert.KernelIdeal.Stage

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.SL.BI (bigSepL bigSepL_cons' bigSepL_nil)
open Cert.KernelIdeal Cert.KernelIdeal.Gen

variable {F : FTy → Type} [FloatOps F] [Named F]

local notation "𝕄" => MT nD τ sig Unit (Elt F) ℕ UU ℕ

variable (P : Dev nD → Vec F S512x512 .bf16) (G : Vec F S512x512 .bf16)

theorem spread {I : Type} [DecidableEq I] {R : sProp 𝕄} [BI.Persistent R] (s : Finset I) {Φ Ψ : I → sProp 𝕄} (h : ∀ i, iprop(R ∗ Φ i) ⊢ Ψ i) :
    iprop(R ∗ bigSep s Φ) ⊢ bigSep s Ψ := by
  induction s using Finset.induction_on with
  | empty => rw [bigSep_empty, bigSep_empty]; iintro ⟨-, H⟩; iexact H
  | insert i s hi ih =>
    rw [show bigSep (insert i s) Φ = iprop(Φ i ∗ bigSep s Φ) from bigSep_insert hi, show bigSep (insert i s) Ψ = iprop(Ψ i ∗ bigSep s Ψ) from bigSep_insert hi]
    iintro ⟨#HR, H1, H2⟩
    isplitl [H1]
    · iapply (h i)
      isplitr; · iexact HR
      iexact H1
    iapply ih
    isplitr; · iexact HR
    iexact H2

def semOf (a : Fin 4) (c : Dev nD) : sProp 𝕄 := bigSep Finset.univ fun t : Fin 16 => semVal (cell a c t) 0

theorem close_cells (κ : GSem nD τ sig → ℕ) (a : Fin 4) (c : Dev nD) :
    iprop(recs P G κ ∗ posOf a c 1) ⊢ (|={Set.univ}=> semOf (F := F) a c : sProp 𝕄) := by
  refine BIBase.Entails.trans ?_ (bigSep_fupd Finset.univ (fun t : Fin 16 => semVal (cell a c t) 0))
  unfold posOf
  refine spread Finset.univ fun t => ?_
  iintro ⟨#Hr, Hat⟩
  ihave #Hi := (recs_cell P G κ a c t) $$ Hr
  iapply (Rounds.cell_close ER (Rd P G) (Set.mem_univ _) id (duties_later P G (cell a c t)))
  isplitr; · iexact Hi
  iexact Hat

theorem close_bar (κ : GSem nD τ sig → ℕ) (c : Dev nD) :
    iprop(recs P G κ ∗ atPos ER (barC c) 1 ∅ 0) ⊢ (|={Set.univ}=> semVal (barC c) 0 : sProp 𝕄) := by
  iintro ⟨#Hr, Hat⟩
  ihave #Hi := (recs_bar P G κ c) $$ Hr
  iapply (Rounds.cell_close ER (Rd P G) (Set.mem_univ _) id (duties_later P G (barC c)))
  isplitr; · iexact Hi
  iexact Hat

theorem wait_deal (a : Fin 4) (c : Dev nD) : iprop(credOf (F := F) a c ∗ posOf a c 0) ⊢ bigSep Finset.univ (fun t : Fin 16 => waitRes (F := F) a c t) := by
  unfold credOf posOf waitRes
  rw [fam_sep]

theorem second_deal (c : Dev nD) : iprop(pAt c c fullShare G ∗ gathAt (F := F) c ∗ tokOf 2 c ∗ reachedOf 2 c ∗ tokAt 3 c ∗ reachedAt 3 c)
    ⊢ bigSepL (List.finRange 16) (fun r => secondRes G c (nxt c r)) := by
  rw [← over_nxt c (fun t => secondRes G c t), lend]
  unfold gathAt tokOf reachedOf tokAt reachedAt secondRes
  rw [fam_sep, fam_sep, fam_sep, fam_sep, fam_sep]

theorem read_got (c : Dev nD) : iprop(read1 (F := F) c (src c 0) ∗ bigSepL order (fun j => read1 (F := F) c (src c j)))
    ⊢ iprop(posOf 1 c 1 ∗ (bigSep Finset.univ fun t : Fin 16 => iprop(∃ f, rAt (F := F) c t f)) ∗ (∃ f, pAt (F := F) c c fullShare f)) := by
  have e : iprop(read1 (F := F) c (src c 0) ∗ bigSepL order (fun j => read1 (F := F) c (src c j))) = bigSep Finset.univ (fun t : Fin 16 => read1 (F := F) c t) := by
    rw [over_src c, bigSepL_cons']
  rw [e]
  unfold read1 posOf
  rw [fam_sep, fam_sep]
  iintro ⟨H1, H2, H3⟩
  isplitl [H1]; · iexact H1
  isplitl [H2]; · iexact H2
  ihave H := (pick (Finset.mem_univ c)) $$ H3
  ihave H' := (Entails.of_eq (if_pos rfl)) $$ H
  iexact H'

theorem lent_back (c : Dev nD) : (bigSepL (List.finRange 16) (fun r => waited P G 2 c (nxt c r)) : sProp 𝕄) ⊢ iprop(posOf 2 c 1 ∗ pAt c c fullShare G) := by
  rw [← over_nxt c (fun t => waited P G 2 c t), lend]
  unfold waited posOf
  rw [fam_sep]
  exact Entails.rfl

theorem gather_back (c : Dev nD) : (bigSepL (0 :: order) (fun j => waited P G 3 c (src c j)) : sProp 𝕄) ⊢ iprop(posOf 3 c 1 ∗ hold (b := cc0_scratch3) c G) := by
  rw [← over_src c (fun t => waited P G 3 c t)]
  unfold waited posOf
  rw [fam_sep]
  iintro ⟨H1, H2⟩
  isplitl [H1]; · iexact H1
  iapply (gather_join G c)
  iexact H2

theorem first_back (c : Dev nD) : (bigSepL (pairs0 ++ pairs1) (fun x => waited P G 0 c (tgt c x.1 x.2)) : sProp 𝕄)
    ⊢ iprop(posOf 0 c 1 ∗ bigSep (Finset.univ.erase c) fun t : Fin 16 => iprop(∃ f, pAt (F := F) c t fullShare f)) := by
  rw [bigSepL_append, ← over_pairs c (fun t => waited P G 0 c t)]
  unfold waited posOf
  rw [fam_sep]
  have e : (bigSep Finset.univ fun t : Fin 16 => dmaPay P G c (0 : Fin 4).val t) = iprop(srcPay (F := F) c c ∗ bigSep (Finset.univ.erase c) fun t : Fin 16 => srcPay (F := F) c t) :=
    apart (Finset.mem_univ c) (fun t : Fin 16 => srcPay (F := F) c t)
  have e' : (bigSep (Finset.univ.erase c) fun t : Fin 16 => srcPay (F := F) c t) = bigSep (Finset.univ.erase c) fun t : Fin 16 => iprop(∃ f, pAt (F := F) c t fullShare f) :=
    bigSep_congr fun t ht => if_neg (Finset.ne_of_mem_erase ht)
  rw [e, e']
  iintro ⟨H1, -, H2⟩
  isplitl [H1]; · iexact H1
  iexact H2

theorem pairs_lit : [((0 : Fin 2), (0 : Fin 8)), (0, 1), (0, 2), (0, 3), (0, 4), (0, 5), (0, 6), (0, 7), (1, 0), (1, 1), (1, 2), (1, 3), (1, 4), (1, 5), (1, 6), (1, 7)] = pairs0 ++ pairs1 := by
  decide
theorem range_lit : [(0 : Fin 16), 1, 2, 3, 4, 5, 6, 7, 8, 9, 10, 11, 12, 13, 14, 15] = List.finRange 16 := by decide

theorem out_all (c : Dev nD) (i : S512x512.Idx) : ∃ j ∈ 0 :: order, i ∈ rowsOf (src c j) := by
  have h1 : (i 0).val < 512 := (i 0).isLt
  have hm : (⟨(i 0).val / 32, by omega⟩ : Fin 16) ∈ ((0 :: order).map (src c)).toFinset := (src_all c).1 ▸ Finset.mem_univ _
  obtain ⟨j, hj, e⟩ := List.mem_map.mp (List.mem_toFinset.mp hm)
  exact ⟨j, hj, by rw [e, mem_rowsOf]⟩

/-- The reduced chunk of device `c`. -/
def reduced (c : Dev nD) : FVec F S32x512 .bf16 :=
  accOut (order.foldl (fun acc j => accPart acc (part P c (src c j))) (extf .f32 (part P c (src c 0)) bitsLt_bf16_f32))

theorem cred_back (c : Dev nD) : (bigSepL (List.finRange 16) (fun r => cred (tallyAt (cell 2 c (nxt c r)) () NN)) : sProp 𝕄) ⊢ credOf (F := F) 2 c :=
  Entails.of_eq (over_nxt c (fun t => cred (tallyAt (cell 2 c t) () NN))).symm

theorem ret_eq (c : Dev nD) (x : PUnit) (Q : PUnit → sProp 𝕄) : (WP c (.ret x : PB F) Q : sProp 𝕄) = iprop(|={Set.univ}=> Q x) := wp_ret ..

theorem run_second (κ : GSem nD τ sig → ℕ) (c : Dev nD) (hp : pM.IsWhole) (hr : rM.IsWhole) (ha : aM.IsWhole)
    (hG : reduced P c = (pC c).view.read (Elt F) G)
    (f0 : Vec F S512x512 .bf16) (f2 : Vec F S16x32x512 .bf16) (f5 : Vec F S512x512 .f32) (Q : PUnit → sProp 𝕄) :
    iprop(recs P G κ ∗ owesE c (due (dues3 c ++ [])) ∗ atPos ER (barC c) 1 ∅ 0 ∗ (credOf (F := F) 0 c ∗ credOf (F := F) 1 c ∗ credOf (F := F) 3 c)
        ∗ (posOf 0 c 0 ∗ posOf 1 c 0 ∗ posOf 2 c 0 ∗ posOf 3 c 0)
        ∗ gathAt (F := F) c ∗ reachedAt (F := F) 3 c ∗ reachedOf 2 c ∗ tokOf 2 c ∗ tokAt 3 c ∗ hold (b := cc0_stg5_0) c f5)
      ⊢ iprop(((owesE c (due []) ∗ semVal (barC c) 0 ∗ (semOf (F := F) 0 c ∗ semOf (F := F) 1 c ∗ semOf (F := F) 2 c ∗ semOf (F := F) 3 c)
          ∗ (∃ f, hold (b := cc0_scratch0) c f) ∗ (∃ f, hold (b := cc0_scratch2) c f) ∗ (∃ f, hold (b := cc0_scratch3) c f)
          ∗ hold (b := cc0_stg5_0) c (outOf G)) -∗ Q ⟨⟩)
        -∗ WP c (tailBody c hp hr ha) Q) := by
  unfold tailBody tail2
  rw [pairs_lit, range_lit, list2_eq]
  iintro ⟨#Hr, HO, Hbar, ⟨Hc0, Hc1, Hc3⟩, ⟨Hp0, Hp1, Hp2, Hp3⟩, Hga, #Hq3, #Hr2, Ht2, Ht3, H5⟩ Hk
  ihave Hw := (wait_deal 1 c) $$ [Hc1 Hp1]
  · isplitl [Hc1]; · iexact Hc1
    iexact Hp1
  ihave Hw' := (Entails.of_eq (over_src c (fun t => waitRes (F := F) 1 c t))) $$ Hw
  ihave Hw2 := (Entails.of_eq (bigSepL_cons' 0 order (fun j => waitRes (F := F) 1 c (src c j)))) $$ Hw'
  icases Hw2 with ⟨Hw0, Hwr⟩
  iapply (recv_run P G κ c _ (dues3_lv c) hr 0 _ Q) $$ [HO Hw0]
  · isplitr; · iexact Hr
    isplitl [HO]; · iexact HO
    iexact Hw0
  iintro %v0 %hv0 ⟨HO, Hd0⟩
  iapply (recvs_run P G κ c _ (dues3_lv c) hr _ Q order _) $$ [HO Hwr]
  · isplitr; · iexact Hr
    isplitl [HO]; · iexact HO
    iexact Hwr
  iintro ⟨HO, Hdr⟩
  ihave Hg := (read_got c) $$ [Hd0 Hdr]
  · isplitl [Hd0]; · iexact Hd0
    iexact Hdr
  icases Hg with ⟨Hp1, Hsl, Hown⟩
  have hv : accOut (order.foldl (fun acc j => accPart acc (part P c (src c j))) (k0_pay26 (F := F) v0)) = (pC c).view.read (Elt F) G := by
    rw [← hG]; unfold reduced; rw [← hv0]; rfl
  iapply (own_run G c hp _ hv _ Q) $$ Hown
  iintro Hown
  ihave Hs := (second_deal G c) $$ [Hown Hga Ht2 Ht3]
  · isplitl [Hown]; · iexact Hown
    isplitl [Hga]; · iexact Hga
    isplitl [Ht2]; · iexact Ht2
    isplitr; · iexact Hr2
    isplitl [Ht3]; · iexact Ht3
    iexact Hq3
  iapply (sends2_run P G κ c [] hp ha _ Q (List.finRange 16)) $$ [HO Hs]
  · isplitr; · iexact Hr
    isplitl [HO]; · iexact HO
    iexact Hs
  iintro ⟨HO, Hc2⟩
  ihave Hw := (wait_deal 3 c) $$ [Hc3 Hp3]
  · isplitl [Hc3]; · iexact Hc3
    iexact Hp3
  ihave Hw' := (Entails.of_eq (over_src c (fun t => waitRes (F := F) 3 c t))) $$ Hw
  iapply (gathers_run P G κ c hp ha _ Q (0 :: order) f5) $$ [HO Hw' H5]
  · isplitr; · iexact Hr
    isplitl [HO]; · iexact HO
    isplitl [Hw']; · iexact Hw'
    iexact H5
  iintro %g5 %hg5 ⟨HO, Hd3, H5⟩
  have e5 : g5 = outOf G := funext fun i => hg5 i (.inl (out_all c i))
  rw [e5]
  ihave Hb3 := (gather_back P G c) $$ Hd3
  icases Hb3 with ⟨Hp3, H3⟩
  ihave Hw := (wait_deal 0 c) $$ [Hc0 Hp0]
  · isplitl [Hc0]; · iexact Hc0
    iexact Hp0
  ihave Hw' := (Entails.of_eq ((over_pairs c (fun t => waitRes (F := F) 0 c t)).trans
    (bigSepL_append pairs0 pairs1 (fun x => waitRes (F := F) 0 c (tgt c x.1 x.2))).symm)) $$ Hw
  iapply (waits1_run P G κ c hp hr _ Q (pairs0 ++ pairs1)) $$ [HO Hw']
  · isplitr; · iexact Hr
    isplitl [HO]; · iexact HO
    iexact Hw'
  iintro ⟨HO, Hd0⟩
  ihave Hb0 := (first_back P G c) $$ Hd0
  icases Hb0 with ⟨Hp0, H0r⟩
  ihave Hc2' := (cred_back c) $$ Hc2
  ihave Hw := (wait_deal 2 c) $$ [Hc2' Hp2]
  · isplitl [Hc2']; · iexact Hc2'
    iexact Hp2
  ihave Hw' := (Entails.of_eq (over_nxt c (fun t => waitRes (F := F) 2 c t))) $$ Hw
  iapply (waits2_run P G κ c hp ha _ Q (List.finRange 16)) $$ [HO Hw']
  · isplitr; · iexact Hr
    isplitl [HO]; · iexact HO
    iexact Hw'
  iintro ⟨HO, Hd2⟩
  ihave Hb2 := (lent_back P G c) $$ Hd2
  icases Hb2 with ⟨Hp2, H0c⟩
  ihave Hall := (Entails.of_eq (apart (Finset.mem_univ c) (fun t : Fin 16 => iprop(∃ f, pAt (F := F) c t fullShare f))).symm) $$ [H0c H0r]
  · isplitl [H0c]; · iexists G; iexact H0c
    iexact H0r
  ihave H0 := (chunks_join c f0) $$ Hall
  ihave H2 := (slots_join c f2) $$ Hsl
  rw [ret_eq]
  imod (close_bar P G κ c) $$ [Hbar] with Hbar
  · isplitr; · iexact Hr
    iexact Hbar
  imod (close_cells P G κ 0 c) $$ [Hp0] with Hp0
  · isplitr; · iexact Hr
    iexact Hp0
  imod (close_cells P G κ 1 c) $$ [Hp1] with Hp1
  · isplitr; · iexact Hr
    iexact Hp1
  imod (close_cells P G κ 2 c) $$ [Hp2] with Hp2
  · isplitr; · iexact Hr
    iexact Hp2
  imod (close_cells P G κ 3 c) $$ [Hp3] with Hp3
  · isplitr; · iexact Hr
    iexact Hp3
  imodintro
  iapply Hk
  isplitl [HO]; · iexact HO
  isplitl [Hbar]; · iexact Hbar
  isplitl [Hp0 Hp1 Hp2 Hp3]
  · isplitl [Hp0]; · iexact Hp0
    isplitl [Hp1]; · iexact Hp1
    isplitl [Hp2]; · iexact Hp2
    iexact Hp3
  isplitl [H0]; · iexact H0
  isplitl [H2]; · iexact H2
  isplitl [H3]; · iexists G; iexact H3
  iexact H5

end Cert.KernelIdeal.Stage

end
-- ==== Proof.Body.lean ====
/- What each device's buffers hold, and the whole body run on one device. -/
module

public import proofs.«01_k».proof.Proof.Finish

@[expose] public section

set_option maxRecDepth 16384

noncomputable section

namespace Cert.KernelIdeal.Stage

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.SL.BI (bigSepL bigSepL_cons' bigSepL_nil)
open Cert.KernelIdeal Cert.KernelIdeal.Gen

variable {F : FTy → Type} [FloatOps F] [Named F]

local notation "𝕄" => MT nD τ sig Unit (Elt F) ℕ UU ℕ

/-! ## The contents -/

/-- The element of a matrix at a row and a column. -/
def at2 {n m : ℕ} (i : Fin n) (j : Fin m) : (⟨2, ![n, m]⟩ : Shape).Idx := Mxu.ix i j
theorem at2_eta {n m : ℕ} (i : (⟨2, ![n, m]⟩ : Shape).Idx) : at2 (i 0) (i 1) = i := by
  funext a
  revert a
  rw [Fin.forall_fin_two]
  exact ⟨rfl, rfl⟩
theorem ext2 {n m : ℕ} {i j : (⟨2, ![n, m]⟩ : Shape).Idx} (h0 : (i 0).val = (j 0).val) (h1 : (i 1).val = (j 1).val) : i = j := by
  rw [← at2_eta i, ← at2_eta j, show i 0 = j 0 from Fin.ext h0, show i 1 = j 1 from Fin.ext h1]

def rowIn (n : ℕ) [NeZero n] (x : ℕ) : Fin n := ⟨x % n, Nat.mod_lt _ (Nat.pos_of_neZero n)⟩

/-- The context of a device's heads, from its staged blocks. -/
def ctxOf (X : Vec F S512x512 .f32) (W : Vec F S512x256 .f32) (KT : Vec F S2x4x64x256 .f32) (VV : Vec F S512x256 .f32) : Vec F S512x256 .f32 := fun i =>
  headOut (rowIn 2 ((i 0).val / 256)) (rowIn 4 ((i 1).val / 64)) (k0_pay1 X W)
    ((kM.access (keyRect (rowIn 2 ((i 0).val / 256)) (rowIn 4 ((i 1).val / 64)))).read (Elt F) KT)
    ((vM.access (headRect (rowIn 2 ((i 0).val / 256)) (rowIn 4 ((i 1).val / 64)))).read (Elt F) VV)
    (at2 (rowIn 256 (i 0).val) (rowIn 64 (i 1).val))
/-- Its share of the product with the output weights. -/
def prodOf (C : Vec F S512x256 .f32) (WO : Vec F S256x512 .f32) : Vec F S512x512 .bf16 := fun i =>
  k0_pay14 ((cM.access (ctxRect (rowIn 2 ((i 0).val / 256)))).read (Elt F) C) WO (at2 (rowIn 256 (i 0).val) (rowIn 512 (i 1).val))
/-- The sum over the devices, each chunk as its device reduces it. -/
def sumOf (P : Dev nD → Vec F S512x512 .bf16) : Vec F S512x512 .bf16 := fun i =>
  reduced P (rowIn 16 ((i 0).val / 32)) (at2 (rowIn 32 (i 0).val) (rowIn 512 (i 1).val))

theorem ctxOf_read (X : Vec F S512x512 .f32) (W : Vec F S512x256 .f32) (KT : Vec F S2x4x64x256 .f32) (VV : Vec F S512x256 .f32) (b : Fin 2) (h : Fin 4) :
    (cM.access (headRect b h)).read (Elt F) (ctxOf X W KT VV)
      = headOut b h (k0_pay1 X W) ((kM.access (keyRect b h)).read (Elt F) KT) ((vM.access (headRect b h)).read (Elt F) VV) := by
  funext j
  have h0 : (j 0).val < 256 := (j 0).isLt
  have h1 : (j 1).val < 64 := (j 1).isLt
  have e0 : (((headRect b h).emb j) 0).val = 256 * b.val + (j 0).val := by rw [Rect.emb_apply]; show 256 * b.val + 1 * (j 0).val = _; omega
  have e1 : (((headRect b h).emb j) 1).val = 64 * h.val + (j 1).val := by rw [Rect.emb_apply]; show 64 * h.val + 1 * (j 1).val = _; omega
  show ctxOf X W KT VV ((headRect b h).emb j) = _
  have eb : rowIn 2 ((((headRect b h).emb j) 0).val / 256) = b := Fin.ext (by show _ % 2 = _; rw [e0]; omega)
  have eh : rowIn 4 ((((headRect b h).emb j) 1).val / 64) = h := Fin.ext (by show _ % 4 = _; rw [e1]; omega)
  have ei : at2 (rowIn 256 (((headRect b h).emb j) 0).val) (rowIn 64 (((headRect b h).emb j) 1).val) = j :=
    ext2 (by show _ % 256 = _; rw [e0]; omega) (by show _ % 64 = _; rw [e1]; omega)
  unfold ctxOf
  rw [eb, eh, ei]

theorem prodOf_read (C : Vec F S512x256 .f32) (WO : Vec F S256x512 .f32) (b : Fin 2) :
    (pM.access (projRect b)).read (Elt F) (prodOf C WO) = k0_pay14 ((cM.access (ctxRect b)).read (Elt F) C) WO := by
  funext j
  have h0 : (j 0).val < 256 := (j 0).isLt
  have h1 : (j 1).val < 512 := (j 1).isLt
  have e0 : (((projRect b).emb j) 0).val = 256 * b.val + (j 0).val := by rw [Rect.emb_apply]; show 256 * b.val + 1 * (j 0).val = _; omega
  have e1 : (((projRect b).emb j) 1).val = (j 1).val := by rw [Rect.emb_apply]; show 0 + 1 * (j 1).val = _; omega
  show prodOf C WO ((projRect b).emb j) = _
  have eb : rowIn 2 ((((projRect b).emb j) 0).val / 256) = b := Fin.ext (by show _ % 2 = _; rw [e0]; omega)
  have ei : at2 (rowIn 256 (((projRect b).emb j) 0).val) (rowIn 512 (((projRect b).emb j) 1).val) = j :=
    ext2 (by show _ % 256 = _; rw [e0]; omega) (by show _ % 512 = _; rw [e1]; omega)
  unfold prodOf
  rw [eb, ei]

theorem sumOf_read (P : Dev nD → Vec F S512x512 .bf16) (c : Dev nD) : reduced P c = (pC c).view.read (Elt F) (sumOf P) := by
  funext j
  have hc : c.val < 16 := c.isLt
  have h0 : (j 0).val < 32 := (j 0).isLt
  have h1 : (j 1).val < 512 := (j 1).isLt
  have e0 : (((Rect.unit (s := S512x512) (rowOff c) S32x512.size (inbRow c)).emb j) 0).val = 32 * c.val + (j 0).val := by
    rw [Rect.emb_apply]; show 32 * c.val + 1 * (j 0).val = _; omega
  have e1 : (((Rect.unit (s := S512x512) (rowOff c) S32x512.size (inbRow c)).emb j) 1).val = (j 1).val := by
    rw [Rect.emb_apply]; show 0 + 1 * (j 1).val = _; omega
  show _ = sumOf P ((Rect.unit (s := S512x512) (rowOff c) S32x512.size (inbRow c)).emb j)
  have eb : rowIn 16 ((((Rect.unit (s := S512x512) (rowOff c) S32x512.size (inbRow c)).emb j) 0).val / 32) = c :=
    Fin.ext (by show _ % 16 = _; rw [e0]; omega)
  have ei : at2 (rowIn 32 (((Rect.unit (s := S512x512) (rowOff c) S32x512.size (inbRow c)).emb j) 0).val)
      (rowIn 512 (((Rect.unit (s := S512x512) (rowOff c) S32x512.size (inbRow c)).emb j) 1).val) = j :=
    ext2 (by show _ % 32 = _; rw [e0]; omega) (by show _ % 512 = _; rw [e1]; omega)
  unfold sumOf
  rw [eb, ei]

/-! ## The run -/

/-- What a device's body starts from beside its blocks: the records, its debts, its cells, tokens and credits. -/
def gear (P : Dev nD → Vec F S512x512 .bf16) (κ : GSem nD τ sig → ℕ) (c : Dev nD) : sProp 𝕄 :=
  iprop(recs P (sumOf P) κ ∗ atPos ER (barC c) 0 ∅ 0 ∗ cred (tallyAt (barC c) () 15) ∗ barTok c
    ∗ (reachedOf 0 c ∗ reachedOf 1 c ∗ reachedOf 2 c ∗ reachedOf 3 c) ∗ (tokOf 0 c ∗ tokAt 1 c ∗ tokOf 2 c ∗ tokAt 3 c)
    ∗ (credOf (F := F) 1 c ∗ credOf (F := F) 3 c) ∗ (posOf 0 c 0 ∗ posOf 1 c 0 ∗ posOf 2 c 0 ∗ posOf 3 c 0))
/-- What it leaves: every cell's counter at zero. -/
def done (c : Dev nD) : sProp 𝕄 :=
  iprop(semVal (barC c) 0 ∗ (semOf (F := F) 0 c ∗ semOf (F := F) 1 c ∗ semOf (F := F) 2 c ∗ semOf (F := F) 3 c))
/-- The scratch buffers, at some contents. -/
def scratch (c : Dev nD) : sProp 𝕄 :=
  iprop((∃ f, hold (F := F) (b := cc0_scratch0) c f) ∗ (∃ f, hold (F := F) (b := cc0_scratch1) c f) ∗ (∃ f, hold (F := F) (b := cc0_scratch2) c f)
    ∗ (∃ f, hold (F := F) (b := cc0_scratch3) c f))
/-- The staged operands. -/
def blocks (c : Dev nD) (X : Vec F S512x512 .f32) (W : Vec F S512x256 .f32) (KT : Vec F S2x4x64x256 .f32) (VV : Vec F S512x256 .f32)
    (WO : Vec F S256x512 .f32) : sProp 𝕄 :=
  iprop(hold (b := cc0_stg0_0) c X ∗ hold (b := cc0_stg1_0) c W ∗ hold (b := cc0_stg2_0) c KT ∗ hold (b := cc0_stg3_0) c VV ∗ hold (b := cc0_stg4_0) c WO)

theorem body_run (P : Dev nD → Vec F S512x512 .bf16) (κ : GSem nD τ sig → ℕ) (c : Dev nD) (hp : pM.IsWhole) (hr : rM.IsWhole) (ha : aM.IsWhole)
    (X : Vec F S512x512 .f32) (W : Vec F S512x256 .f32) (KT : Vec F S2x4x64x256 .f32) (VV : Vec F S512x256 .f32) (WO : Vec F S256x512 .f32)
    (hP : P c = prodOf (ctxOf X W KT VV) WO) (f5 : Vec F S512x512 .f32) (Q : PUnit → sProp 𝕄) :
    iprop(gear P κ c ∗ owesE c (due (dues c)) ∗ blocks c X W KT VV WO ∗ scratch (F := F) c ∗ hold (b := cc0_stg5_0) c f5)
      ⊢ iprop(((done (F := F) c ∗ owesE c (due []) ∗ blocks c X W KT VV WO ∗ scratch (F := F) c ∗ hold (b := cc0_stg5_0) c (outOf (sumOf P))) -∗ Q ⟨⟩)
        -∗ WP c (body xM wM kM vM woM oM pM hp cM rM hr aM ha cc0_scratch4 cc0_scratch5 cc0_scratch6 cc0_scratch7) Q) := by
  unfold gear scratch blocks done
  iintro ⟨⟨#Hr, Hbar, Hcb, Hbt, ⟨#Hr0, #Hr1, #Hr2, #Hr3⟩, ⟨Ht0, Ht1, Ht2, Ht3⟩, ⟨Hc1, Hc3⟩, Hpos⟩, HO, Hblk, ⟨⟨%f0, H0⟩, ⟨%f1, H1⟩, ⟨%f2, H2⟩, ⟨%f3, H3⟩⟩, H5⟩ Hk
  iapply (run_first P (sumOf P) κ c hp hr ha X W KT VV WO (ctxOf X W KT VV) (ctxOf_read X W KT VV) (fun b => hP ▸ prodOf_read _ WO b) f0 f1 f2 f3 Q)
    $$ [Hbar Hcb Hbt Ht0 Ht1 HO Hblk H0 H1 H2 H3]
  · isplitr; · iexact Hr
    isplitl [HO]; · iexact HO
    isplitl [Hbar]; · iexact Hbar
    isplitl [Hcb]; · iexact Hcb
    isplitl [Hbt]; · iexact Hbt
    isplitr
    · isplitr; · iexact Hr0
      isplitr; · iexact Hr1
      iexact Hr3
    isplitl [Ht0]; · iexact Ht0
    isplitl [Ht1]; · iexact Ht1
    isplitl [Hblk]; · iexact Hblk
    isplitl [H0]; · iexact H0
    isplitl [H1]; · iexact H1
    isplitl [H2]; · iexact H2
    iexact H3
  iintro ⟨HO, Hbar, Hc0, Hga, #Hq3, Hblk, H1⟩
  iapply (run_second P (sumOf P) κ c hp hr ha (sumOf_read P c) f0 f2 f5 Q) $$ [HO Hbar Hc0 Hc1 Hc3 Hpos Hga Ht2 Ht3 H5]
  · isplitr; · iexact Hr
    isplitl [HO]; · iexact HO
    isplitl [Hbar]; · iexact Hbar
    isplitl [Hc0 Hc1 Hc3]
    · isplitl [Hc0]; · iexact Hc0
      isplitl [Hc1]; · iexact Hc1
      iexact Hc3
    isplitl [Hpos]; · iexact Hpos
    isplitl [Hga]; · iexact Hga
    isplitr; · iexact Hq3
    isplitr; · iexact Hr2
    isplitl [Ht2]; · iexact Ht2
    isplitl [Ht3]; · iexact Ht3
    iexact H5
  iintro ⟨HO, Hb, Hsem, H0, H2, H3, H5⟩
  iapply Hk
  isplitl [Hb Hsem]
  · isplitl [Hb]; · iexact Hb
    iexact Hsem
  isplitl [HO]; · iexact HO
  isplitl [Hblk]; · iexact Hblk
  isplitl [H0 H1 H2 H3]
  · isplitl [H0]; · iexact H0
    isplitl [H1]; · iexact H1
    isplitl [H2]; · iexact H2
    iexact H3
  iexact H5

end Cert.KernelIdeal.Stage

end
-- ==== Proof.Region.lean ====
/- The kernel call on one device as one region of the program: what it is entered with, what its body does, what it leaves. -/
module

public import proofs.«01_k».proof.Proof.Body
public import proofs.«01_k».proof.Proof.Gen.KernelIdeal.Regions
public import proofs.«01_k».proof.Proof.Gen.KernelIdeal.Points
public import Idealize.ShloMosaic.Lib.Pipeline.RegionTalk

@[expose] public section

set_option maxRecDepth 16384

noncomputable section

namespace Cert.KernelIdeal.Stage

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.SL.BI (bigSepL bigSepL_cons' bigSepL_nil)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## The operands and the result -/

def opX (c : Dev nD) : Vec F S512x512 .f32 := V1 m c main_v5
def opW (c : Dev nD) : Vec F S512x256 .f32 := V1 m c main_v12
def opK (c : Dev nD) : Vec F S2x4x64x256 .f32 := V1 m c main_v18
def opV (c : Dev nD) : Vec F S512x256 .f32 := V1 m c main_v19
def opO (c : Dev nD) : Vec F S256x512 .f32 := V1 m c main_v17

/-- Each device's share of the product. -/
def prods (c : Dev nD) : Vec F S512x512 .bf16 := prodOf (ctxOf (opX m c) (opW m c) (opK m c) (opV m c)) (opO m c)
/-- What the call leaves in the result's array. -/
def result : Vec F S512x512 .f32 := outOf (sumOf (prods m))

/-! ## A window's block is its whole array -/

theorem fill_first (w : Fin cfg0.W) (h : ∀ a, (cfg0.win w).clip (cfg0.grid.coords t0_0) a = none) {α : Type} (d : (cfg0.win w).block.Idx → α)
    (X : (cfg0.win w).block.Idx → α) : (cfg0.win w).fill (cfg0.grid.coords t0_0) d ((cfg0.win w).cut (cfg0.grid.coords t0_0) X) = X :=
  (Pipeline.fill_of_clip_none (cfg := cfg0) w _ h d X _).trans ((cfg0.win w).fill_cut _ X)

theorem blk0 (f : Vec F S512x512 .f32) : ((cfg0.win 0).blk t0_0).view.read (Elt F) f = f :=
  Memref.read_access_unit_zero (Elt F) main_v5 (funext fun a => Nat.zero_mul _) _ f
theorem blk1 (f : Vec F S512x256 .f32) : ((cfg0.win 1).blk t0_0).view.read (Elt F) f = f :=
  Memref.read_access_unit_zero (Elt F) main_v12 (funext fun a => Nat.zero_mul _) _ f
theorem blk2 (f : Vec F S2x4x64x256 .f32) : ((cfg0.win 2).blk t0_0).view.read (Elt F) f = f :=
  Memref.read_access_unit_zero (Elt F) main_v18 (funext fun a => Nat.zero_mul _) _ f
theorem blk3 (f : Vec F S512x256 .f32) : ((cfg0.win 3).blk t0_0).view.read (Elt F) f = f :=
  Memref.read_access_unit_zero (Elt F) main_v19 (funext fun a => Nat.zero_mul _) _ f
theorem blk4 (f : Vec F S256x512 .f32) : ((cfg0.win 4).blk t0_0).view.read (Elt F) f = f :=
  Memref.read_access_unit_zero (Elt F) main_v17 (funext fun a => Nat.zero_mul _) _ f
theorem blk5 (f g : Vec F S512x512 .f32) : ((cfg0.win 5).blk t0_0).view.write (Elt F) f g Finset.univ = g :=
  Memref.write_access_unit_zero_univ (Elt F) main_v20 (funext fun a => Nat.zero_mul _) _ f g

/-! ## The region's data -/

/-- What a device holds of the protocol before the body. -/
def entered (c : Dev nD) : sProp 𝕄 := iprop(∃ κ, gear (prods m) κ c)

def dat (c : Dev nD) : Pipeline.Dat τ (Elt F) Unit ℕ UU ℕ cfg0 c where
  A w := V1 m c (Proc.devRef .tc (Pipeline.arrRef spec0 w))
  after w _ := match w with
    | 0 => opX m c | 1 => opW m c | 2 => opK m c | 3 => opV m c | 4 => opO m c | 5 => result m
  Φ t := if t.val = 0 then iprop(entered m c ∗ scratch (F := F) c ∗ ∃ r, prngReg c r)
    else iprop(done (F := F) c ∗ scratch (F := F) c ∗ ∃ r, prngReg c r)
  q _ := fullShare
  owed t := if t.val = 0 then due (dues c) else 0

theorem before0 (c : Dev nD) (d) : (dat m c).before 0 t0_0 d = opX m c := by
  rw [Pipeline.Dat.before, if_pos (fetch0_0 _)]; exact blk0 (opX m c)
theorem before1 (c : Dev nD) (d) : (dat m c).before 1 t0_0 d = opW m c := by
  rw [Pipeline.Dat.before, if_pos (fetch0_1 _)]; exact blk1 (opW m c)
theorem before2 (c : Dev nD) (d) : (dat m c).before 2 t0_0 d = opK m c := by
  rw [Pipeline.Dat.before, if_pos (fetch0_2 _)]; exact blk2 (opK m c)
theorem before3 (c : Dev nD) (d) : (dat m c).before 3 t0_0 d = opV m c := by
  rw [Pipeline.Dat.before, if_pos (fetch0_3 _)]; exact blk3 (opV m c)
theorem before4 (c : Dev nD) (d) : (dat m c).before 4 t0_0 d = opO m c := by
  rw [Pipeline.Dat.before, if_pos (fetch0_4 _)]; exact blk4 (opO m c)

theorem last_out (c : Dev nD) : (dat m c).arrAt 5 1 = result m := by
  unfold Pipeline.Dat.arrAt
  rw [dif_pos (show 0 < cfg0.N by decide)]
  rw [if_pos (flush0_5 _)]
  exact blk5 _ (result m)
theorem last_in (c : Dev nD) (w : Fin cfg0.W) (h : (cfg0.win w).flush t0_0 = false) : (dat m c).arrAt w 1 = (dat m c).A w := by
  unfold Pipeline.Dat.arrAt
  rw [dif_pos (show 0 < cfg0.N by decide)]
  rw [if_neg (by rw [show (⟨0, _⟩ : Fin cfg0.N) = t0_0 from rfl, h]; decide)]
  rfl

theorem owed_at (c : Dev nD) (t : Fin (cfg0.N + 1)) : (dat m c).owed t = if t.val = 0 then due (dues c) else 0 := rfl
theorem owed_first (c : Dev nD) : (dat m c).owed 0 = due (dues c) := by rw [owed_at]; exact if_pos rfl
theorem owed_last (c : Dev nD) : (dat m c).owed (Fin.last _) = 0 := by rw [owed_at]; exact if_neg (by decide)
theorem inv_first (c : Dev nD) : (dat m c).Φ 0 = iprop(entered m c ∗ scratch (F := F) c ∗ ∃ r, prngReg c r) := rfl
theorem inv_last (c : Dev nD) : (dat m c).Φ (Fin.last _) = iprop(done (F := F) c ∗ scratch (F := F) c ∗ ∃ r, prngReg c r) := rfl

theorem owes_in (c : Dev nD) (t : Fin (cfg0.N + 1)) : owesE c ((dat m c).owed t) ⊢ ((dat m c).owesAt () t : sProp 𝕄) := by
  unfold owesE Pipeline.Dat.owesAt Pipeline.owesWithin Pipeline.Dat.bound
  iintro ⟨%W, HO⟩
  iexists W
  isplitr; · ipureintro; exact fun _ _ => Or.inl trivial
  iexact HO
theorem owes_out (c : Dev nD) (t : Fin (cfg0.N + 1)) : ((dat m c).owesAt () t : sProp 𝕄) ⊢ owesE c ((dat m c).owed t) := by
  unfold owesE Pipeline.Dat.owesAt Pipeline.owesWithin
  iintro ⟨%W, -, HO⟩
  iexists W; iexact HO

theorem own_eq (c : Dev nD) {b : Ref sig .tc} (X : b.ty.Contents (Elt F)) :
    (owns (c : Thread nD τ) (Memref.whole b) fullShare X : sProp 𝕄) = hold (b := b) c X := owns_whole (c : Thread nD τ) b fullShare X

/-- The staging buffers as the body meets them. -/
theorem stages_in (c : Dev nD) :
    (bigSep Finset.univ fun w : Fin cfg0.W => iprop(∃ d, owns (c : Thread nD τ) ((cfg0.win w).stage (cfg0.slots t0_0 w)) fullShare ((dat m c).before w t0_0 d)) : sProp 𝕄)
      ⊢ iprop(blocks c (opX m c) (opW m c) (opK m c) (opV m c) (opO m c) ∗ ∃ f, hold (F := F) (b := cc0_stg5_0) c f) := by
  rw [bigSep_W0]
  simp only [before0, before1, before2, before3, before4]
  unfold blocks
  rw [← own_eq, ← own_eq, ← own_eq, ← own_eq, ← own_eq]
  iintro ⟨⟨%d0, H0⟩, ⟨%d1, H1⟩, ⟨%d2, H2⟩, ⟨%d3, H3⟩, ⟨%d4, H4⟩, ⟨%d5, H5⟩⟩
  isplitr [H5]
  · isplitl [H0]; · iexact H0
    isplitl [H1]; · iexact H1
    isplitl [H2]; · iexact H2
    isplitl [H3]; · iexact H3
    iexact H4
  iexists _
  rw [← own_eq]
  iexact H5
/-- The staging buffers as it leaves them. -/
theorem stages_out (c : Dev nD) :
    iprop(blocks c (opX m c) (opW m c) (opK m c) (opV m c) (opO m c) ∗ hold (F := F) (b := cc0_stg5_0) c (result m))
      ⊢ (bigSep Finset.univ fun w : Fin cfg0.W => owns (c : Thread nD τ) ((cfg0.win w).stage (cfg0.slots t0_0 w)) fullShare ((dat m c).after w t0_0) : sProp 𝕄) := by
  rw [bigSep_W0]
  unfold blocks
  rw [← own_eq, ← own_eq, ← own_eq, ← own_eq, ← own_eq, ← own_eq]
  iintro ⟨⟨H0, H1, H2, H3, H4⟩, H5⟩
  isplitl [H0]; · iexact H0
  isplitl [H1]; · iexact H1
  isplitl [H2]; · iexact H2
  isplitl [H3]; · iexact H3
  isplitl [H4]; · iexact H4
  iexact H5

theorem body_ok (c : Dev nD) : Pipeline.BodyObligation (dat m c) defs₀ 𝒱₀ () Set.univ := fun t => by
  obtain rfl := fin_N0 t
  refine (sep_mono .rfl (sep_mono (owes_out m c _) (stages_in m c))).trans ?_
  show iprop((dat m c).Φ 0 ∗ owesE c ((dat m c).owed 0) ∗ _) ⊢ _
  rw [inv_first, owed_first]
  unfold entered
  iintro ⟨⟨⟨%κ, Hg⟩, Hs, Hp⟩, HO, Hb, ⟨%f, Hf⟩⟩
  have hbody : (defs₀ (F := F) .tc cfg0.body (cfg0.bodyArgs t0_0 (cfg0.slots t0_0)) : Prog _ _)
      = body xM wM kM vM woM oM pM (Memref.isWhole_whole _) cM rM (Memref.isWhole_whole _) aM (Memref.isWhole_whole _) cc0_scratch4 cc0_scratch5 cc0_scratch6 cc0_scratch7 :=
    cc0_body_eq ..
  rw [hbody]
  iapply (body_run (prods m) κ c _ _ _ (opX m c) (opW m c) (opK m c) (opV m c) (opO m c) rfl f _) $$ [Hg HO Hb Hs Hf]
  · isplitl [Hg]; · iexact Hg
    isplitl [HO]; · iexact HO
    isplitl [Hb]; · iexact Hb
    isplitl [Hs]; · iexact Hs
    iexact Hf
  iintro ⟨Hd, HO, Hb, Hs, Hf⟩
  rw [show (dat m c).Φ t0_0.succ = _ from inv_last m c]
  isplitl [Hd Hs Hp]
  · isplitl [Hd]; · iexact Hd
    isplitl [Hs]; · iexact Hs
    iexact Hp
  isplitl [HO]
  · iapply (owes_in m c (Fin.last _))
    rw [owed_last]
    iexact HO
  iapply (stages_out m c)
  isplitl [Hb]; · iexact Hb
  iexact Hf

/-! ## The region's cells, opened and closed -/

/-- The semaphores the kernel itself uses. -/
def osem (k : Fin 4 × Fin 16) : SemLoc sig := .dma (semIx k.1 k.2)
theorem own_facts : Pipeline.OwnSemFacts spec0 osem := by decide

/-- What is kept for the call from the launch on: the rights to open the cells in place of the cells' positions. -/
def kept (κ : GSem nD τ sig → ℕ) (c : Dev nD) : sProp 𝕄 :=
  iprop((bigSep Finset.univ fun k : Fin 4 × Fin 16 => openTok ER (cell k.1 c k.2)) ∗ atPos ER (barC c) 0 ∅ 0 ∗ barTok c
    ∗ (tokOf 0 c ∗ tokAt 1 c ∗ tokOf 2 c ∗ tokAt 3 c))
def invs (κ : GSem nD τ sig → ℕ) : sProp 𝕄 :=
  iprop((bigSep Finset.univ fun c : Dev nD => cellInv ER (Rd (prods m) (sumOf (prods m))) (κ (barC c)) (barC c))
    ∗ (bigSep Finset.univ fun x : Fin 4 × Dev nD × Fin 16 => cellInv ER (Rd (prods m) (sumOf (prods m))) (κ (cell x.1 x.2.1 x.2.2)) (cell x.1 x.2.1 x.2.2)))
instance invs_persistent (κ : GSem nD τ sig → ℕ) : BI.Persistent (invs (F := F) m κ) := by unfold invs; infer_instance
def waiting (c : Dev nD) : sProp 𝕄 :=
  iprop((∃ κ, invs m κ ∗ kept κ c) ∗ cred (tallyAt (barC c) () 15) ∗ credOf (F := F) 1 c ∗ credOf (F := F) 3 c)

theorem sems_eq (c : Dev nD) : (Pipeline.ownSems0 osem c : sProp 𝕄) = bigSep Finset.univ fun k : Fin 4 × Fin 16 => semVal (cell k.1 c k.2) 0 := rfl

theorem four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

theorem open_cells (κ : GSem nD τ sig → ℕ) (c : Dev nD) :
    iprop(recs (prods m) (sumOf (prods m)) κ ∗ bigSep Finset.univ fun k : Fin 4 × Fin 16 => iprop(openTok ER (cell k.1 c k.2) ∗ semVal (cell k.1 c k.2) 0))
      ⊢ (|={Set.univ}=> bigSep Finset.univ fun k : Fin 4 × Fin 16 => iprop(atPos ER (cell k.1 c k.2) 0 ∅ 0 ∗ reached ER (cell k.1 c k.2) 0) : sProp 𝕄) := by
  refine BIBase.Entails.trans ?_ (bigSep_fupd Finset.univ _)
  refine spread Finset.univ fun k => ?_
  iintro ⟨#HR, Ho, Hs⟩
  iapply (Rounds.cell_open ER (Rd (prods m) (sumOf (prods m))) (g := cell k.1 c k.2) (Set.mem_univ (κ (cell k.1 c k.2))))
  isplitr
  · iapply (recs_cell (prods m) (sumOf (prods m)) κ k.1 c k.2); iexact HR
  isplitl [Ho]; · iexact Ho
  iexact Hs

theorem opened_eq (c : Dev nD) :
    (bigSep Finset.univ fun k : Fin 4 × Fin 16 => iprop(atPos ER (cell k.1 c k.2) 0 ∅ 0 ∗ reached ER (cell k.1 c k.2) 0) : sProp 𝕄)
      = iprop((posOf 0 c 0 ∗ posOf 1 c 0 ∗ posOf 2 c 0 ∗ posOf 3 c 0) ∗ reachedOf 0 c ∗ reachedOf 1 c ∗ reachedOf 2 c ∗ reachedOf 3 c) := by
  rw [bigSep_sep', bigSep_univ_prod, bigSep_univ_prod, four, four]
  rfl

theorem region_open (c : Dev nD) : iprop(waiting m c ∗ Pipeline.ownSems0 osem c ∗ levAts L lv) ⊢ (|={Set.univ}=> entered m c : sProp 𝕄) := by
  rw [sems_eq]
  unfold waiting entered kept
  iintro ⟨⟨⟨%κ, #HI, Ho, Hb, Hbt, Ht⟩, Hc0, Hc1, Hc3⟩, Hs, #Hl⟩
  ihave #HR := (show iprop(invs m κ ∗ levAts L lv) ⊢ recs (prods m) (sumOf (prods m)) κ from by
    unfold invs recs
    iintro ⟨⟨H1, H2⟩, H3⟩
    isplitl [H1]; · iexact H1
    isplitl [H2]; · iexact H2
    iexact H3) $$ [HI Hl]
  · isplitr; · iexact HI
    iexact Hl
  imod (open_cells m κ c) $$ [Ho Hs] with Hopen
  · isplitr; · iexact HR
    rw [bigSep_sep']
    isplitl [Ho]; · iexact Ho
    iexact Hs
  imodintro
  ihave H2 := (Entails.of_eq (opened_eq c)) $$ Hopen
  icases H2 with ⟨Hpos, Hrch⟩
  iexists κ
  unfold gear
  isplitr; · iexact HR
  isplitl [Hb]; · iexact Hb
  isplitl [Hc0]; · iexact Hc0
  isplitl [Hbt]; · iexact Hbt
  isplitl [Hrch]; · iexact Hrch
  isplitl [Ht]; · iexact Ht
  isplitl [Hc1 Hc3]
  · isplitl [Hc1]; · iexact Hc1
    iexact Hc3
  iexact Hpos

/-! ## The region -/

abbrev pdats : (p : Fin 1) → (c : Dev nD) → Pipeline.Dat τ (Elt F) Unit ℕ UU ℕ (Pipeline.pin (pcfgs (F := F)) adm p) c
  | 0 => dat m

/-- What the call leaves, where it is asked for. -/
def outs : Outs (F := F) := fun _ r c => if h : r = main_v20 then h ▸ (result m) else m ((c : Thread nD τ).loc r)
theorem outs_eq (c : Dev nD) : outs m 2 main_v20 c = result m := rfl

theorem region_in (c : Dev nD) :
    iprop(Pipeline.scopedRest (Pipeline.pin (pcfgs (F := F)) adm 0).spec c ∗ (∃ r, prngReg c r) ∗ StableHlo.held (c.tc : Thread nD τ) ∅ (V1 m c) ∗ entered m c)
      ⊢ ((pdats m 0 c).Φ 0 : sProp 𝕄) := by
  rw [show (pdats m 0 c).Φ 0 = _ from inv_first m c, show (Pipeline.pin (pcfgs (F := F)) adm 0).spec = spec0 from rfl, scopedRest0_eq]
  unfold scratch
  iintro ⟨Hs, Hp, -, He⟩
  isplitl [He]; · iexact He
  isplitl [Hs]; · iexact Hs
  iexact Hp

theorem region_out (c : Dev nD) :
    ((pdats m 0 c).Φ (Fin.last (Pipeline.pin (pcfgs (F := F)) adm 0).N) : sProp 𝕄)
      ⊢ iprop(Pipeline.scopedRest (Pipeline.pin (pcfgs (F := F)) adm 0).spec c ∗ (∃ r, prngReg c r) ∗ StableHlo.held (c.tc : Thread nD τ) ∅ (V2 m (outs m) c)
        ∗ Pipeline.ownSems0 osem c ∗ semVal (barC c) 0) := by
  rw [show (pdats m 0 c).Φ (Fin.last (Pipeline.pin (pcfgs (F := F)) adm 0).N) = _ from inv_last m c,
    show (Pipeline.pin (pcfgs (F := F)) adm 0).spec = spec0 from rfl, scopedRest0_eq, sems_eq, bigSep_univ_prod, four]
  unfold done scratch
  iintro ⟨⟨Hb, Hss⟩, Hs, Hp⟩
  isplitl [Hs]; · iexact Hs
  isplitl [Hp]; · iexact Hp
  isplitr
  · unfold StableHlo.held; rw [bigSep_empty]; iempintro
  isplitl [Hss]; · iexact Hss
  iexact Hb

/-- Every unit owed is owed above the staging buffers' level. -/
theorem cut (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  rw [show (pdats (F := F) m 0 c).owed t = _ from owed_at m c t] at h
  split at h
  · obtain ⟨p, hp, rfl⟩ := due_pos _ _ _ h
    rcases List.mem_append.mp hp with hp | hp
    · obtain ⟨d, -, rfl⟩ := List.mem_map.mp hp
      exact ⟨by rw [show (barDue d).1 = barC d from rfl, L_tc]; exact Finset.mem_singleton_self _, Nat.one_pos⟩
    · obtain ⟨h1, h2⟩ := dues12_lv c p hp
      exact ⟨by rw [show L p.1 = {()} from if_pos h1]; exact Finset.mem_singleton_self _, lt_of_le_of_lt (Nat.zero_le _) h2⟩
  · exact absurd h (Nat.lt_irrefl 0)

theorem stage_level (c : Dev nD) : ∀ (w : Fin 6) (s : Fin (cfg0.win w).nbuf), lv ((c : Thread nD τ), .dma ((cfg0.win w).sem s)) () ≤ 0 := by
  show ∀ (w : Fin 6) (s : Fin (cfg0.win w).nbuf), lvS (.dma ((cfg0.win w).sem s)) ≤ 0
  decide

/-- The unscoped buffers that are no window's array. -/
abbrev rest : Finset (DevRef τ sig) := Pipeline.ucRefs τ sig \ Pipeline.arrRefs (τ := τ) (pcfgs (F := F) 0).spec

theorem v20_mem : (Proc.devRef .tc main_v20 : DevRef τ sig) ∈ Pipeline.arrRefs (τ := τ) (pcfgs (F := F) 0).spec :=
  Finset.mem_map_of_mem ⟨Proc.devRef (sig := sig) .tc, Proc.devRef_injective _⟩ (Finset.mem_image.mpr ⟨5, Finset.mem_univ _, rfl⟩)

theorem arr_ne (w : Fin 6) (h : w ≠ 5) : Pipeline.arrRef spec0 w ∉ ([main_v20] : List (Ref sig .tc)) := by
  revert w; decide
theorem no_flush (w : Fin 6) (h : w ≠ 5) : (cfg0.win w).flush t0_0 = false := by
  revert w; decide

theorem arr_in (c : Dev nD) (w : Fin 6) : (dat m c).arrAt w 0 = V1 m c (Proc.devRef .tc (Pipeline.arrRef spec0 w)) := rfl
theorem arr_out (c : Dev nD) (w : Fin 6) : (dat m c).arrAt w 1 = V2 m (outs m) c (Proc.devRef .tc (Pipeline.arrRef spec0 w)) := by
  by_cases h : w = 5
  · subst h
    rw [last_out]
    exact (Function.update_self (Proc.devRef .tc main_v20 : DevRef τ sig) (outs m 2 main_v20 c) (V1 m c)).symm
  · rw [last_in m c w (no_flush w h)]
    exact (V2_of m (outs m) c _ (arr_ne w h)).symm

theorem rest_same (c : Dev nD) (b : DevRef τ sig) (hb : b ∈ rest (F := F)) : V2 m (outs m) c b = V1 m c b :=
  Function.update_of_ne (fun e => (Finset.mem_sdiff.mp hb).2 (by rw [e]; exact v20_mem (F := F))) _ _

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ (rest (F := F)) (Finset.empty_subset _) launch0.toP rfl (fun c => (body_ok m c).loose)
    (fun _ => 0) (fun c => due (dues c)) (fun c => (owed_first m c).trans (zero_add _).symm) (owed_last m) (fun _ => rfl)
    (fun _ w => by unfold Pipeline.Dat.share; split <;> rfl)
    (V1 m) (V2 m (outs m))
    (fun c b hb => rest_same m c b (Finset.mem_sdiff.mp hb).1)
    (waiting m) (fun c => semVal (barC c) 0) (entered m) (fun c => semVal (barC c) 0) (region_open m) (region_in m) (region_out m)
    (fun c => by iintro H; imodintro; iexact H)
    (fun _ => 0)
    ⟨fun c w s => by rw [L_tc]; exact Finset.mem_singleton_self _, fun c w s => stage_level c w s, fun c t g i h => cut m c t g i h⟩
    (fun _ => iprop(emp))
    (fun c w => arr_in m c w) (fun c w => arr_out m c w)

/-- What rides beside the buffers, before the call and after it. -/
def aside (k : Fin 2) (c : Dev nD) : sProp 𝕄 :=
  if k = 0 then iprop(waiting m c ∗ owesE c (due (dues c)) ∗ ∃ r, prngReg c r)
  else iprop(semVal (barC c) 0 ∗ owesE c 0)

theorem buffers_split (c : Dev nD) (W : Valuation τ sig (Elt F)) :
    (StableHlo.held (c : Thread nD τ) (Pipeline.ucRefs τ sig) W : sProp 𝕄)
      = iprop(StableHlo.held (c : Thread nD τ) (Pipeline.arrRefs (τ := τ) (pcfgs (F := F) 0).spec) W ∗ StableHlo.held (c : Thread nD τ) (rest (F := F)) W) := by
  exact StableHlo.held_sub_split _ (Pipeline.arrRefs_sub_ucRefs _ (by decide : ∀ w : Fin 6, (Pipeline.arrRef spec0 w).isScoped = false)) W

theorem region_pre (c : Dev nD) :
    iprop(StableHlo.held (c : Thread nD τ) (Pipeline.ucRefs τ sig) (V1 m c) ∗ aside m 0 c) ⊢ (region m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (rest (F := F)) (V1 m c) ∗ emp) ∗ waiting m c ∗ ∃ Wd, owes (c : Thread nD τ) (0 + due (dues c)) Wd)
  rw [buffers_split, zero_add, show aside m 0 c = iprop(waiting m c ∗ owesE c (due (dues c)) ∗ ∃ r, prngReg c r) from if_pos rfl]
  unfold owesE
  iintro ⟨⟨Ha, Hr⟩, Hw, HO, Hp⟩
  isplitl [Ha]; · iexact Ha
  isplitl [Hp]; · iexact Hp
  isplitl [Hr]
  · isplitl [Hr]; · iexact Hr
    iempintro
  isplitl [Hw]; · iexact Hw
  iexact HO

theorem region_post (c : Dev nD) :
    (region m).post c ⊢ iprop(StableHlo.held (c : Thread nD τ) (Pipeline.ucRefs τ sig) (V2 m (outs m) c) ∗ aside m 1 c) := by
  show iprop(StableHlo.held (c.tc : Thread nD τ) (Pipeline.arrRefs (τ := τ) (pcfgs (F := F) 0).spec) (V2 m (outs m) c) ∗ (∃ r, prngReg c r)
    ∗ (StableHlo.held (c.tc : Thread nD τ) (rest (F := F)) (V2 m (outs m) c) ∗ emp) ∗ semVal (barC c) 0 ∗ ∃ Wd, owes (c : Thread nD τ) (0 : CellTallies nD τ sig Unit) Wd) ⊢ _
  rw [buffers_split, show aside m 1 c = iprop(semVal (barC c) 0 ∗ owesE c 0) from if_neg (by decide)]
  unfold owesE
  iintro ⟨Ha, -, ⟨Hr, -⟩, Hb, HO⟩
  isplitl [Ha Hr]
  · isplitl [Ha]; · iexact Ha
    iexact Hr
  isplitl [Hb]; · iexact Hb
  iexact HO

end Cert.KernelIdeal.Stage

end
-- ==== Proof.Launch.lean ====
/- The launch on every device: the protocol's cells funded, its tokens and credit dealt; then the run of the whole program. -/
module

public import proofs.«01_k».proof.Proof.Region
public import Idealize.ShloMosaic.Lib.Quiescent
public import Idealize.ShloMosaic.Harness.Basic

@[expose] public section

set_option maxRecDepth 16384

noncomputable section

namespace Cert.KernelIdeal.Stage

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.SL.BI (bigSepL bigSepL_cons' bigSepL_nil)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## The launch credit -/

theorem due_append (l l' : List (GSem nD τ sig × ℕ)) : due (l ++ l') = due l + due l' := by
  unfold due; rw [List.map_append, List.sum_append]

/-- What a list of one unit per device owes at a cell, when at most one of its cells is that cell. -/
theorem due_at (l : List (Dev nD)) (hl : l.Nodup) (f : Dev nD → GSem nD τ sig × ℕ) (g : GSem nD τ sig) (t : Dev nD) (n : ℕ)
    (ht : f t = (g, n)) (hf : ∀ t', t' ≠ t → (f t').1 ≠ g) : due (l.map f) g () = if t ∈ l then n else 0 := by
  induction l with
  | nil => rfl
  | cons d l ih =>
    obtain ⟨hd, hl⟩ := List.nodup_cons.mp hl
    rw [List.map_cons, due_cons, Pi.add_apply, Finsupp.add_apply, ih hl, tallyAt_apply]
    by_cases e : d = t
    · subst e
      rw [if_neg hd, if_pos ⟨by rw [ht], rfl⟩, if_pos List.mem_cons_self, ht]; exact Nat.zero_add n
    · rw [if_neg (c := g = (f d).1 ∧ () = ()) (fun h => hf d e h.1.symm), Nat.add_zero]
      exact if_congr ⟨fun h => List.mem_cons_of_mem _ h, fun h => (List.mem_cons.mp h).resolve_left (fun h => e h.symm)⟩ rfl rfl
/-- What it owes at a cell that is none of its cells. -/
theorem due_off (l : List (GSem nD τ sig × ℕ)) (g : GSem nD τ sig) (h : ∀ p ∈ l, p.1 ≠ g) : due l g () = 0 := by
  rcases Nat.eq_zero_or_pos (due l g ()) with h0 | h0
  · exact h0
  · obtain ⟨p, hp, e⟩ := due_pos l g () h0
    exact absurd e (h p hp)

theorem semIx_inj {a b : Fin 4} {s t : Fin 16} (h : semIx a s = semIx b t) : a = b ∧ s = t :=
  ⟨Fin.ext (by rw [← arr_semIx a s, h, arr_semIx]), by rw [← ixOf_semIx a s, h, ixOf_semIx]⟩
theorem cell_inj {a b : Fin 4} {c d : Dev nD} {s t : Fin 16} (h : cell a c s = cell b d t) : a = b ∧ c = d ∧ s = t := by
  have h1 : c = d := congrArg (fun g : GSem nD τ sig => g.1.1) h
  have h2 : SemLoc.dma (semIx a s) = SemLoc.dma (semIx b t) := congrArg Prod.snd h
  obtain ⟨h3, h4⟩ := semIx_inj (SemLoc.dma.inj h2)
  exact ⟨h3, h1, h4⟩
theorem bar_ne {a : Fin 4} {c d : Dev nD} {t : Fin 16} : barC c ≠ cell a d t := fun h => by
  have h2 : SemLoc.reg bar = SemLoc.dma (semIx a t) := congrArg Prod.snd h
  cases h2

theorem dues_eq (c : Dev nD) : dues c = (listB c).map barDue
    ++ (((pairs0 ++ pairs1).map fun x => tgt c x.1 x.2).map (firstDue c) ++ ((List.finRange 16).map (nxt c)).map (secondDue c)) := by
  unfold dues dues1 dues2 dues3
  rw [List.append_nil, List.map_map, List.map_map, List.map_append, List.append_assoc]
  rfl

theorem mem_of_univ {l : List (Fin 16)} (h : (Finset.univ : Finset (Fin 16)) = l.toFinset) (t : Fin 16) : t ∈ l :=
  List.mem_toFinset.mp (h ▸ Finset.mem_univ t)

theorem owed_bar (d c : Dev nD) : due (dues d) (barC c) () = if d = c then 0 else 1 := by
  rw [dues_eq, due_append, Pi.add_apply, Finsupp.add_apply,
    due_at (listB d) (listB_all d).2.1 barDue (barC c) c 1 rfl (fun t' h e => h (congrArg (fun g : GSem nD τ sig => g.1.1) e)),
    due_off _ (barC c) (fun p hp e => ?_), Nat.add_zero]
  · have hm : c ∈ listB d ↔ c ≠ d := by
      rw [← List.mem_toFinset, ← (listB_all d).1, Finset.mem_erase]
      exact ⟨fun h => h.1, fun h => ⟨h, Finset.mem_univ _⟩⟩
    by_cases e : d = c
    · rw [if_pos e, if_neg fun h => hm.mp h e.symm]
    · rw [if_neg e, if_pos (hm.mpr fun h => e h.symm)]
  · rcases List.mem_append.mp hp with hp | hp <;> obtain ⟨t, -, rfl⟩ := List.mem_map.mp hp <;> exact bar_ne e.symm

theorem owed_first_cell (d c : Dev nD) (t : Fin 16) : due (dues d) (cell 1 c t) () = if d = t then NN else 0 := by
  rw [dues_eq, due_append, due_append, Pi.add_apply, Finsupp.add_apply, Pi.add_apply, Finsupp.add_apply,
    due_off ((listB d).map barDue) (cell 1 c t) (fun p hp e => by obtain ⟨x, -, rfl⟩ := List.mem_map.mp hp; exact bar_ne e),
    due_off (List.map (secondDue d) _) (cell 1 c t) (fun p hp e => by obtain ⟨x, -, rfl⟩ := List.mem_map.mp hp; exact absurd (cell_inj e).1 (by decide)),
    Nat.zero_add, Nat.add_zero]
  by_cases e : d = t
  · subst e
    rw [if_pos rfl, due_at _ (pairs_all d).2 (firstDue d) (cell 1 c d) c NN rfl (fun t' h e => h (cell_inj e).2.1), if_pos (mem_of_univ (pairs_all d).1 c)]
  · rw [if_neg e, due_off]
    intro p hp e'
    obtain ⟨x, -, rfl⟩ := List.mem_map.mp hp
    exact e (cell_inj e').2.2

theorem owed_second_cell (d c : Dev nD) (t : Fin 16) : due (dues d) (cell 3 c t) () = if d = t then NN else 0 := by
  rw [dues_eq, due_append, due_append, Pi.add_apply, Finsupp.add_apply, Pi.add_apply, Finsupp.add_apply,
    due_off ((listB d).map barDue) (cell 3 c t) (fun p hp e => by obtain ⟨x, -, rfl⟩ := List.mem_map.mp hp; exact bar_ne e),
    due_off (List.map (firstDue d) _) (cell 3 c t) (fun p hp e => by obtain ⟨x, -, rfl⟩ := List.mem_map.mp hp; exact absurd (cell_inj e).1 (by decide)),
    Nat.zero_add, Nat.zero_add]
  by_cases e : d = t
  · subst e
    rw [if_pos rfl, due_at _ (nxt_all d).2 (secondDue d) (cell 3 c d) c NN rfl (fun t' h e => h (cell_inj e).2.1), if_pos (mem_of_univ (nxt_all d).1 c)]
  · rw [if_neg e, due_off]
    intro p hp e'
    obtain ⟨x, -, rfl⟩ := List.mem_map.mp hp
    exact e (cell_inj e').2.2

abbrev owedAll (c : Dev nD) : CellTallies nD τ sig Unit := due (dues c)

theorem credit_of (g : GSem nD τ sig) (n : ℕ) (h : ∑ d : Dev nD, owedAll d g () = n) :
    tallyOn g (launchCredit (Pipeline.owing owedAll) 0 g) = (tallyAt g () n : CellTallies nD τ sig Unit) := by
  unfold tallyAt
  refine congrArg _ (Finsupp.ext fun u => ?_)
  cases u
  rw [Pipeline.launchCredit_owing, Finsupp.single_eq_same, h]

theorem credit_bar (c : Dev nD) : ∑ d : Dev nD, owedAll d (barC c) () = 15 := by
  rw [Finset.sum_congr rfl fun d _ => owed_bar d c]
  revert c; decide
theorem credit_first (c : Dev nD) (t : Fin 16) : ∑ d : Dev nD, owedAll d (cell 1 c t) () = NN := by
  rw [Finset.sum_congr rfl fun d _ => owed_first_cell d c t, Finset.sum_ite_eq' Finset.univ t fun _ => NN, if_pos (Finset.mem_univ _)]
theorem credit_second (c : Dev nD) (t : Fin 16) : ∑ d : Dev nD, owedAll d (cell 3 c t) () = NN := by
  rw [Finset.sum_congr rfl fun d _ => owed_second_cell d c t, Finset.sum_ite_eq' Finset.univ t fun _ => NN, if_pos (Finset.mem_univ _)]

/-- The arrival semaphores of one round of copies. -/
def arrEmb (a : Fin 4) : Fin 16 ↪ SemLoc sig := ⟨fun t => .dma (semIx a t), fun _ _ h => (semIx_inj (SemLoc.dma.inj h)).2⟩
theorem arr_apart : Disjoint (Finset.univ.map (arrEmb 1)) (Finset.univ.map (arrEmb 3)) := by
  rw [Finset.disjoint_left]
  intro s h1 h3
  obtain ⟨t, -, rfl⟩ := Finset.mem_map.mp h1
  obtain ⟨u, -, h⟩ := Finset.mem_map.mp h3
  exact absurd (semIx_inj (SemLoc.dma.inj h)).1 (by decide)

theorem creds (c : Dev nD) :
    (Pipeline.launchCred owedAll c : sProp 𝕄) ⊢ iprop(cred (tallyAt (barC c) () 15) ∗ credOf (F := F) 1 c ∗ credOf (F := F) 3 c) := by
  unfold Pipeline.launchCred credOf
  rw [bigSep_univ_at _ (SemLoc.reg bar), credit_of (barC c) 15 (credit_bar c)]
  refine sep_mono_right ((bigSep_subset (t := Finset.univ.map (arrEmb 1) ∪ Finset.univ.map (arrEmb 3)) ?_).trans ?_)
  · intro s hs
    refine Finset.mem_erase.mpr ⟨fun e => ?_, Finset.mem_univ _⟩
    subst e
    rcases Finset.mem_union.mp hs with h | h <;> obtain ⟨t, -, e⟩ := Finset.mem_map.mp h <;> cases e
  · rw [bigSep_union arr_apart, bigSep_map, bigSep_map]
    have h1 (t : Fin 16) : tallyOn ((c : Thread nD τ), arrEmb 1 t) (launchCredit (Pipeline.owing owedAll) 0 ((c : Thread nD τ), arrEmb 1 t))
        = (tallyAt (cell 1 c t) () NN : CellTallies nD τ sig Unit) := credit_of (cell 1 c t) NN (credit_first c t)
    have h3 (t : Fin 16) : tallyOn ((c : Thread nD τ), arrEmb 3 t) (launchCredit (Pipeline.owing owedAll) 0 ((c : Thread nD τ), arrEmb 3 t))
        = (tallyAt (cell 3 c t) () NN : CellTallies nD τ sig Unit) := credit_of (cell 3 c t) NN (credit_second c t)
    simp only [h1, h3]
    exact BI.Entails.refl _

/-! ## The cells and their tokens -/

def barEmb : Dev nD ↪ GSem nD τ sig := ⟨fun c => barC c, fun _ _ h => congrArg (fun g : GSem nD τ sig => g.1.1) h⟩
def cellEmb : Fin 4 × Dev nD × Fin 16 ↪ GSem nD τ sig :=
  ⟨fun x => cell x.1 x.2.1 x.2.2, fun x y h => by
    obtain ⟨h1, h2, h3⟩ := cell_inj h
    exact Prod.ext h1 (Prod.ext h2 h3)⟩
abbrev barCells : Finset (GSem nD τ sig) := Finset.univ.map barEmb
abbrev ownCells : Finset (GSem nD τ sig) := Finset.univ.map cellEmb
theorem cells_apart : Disjoint barCells ownCells := by
  rw [Finset.disjoint_left]
  intro g h1 h2
  obtain ⟨c, -, rfl⟩ := Finset.mem_map.mp h1
  obtain ⟨x, -, h⟩ := Finset.mem_map.mp h2
  exact bar_ne h.symm

/-- One unit of every barrier cell per device; the one unit of every other cell. -/
def barTokEmb : Dev nD × Dev nD ↪ GSem nD τ sig × ℕ × Dev nD :=
  ⟨fun x => (barC x.1, 0, x.2), fun x y h => Prod.ext (congrArg (fun g : GSem nD τ sig × ℕ × Dev nD => g.1.1.1) h) (congrArg (fun g : GSem nD τ sig × ℕ × Dev nD => g.2.2) h)⟩
def cellTokEmb : Fin 4 × Dev nD × Fin 16 ↪ GSem nD τ sig × ℕ × Dev nD :=
  ⟨fun x => (cell x.1 x.2.1 x.2.2, 0, payer x.2.1 x.1.val x.2.2), fun _ _ h => cellEmb.injective (congrArg Prod.fst h)⟩
abbrev barToks : Finset (GSem nD τ sig × ℕ × Dev nD) := Finset.univ.map barTokEmb
abbrev cellToks : Finset (GSem nD τ sig × ℕ × Dev nD) := Finset.univ.map cellTokEmb
theorem toks_apart : Disjoint barToks cellToks := by
  rw [Finset.disjoint_left]
  intro g h1 h2
  obtain ⟨c, -, rfl⟩ := Finset.mem_map.mp h1
  obtain ⟨x, -, h⟩ := Finset.mem_map.mp h2
  exact bar_ne (congrArg Prod.fst h).symm
abbrev allToks : Finset (GSem nD τ sig × ℕ × Dev nD) := barToks ∪ cellToks

/-- Two families one inside the other, the other way round. -/
theorem swap (Φ : Fin 16 → Fin 16 → sProp 𝕄) :
    (bigSep Finset.univ fun c => bigSep Finset.univ fun t => Φ c t) = bigSep Finset.univ fun t => bigSep Finset.univ fun c => Φ c t := by
  rw [← bigSep_univ_prod (fun x : Fin 16 × Fin 16 => Φ x.1 x.2), bigSep_univ_equiv (Equiv.prodComm (Fin 16) (Fin 16)), bigSep_univ_prod]
  rfl

/-- The barrier's tokens, each with its payer. -/
theorem bar_toks :
    iprop((bigSep barCells fun g => reached ER g 0) ∗ bigSep barToks fun x => dutyTok ER x.1 x.2.1 x.2.2)
      ⊢ (bigSep Finset.univ fun c : Dev nD => barTok c : sProp 𝕄) := by
  rw [bigSep_map (s := Finset.univ) barTokEmb, bigSep_univ_prod, swap]
  refine spread Finset.univ fun c => ?_
  unfold barTok
  refine (sep_mono_right (bigSep_subset (Finset.erase_subset c Finset.univ))).trans (spread _ fun t => ?_)
  iintro ⟨#Hr, Ht⟩
  isplitl [Ht]; · iexact Ht
  iapply (pick (s := barCells) (Φ := fun g => reached ER g 0) (Finset.mem_map_of_mem barEmb (Finset.mem_univ t))); iexact Hr

/-- The other cells' tokens, each with its payer. -/
theorem cell_toks :
    (bigSep cellToks fun x => (dutyTok ER x.1 x.2.1 x.2.2 : sProp 𝕄))
      = bigSep Finset.univ fun c : Dev nD => iprop(tokOf 0 c ∗ tokAt 1 c ∗ tokOf 2 c ∗ tokAt 3 c) := by
  rw [bigSep_map (s := Finset.univ) cellTokEmb, bigSep_univ_prod, four, bigSep_sep', bigSep_sep', bigSep_sep',
    bigSep_univ_prod, bigSep_univ_prod, bigSep_univ_prod, bigSep_univ_prod, swap (fun c t => dutyTok ER (cellTokEmb (1, c, t)).1 _ _),
    swap (fun c t => dutyTok ER (cellTokEmb (3, c, t)).1 _ _)]
  rfl

/-- The rights to open, each with its device. -/
theorem own_opens :
    (bigSep ownCells fun g => (openTok ER g : sProp 𝕄))
      = bigSep Finset.univ fun c : Dev nD => bigSep Finset.univ fun k : Fin 4 × Fin 16 => openTok ER (cell k.1 c k.2) := by
  rw [bigSep_map (s := Finset.univ) cellEmb, bigSep_univ_prod]
  rw [bigSep_congr (s := Finset.univ) (Ψ := fun a : Fin 4 => bigSep Finset.univ fun c : Dev nD => bigSep Finset.univ fun t : Fin 16 => openTok ER (cell a c t))
    fun a _ => bigSep_univ_prod _]
  rw [← bigSep_univ_prod (fun x : Fin 4 × Dev nD => bigSep Finset.univ fun t : Fin 16 => openTok ER (cell x.1 x.2 t)),
    bigSep_univ_equiv (Equiv.prodComm (Dev nD) (Fin 4)), bigSep_univ_prod]
  exact bigSep_congr fun c _ => (bigSep_univ_prod (fun k : Fin 4 × Fin 16 => (openTok ER (cell k.1 c k.2) : sProp 𝕄))).symm

/-! ## The launch -/

def start : UU :=
  (initOf (Pipeline.cells (Pipeline.pin (pcfgs (F := F)) adm) cellOf_inj) (Pipeline.launchToks (Pipeline.pin (pcfgs (F := F)) adm) cellOf_inj),
    launchOf barCells ownCells allToks)
/-- The protocol's launch state, with the first device until the cells are funded. -/
def seed (c : Dev nD) : sProp 𝕄 := if c = 0 then BI.own (ER (launchOf barCells ownCells allToks)) else iprop(emp)
theorem seed_eq : bigSep Finset.univ (seed (F := F)) = BI.own (ER (launchOf barCells ownCells allToks)) := by
  rw [bigSep_univ_at _ (0 : Dev nD), bigSep_congr (s := Finset.univ.erase (0 : Dev nD)) (Ψ := fun _ => (BI.emp : sProp 𝕄))
      fun c hc => by unfold seed; rw [if_neg (Finset.ne_of_mem_erase hc)]; rfl, BI.bigSep_emp_const]
  unfold seed; rw [if_pos rfl]
  exact BI.equiv_iff.mp sep_emp

theorem invs_eq (κ : GSem nD τ sig → ℕ) :
    (bigSep (barCells ∪ ownCells) fun g => (cellInv ER (Rd (prods m) (sumOf (prods m))) (κ g) g : sProp 𝕄)) = invs m κ := by
  rw [bigSep_union cells_apart, bigSep_map, bigSep_map]; rfl

theorem bar_sems (c : Dev nD) : (unscopedSems0 c : sProp 𝕄) = semVal (barC c) 0 := by
  unfold unscopedSems0
  rw [show (Finset.univ.filter fun sm : SemLoc sig => ¬ sm.isScoped .tc) = {SemLoc.reg bar} from by decide, BI.bigSep_singleton]

variable (ρ : Dev nD → PrngReg)

/-- A device's launch holdings that are not the protocol's. -/
def bundle (c : Dev nD) : sProp 𝕄 :=
  iprop(StableHlo.held (c : Thread nD τ) (Pipeline.ucRefs τ sig) (V0 m c) ∗ (cred (tallyAt (barC c) () 15) ∗ credOf (F := F) 1 c ∗ credOf (F := F) 3 c)
    ∗ owesE c (owedAll c) ∗ ∃ r, prngReg c r)

theorem core_split (c : Dev nD) :
    iprop(unscopedBufs c (fun b => m ((c : Thread nD τ).loc b)) ∗ unscopedSems0 c ∗ owes (c : Thread nD τ) (owedAll c) ∅ ∗ Pipeline.launchCred owedAll c ∗ prngReg c (ρ c) ∗ seed c)
      ⊢ (iprop(bundle m c ∗ (semVal (barC c) 0 ∗ seed c)) : sProp 𝕄) := by
  rw [show (unscopedBufs c (fun b => m ((c : Thread nD τ).loc b)) : sProp 𝕄) = StableHlo.held (c : Thread nD τ) (Pipeline.ucRefs τ sig) (V0 m c) from
    Pipeline.unscopedBufs_held c (V0 m c), bar_sems]
  unfold bundle owesE
  iintro ⟨Hh, Hb, HO, Hc, Hp, Hs⟩
  ihave Hc' := (creds c) $$ Hc
  isplitr [Hb Hs]
  · isplitl [Hh]; · iexact Hh
    isplitl [Hc']; · iexact Hc'
    isplitl [HO]; · iexists ∅; iexact HO
    iexists (ρ c); iexact Hp
  isplitl [Hb]; · iexact Hb
  iexact Hs

abbrev first (c : Dev nD) : sProp 𝕄 := iprop(StableHlo.held (c : Thread nD τ) (Pipeline.ucRefs τ sig) (V0 m c) ∗ aside m 0 c)

theorem first_of (κ : GSem nD τ sig → ℕ) (c : Dev nD) : iprop(invs m κ ∗ (kept κ c ∗ bundle m c)) ⊢ first m c := by
  unfold first bundle
  rw [show aside m 0 c = iprop(waiting m c ∗ owesE c (due (dues c)) ∗ ∃ r, prngReg c r) from if_pos rfl]
  unfold waiting
  iintro ⟨#HI, Hk, Hh, Hc, HO, Hp⟩
  isplitl [Hh]; · iexact Hh
  isplitl [Hk Hc]
  · isplitl [Hk]
    · iexists κ
      isplitr; · iexact HI
      iexact Hk
    iexact Hc
  isplitl [HO]; · iexact HO
  iexact Hp

theorem kept_all (κ : GSem nD τ sig → ℕ) :
    iprop((bigSep barCells fun g => reached ER g 0) ∗ (bigSep barCells fun g => atPos ER g 0 ∅ 0) ∗ (bigSep ownCells fun g => openTok ER g)
        ∗ bigSep allToks fun x => dutyTok ER x.1 x.2.1 x.2.2)
      ⊢ (bigSep Finset.univ fun c : Dev nD => kept κ c : sProp 𝕄) := by
  rw [own_opens, show bigSep allToks (fun x => (dutyTok ER x.1 x.2.1 x.2.2 : sProp 𝕄)) = iprop(bigSep barToks (fun x => dutyTok ER x.1 x.2.1 x.2.2) ∗ bigSep cellToks fun x => dutyTok ER x.1 x.2.1 x.2.2)
    from bigSep_union toks_apart]
  unfold kept
  rw [bigSep_sep', bigSep_sep', bigSep_sep', bigSep_map barEmb (Φ := fun g : GSem nD τ sig => (atPos ER g 0 ∅ 0 : sProp 𝕄)), cell_toks]
  iintro ⟨#Hr, Hat, Ho, Hbt, Hct⟩
  isplitl [Ho]; · iexact Ho
  isplitl [Hat]; · iexact Hat
  isplitl [Hbt]
  · iapply bar_toks
    isplitr; · iexact Hr
    iexact Hbt
  iexact Hct

theorem cores_all :
    (bigSep Finset.univ fun c : Dev nD => iprop(unscopedBufs c (fun b => m ((c : Thread nD τ).loc b)) ∗ unscopedSems0 c
          ∗ owes (c : Thread nD τ) (owedAll c) ∅ ∗ Pipeline.launchCred owedAll c ∗ prngReg c (ρ c) ∗ seed c) : sProp 𝕄)
      ⊢ iprop((bigSep Finset.univ fun c : Dev nD => bundle m c) ∗ (bigSep barCells fun g => semVal g 0) ∗ BI.own (ER (launchOf barCells ownCells allToks))) := by
  refine (bigSep_mono fun c _ => core_split m ρ c).trans ?_
  rw [show (bigSep barCells fun g => (semVal g 0 : sProp 𝕄)) = bigSep Finset.univ fun c : Dev nD => semVal (barC c) 0 from bigSep_map barEmb, ← seed_eq,
    bigSep_sep', bigSep_sep']
  exact BI.Entails.refl _

theorem funded :
    iprop((bigSep barCells fun g => semVal g 0) ∗ BI.own (ER (launchOf barCells ownCells allToks)))
      ⊢ (|={Set.univ}=> ∃ κ, invs m κ ∗ bigSep Finset.univ fun c : Dev nD => kept κ c : sProp 𝕄) := by
  iintro H
  imod (Rounds.fund_launch ER (Rd (prods m) (sumOf (prods m))) cells_apart (fun g _ h => h) allToks) $$ [H] with ⟨%κ, -, Hinv, Hr, Hat, Ho, Ht⟩
  · iexact H
  imodintro
  iexists κ
  isplitl [Hinv]
  · iapply (Entails.of_eq (invs_eq m κ)); iexact Hinv
  iapply (kept_all κ)
  isplitl [Hr]; · iexact Hr
  isplitl [Hat]; · iexact Hat
  isplitl [Ho]; · iexact Ho
  iexact Ht

theorem launch :
    iprop((bigSep Finset.univ fun c : Dev nD => iprop(unscopedBufs c (fun b => m ((c : Thread nD τ).loc b)) ∗ unscopedSems0 c
          ∗ owes (c : Thread nD τ) (owedAll c) ∅ ∗ Pipeline.launchCred owedAll c ∗ prngReg c (ρ c) ∗ seed c)) ∗ levAts L lv)
      ⊢ (|={Set.univ}=> bigSep Finset.univ (first m) : sProp 𝕄) := by
  iintro ⟨H, -⟩
  ihave H' := (cores_all m ρ) $$ H
  icases H' with ⟨HB, Hvu⟩
  imod (funded m) $$ Hvu with ⟨%κ, #HI, HK⟩
  imodintro
  iapply (spread (R := invs m κ) (Φ := fun c => iprop(kept κ c ∗ bundle m c)) Finset.univ fun c => first_of m κ c)
  isplitr; · iexact HI
  rw [bigSep_sep']
  isplitl [HK]; · iexact HK
  iexact HB

/-! ## The run -/

theorem unscoped_bar : ∀ sm : SemLoc sig, sm.isScoped .tc = false → sm = .reg bar := by decide

abbrev last (c : Dev nD) : sProp 𝕄 := iprop(StableHlo.held (c : Thread nD τ) (Pipeline.ucRefs τ sig) (V3 m (outs m) c) ∗ semVal (barC c) 0)

/-- What a final memory holds on a device. -/
def ends (c : Dev nD) (s : MemSt nD τ sig (Elt F)) : Prop :=
  (∀ b : Ref sig .tc, b.isScoped = false → s.mem ((c : Thread nD τ).loc b) = V3 m (outs m) c b) ∧ s.sem (barC c) = 0

theorem read_end (c : Dev nD) (s' : Phys nD τ sig (Elt F)) : iprop(last m c ∗ SI s') ⊢ (|={Set.univ}=> iprop(⌜ends m c s'.mem⌝ ∗ SI s') : sProp 𝕄) := by
  unfold last StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh]; · iexact Hh
    iexact HSI
  icases Hr with ⟨%h, HSI⟩
  imodintro
  isplitr
  · ipureintro
    exact ⟨fun b hb => h (Proc.devRef .tc b) (Finset.mem_filter.mpr ⟨StableHlo.devRef_mem_tcRefs b, fun e => Bool.false_ne_true (hb.symm.trans e)⟩), by simpa using hb⟩
  · iexact HSI

set_option backward.isDefEq.respectTransparency.types false in
/-- Every run ends; each device's buffers hold what the items leave there, and every semaphore is back at zero. -/
theorem run_all : θ_run defs (onTc (τ := τ) (main (F := F))) ⟨m, fun _ => 0, ρ⟩
    (fun r => (∀ c : Dev nD, ∀ b : Ref sig .tc, b.isScoped = false → r.2.mem ((c.tc : Thread nD τ).loc b) = V3 m (outs m) c b) ∧ r.2.sem = fun _ => 0) :=
  Pipeline.θ_run_regions_kit_dev_sems (pcfgs (F := F)) adm (pdats m) () cellOf_inj EP defs₀ 𝒱₀ L lv m ρ main
    (segs m (outs m) 𝒱₀ L lv (aside m) () (pdats m) (region m))
    (fun c Q => by
      rewrite [main_chain c, Pipeline.Seg.run_eq_chain,
        show (segs m (outs m) 𝒱₀ L lv (aside m) () (pdats m) (region m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    owedAll L_of_ne seed start
    (by
      unfold start
      iintro Hu
      ihave H := (ownU_pair _ _) $$ Hu
      icases H with ⟨HP, HX⟩
      imodintro
      isplitl [HP]; · iexact HP
      rw [seed_eq]; iexact HX)
    (first m) (last m)
    (fun c => ⟨.rfl, region_pre m c, region_post m c, by
      show iprop(StableHlo.held (c : Thread nD τ) (Pipeline.ucRefs τ sig) (V3 m (outs m) c) ∗ aside m 1 c) ⊢ _
      rw [show aside m 1 c = iprop(semVal (barC c) 0 ∗ owesE c 0) from if_neg (by decide)]
      unfold owesE
      iintro ⟨Hh, Hb, HO⟩
      isplitr [HO]
      · isplitl [Hh]; · iexact Hh
        iexact Hb
      iexact HO⟩)
    (launch m ρ) (ends m) (read_end m)
    (fun s h hs => ⟨fun c b hb => (h c).1 b hb, sem_eq_zero hs fun c sm hsm => by
      obtain rfl := unscoped_bar sm hsm
      exact (h c).2⟩)

end Cert.KernelIdeal.Stage

end
-- ==== Proof.Frames.lean ====
/- Every run of each of the three programs ends with its arguments as launched and every counter at zero. -/
module

public import proofs.«01_k».proof.Defs
public import proofs.«01_k».proof.Proof.Launch
public import proofs.«01_k».proof.Proof.Kernel.Launch
public import proofs.«01_k».proof.Proof.Gen.ReferenceIdeal.Run
public import Idealize.ShloMosaic.Lib.Quiescent

@[expose] public section

noncomputable section

namespace Cert.Ends

open Idealize.ShloMosaic Idealize.SL.Sem

/-- The kernel at the bit patterns of its own float formats. -/
theorem kernel : Cert.quiescent_Kernel := fun m ρ _ =>
  (θ_run Cert.Kernel.defs _ _).mono
    (fun _ h => ⟨fun c =>
      ⟨(h.1 c _ rfl).trans (Cert.Kernel.Gen.V3_main_arg0 m _ c),
       (h.1 c _ rfl).trans (Cert.Kernel.Gen.V3_main_arg1 m _ c),
       (h.1 c _ rfl).trans (Cert.Kernel.Gen.V3_main_arg2 m _ c),
       (h.1 c _ rfl).trans (Cert.Kernel.Gen.V3_main_arg3 m _ c),
       (h.1 c _ rfl).trans (Cert.Kernel.Gen.V3_main_arg4 m _ c)⟩, h.2⟩)
    (Cert.Kernel.Stage.run_all m ρ)

/-- The kernel over the extended reals. -/
theorem kernelIdeal : Cert.quiescent_KernelIdeal := fun m ρ _ =>
  (θ_run Cert.KernelIdeal.defs _ _).mono
    (fun _ h => ⟨fun c =>
      ⟨(h.1 c _ rfl).trans (Cert.KernelIdeal.Gen.V3_main_arg0 m _ c),
       (h.1 c _ rfl).trans (Cert.KernelIdeal.Gen.V3_main_arg1 m _ c),
       (h.1 c _ rfl).trans (Cert.KernelIdeal.Gen.V3_main_arg2 m _ c),
       (h.1 c _ rfl).trans (Cert.KernelIdeal.Gen.V3_main_arg3 m _ c),
       (h.1 c _ rfl).trans (Cert.KernelIdeal.Gen.V3_main_arg4 m _ c)⟩, h.2⟩)
    (Cert.KernelIdeal.Stage.run_all m ρ)

/-- The reference over the extended reals: it has no counter at all. -/
theorem referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- The named constant is the value that its table gives. -/
theorem mask : Cert.preserves_Kernel_KernelIdeal :=
  IdealRules.named_const.statement Cert.KernelIdeal.κ "mask" .f32 0xCE6E6B28#32 ⊥ rfl

end Cert.Ends

end
-- ==== Proof.Operands.lean ====
/- What the kernel's five operands hold, element by element, of the arguments. -/
module

public import proofs.«01_k».proof.Proof.Region
public import Idealize.ShloMosaic.Lib.Pointwise
public import Idealize.ShloMosaic.Lib.DynamicIndex
public import Idealize.ShloMosaic.Lib.StableHlo.ReadAt
public import Idealize.ShloMosaic.Lib.Tactic.WordOmega
public import Idealize.ShloMosaic.Lib.IdealHost

@[expose] public section

set_option maxRecDepth 16384

noncomputable section

namespace Cert.KernelIdeal.Stage

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## The arguments -/

/-- The input rows device `c` holds. -/
def argX : S2x256x512.Idx → EReal := m (c, Proc.tc.devRef main_arg0)
/-- The query weights device `c` holds. -/
def argW : S512x4096.Idx → EReal := m (c, Proc.tc.devRef main_arg1)
/-- The keys device `c` holds. -/
def argK : S2x256x4x64.Idx → EReal := m (c, Proc.tc.devRef main_arg2)
/-- The values device `c` holds. -/
def argV : S2x256x4x64.Idx → EReal := m (c, Proc.tc.devRef main_arg3)
/-- The output weights device `c` holds. -/
def argO : S4096x512.Idx → EReal := m (c, Proc.tc.devRef main_arg4)

/-! ## Starts of a device's own blocks -/

/-- A device's columns of the query weights lie inside them. -/
theorem slicesW (c : Fin 16) : S512x4096.Slices ![0, 256 * c.val] S512x256 := by revert c; decide
/-- A device's rows of the output weights lie inside them. -/
theorem slicesO (c : Fin 16) : S4096x512.Slices ![256 * c.val, 0] S256x512 := by revert c; decide

/-- The word every start is: a device's number times 256, brought back into range. -/
def startWord (w : BitVec 32) : BitVec 32 :=
  Scalar.select (IntOp.cmpi CmpIPredicate.slt (IntOp.muli w 256#32) 0#32)
    (IntOp.addi (IntOp.muli w 256#32) 4096#32) (IntOp.muli w 256#32)

/-- For a device's number the word is 256 times it. -/
theorem startWord_toInt (c : Fin 16) : (startWord (BitVec.ofNat 32 c.val)).toInt = ((256 * c.val : ℕ) : ℤ) := by
  revert c; decide

/-- A device's number on the mesh's one axis is its number. -/
theorem numberWord (c : Fin 16) : IntOp.remui .host (IntOp.divui .host (BitVec.ofNat 32 c.val) 1#32) 16#32 = BitVec.ofNat 32 c.val := by
  revert c; decide

/-- The same, as the host program computes it. -/
theorem devWord (c : Fin 16) (i : S_.Idx) :
    id (Host.remui (Host.divui (constantI S_ 32 (Dev.word (nD := nD) c)) (constantI S_ 32 1#32)) (constantI S_ 32 16#32)) i = BitVec.ofNat 32 c.val :=
  numberWord c

set_option maxHeartbeats 1000000 in
/-- The query weights' block starts at their first row. -/
theorem zeroW (i : S_.Idx) : BitVec.toInt ((StableHlo.upto (hostOps0 c) (fun b => m (c, b)) 15 (Proc.tc.devRef main_c_4) : S_.Idx → BitVec 32) i) = 0 := by
  after_reads_at
  rfl

set_option maxHeartbeats 1000000 in
/-- The query weights' block starts at the device's own column. -/
theorem startW (i : S_.Idx) : BitVec.toInt ((StableHlo.upto (hostOps0 c) (fun b => m (c, b)) 15 (Proc.tc.devRef main_v9) : S_.Idx → BitVec 32) i) = ((256 * c.val : ℕ) : ℤ) := by
  after_reads_at
  rw [devWord]
  exact startWord_toInt c

set_option maxHeartbeats 1000000 in
/-- The output weights' block starts at their first column. -/
theorem zeroO (i : S_.Idx) : BitVec.toInt ((StableHlo.upto (hostOps0 c) (fun b => m (c, b)) 27 (Proc.tc.devRef main_c_8) : S_.Idx → BitVec 32) i) = 0 := by
  after_reads_at
  rfl

set_option maxHeartbeats 1000000 in
/-- The output weights' block starts at the device's own row. -/
theorem startO (i : S_.Idx) : BitVec.toInt ((StableHlo.upto (hostOps0 c) (fun b => m (c, b)) 27 (Proc.tc.devRef main_v16) : S_.Idx → BitVec 32) i) = ((256 * c.val : ℕ) : ℤ) := by
  after_reads_at
  rw [devWord]
  exact startWord_toInt c

/-! ## The operands -/

/-- A place inside a device's own block is a place in the whole. -/
theorem below {n r q : ℕ} (c : Fin 16) (h : r < q) (hn : 16 * q ≤ n := by decide) : q * c.val + r < n := by
  have := c.isLt; nlinarith

set_option maxHeartbeats 1000000 in
/-- The input rows, both batches one above the other. -/
theorem opX_at (r : Fin 512) (k : Fin 512) : opX m c (ix2 r k) = argX m c (ix3 ⟨r.val / 256, by omega⟩ ⟨r.val % 256, by omega⟩ k) := by
  unfold opX V1 V0
  after_reads_at
  rfl

set_option maxHeartbeats 1000000 in
/-- The device's own columns of the query weights, scaled. -/
theorem opW_at (k : Fin 512) (e : Fin 256) :
    opW m c (ix2 k e) = argW m c (ix2 k ⟨256 * c.val + e.val, below c e.isLt⟩) * Ideal.ofBits FTy.f32 0x3E000000#32 := by
  unfold opW V1 V0
  after_reads_simp
  rw [Host.dynamicSlice_eq_extractStridedSlice _ _ _ ![0, 256 * c.val] _ (slicesW c)]
  · pointwise
    rfl
  · intro a
    fin_cases a
    · exact zeroW m c _
    · exact startW m c _

set_option maxHeartbeats 1000000 in
/-- The device's own keys, transposed. -/
theorem opK_at (b : Fin 2) (h : Fin 4) (d : Fin 64) (j : Fin 256) : opK m c (ix4 b h d j) = argK m c (ix4 b j h d) := by
  unfold opK V1 V0
  after_reads_at
  rfl

set_option maxHeartbeats 1000000 in
/-- The device's own values, heads side by side. -/
theorem opV_at (r : Fin 512) (e : Fin 256) : opV m c (ix2 r e)
    = argV m c (ix4 ⟨r.val / 256, by omega⟩ ⟨r.val % 256, by omega⟩ ⟨e.val / 64, by omega⟩ ⟨e.val % 64, by omega⟩) := by
  unfold opV V1 V0
  after_reads_at
  rfl

set_option maxHeartbeats 1000000 in
/-- The device's own rows of the output weights. -/
theorem opO_at (e : Fin 256) (n : Fin 512) : opO m c (ix2 e n) = argO m c (ix2 ⟨256 * c.val + e.val, below c e.isLt⟩ n) := by
  unfold opO V1 V0
  after_reads_simp
  rw [Host.dynamicSlice_eq_extractStridedSlice _ _ _ ![256 * c.val, 0] _ (slicesO c)]
  · pointwise
    rfl
  · intro a
    fin_cases a
    · exact startO m c _
    · exact zeroO m c _

end Cert.KernelIdeal.Stage
end
-- ==== Proof.Softmax.lean ====
/- Row-wise weights over real scores: dividing by their sum after or before the values are weighted, with or without the
   greatest score taken off first, gives one row of results. -/
module

public import Idealize.ShloMosaic.PureOps.Ideal
public import Idealize.ShloMosaic.PureOps.Vector
public import Idealize.ShloMosaic.Lib.IdealHost

@[expose] public section

noncomputable section

namespace Cert.Rows

open Idealize.ShloMosaic

/-! ## The mask -/

/-- Row `i` looks at key `j`: the two are near, or one of them is among the first 32. -/
def Seen (i j : Fin 256) : Prop := (i.val ≤ j.val + 128 ∧ j.val ≤ i.val + 128) ∨ j.val < 32 ∨ i.val < 32

instance (i j : Fin 256) : Decidable (Seen i j) := inferInstanceAs (Decidable (_ ∨ _ ∨ _))

/-- A row looks at its own key. -/
theorem seen_self (i : Fin 256) : Seen i i := .inl ⟨by omega, by omega⟩

/-- The mask's bit as the comparisons of words give it. -/
def nearW (i j : Fin 256) : BitVec 1 :=
  IntOp.cmpi CmpIPredicate.sle (IntOp.absi (IntOp.subi (BitVec.ofNat 32 i.val) (BitVec.ofNat 32 j.val))) 128#32
/-- A number's bit for being among the first 32. -/
def firstW (i : Fin 256) : BitVec 1 := IntOp.cmpi CmpIPredicate.slt (BitVec.ofNat 32 i.val) 32#32

/-- The bit of a truth value is one where it holds. -/
theorem bit_one (b : Bool) : BitVec.ofBool b = 1#1 ↔ b = true := by cases b <;> decide

/-- The bit is one for the first 32 numbers. -/
theorem firstW_one (i : Fin 256) : firstW i = 1#1 ↔ i.val < 32 := by
  revert i; decide

/-- The comparison of a difference against 128, decided over all differences. -/
theorem diffW (e : Fin 511) :
    (IntOp.cmpi CmpIPredicate.sle (IntOp.absi (BitVec.ofNat 32 e.val - 255#32)) 128#32 = 1#1) ↔ (127 ≤ e.val ∧ e.val ≤ 383) := by
  revert e; decide +kernel

/-- The bit is one where the two are at most 128 apart. -/
theorem nearW_one (i j : Fin 256) : nearW i j = 1#1 ↔ (i.val ≤ j.val + 128 ∧ j.val ≤ i.val + 128) := by
  have e : IntOp.subi (BitVec.ofNat 32 i.val) (BitVec.ofNat 32 j.val) = BitVec.ofNat 32 (i.val + 255 - j.val) - 255#32 := by
    show BitVec.ofNat 32 i.val - BitVec.ofNat 32 j.val = _
    apply BitVec.eq_of_toNat_eq
    simp only [BitVec.toNat_sub, BitVec.toNat_ofNat]
    omega
  unfold nearW
  rw [e]
  exact (diffW ⟨i.val + 255 - j.val, by omega⟩).trans (by simp only; omega)

/-- A bitwise or is one where one of its bits is. -/
theorem ori_one (a b : BitVec 1) : IntOp.ori a b = 1#1 ↔ a = 1#1 ∨ b = 1#1 := by
  revert a b; decide

/-- The mask as the reference groups it. -/
theorem seen_first (i j : Fin 256) : IntOp.ori (nearW i j) (IntOp.ori (firstW j) (firstW i)) = 1#1 ↔ Seen i j := by
  rw [ori_one, ori_one, nearW_one, firstW_one, firstW_one]; rfl

/-- The mask as the kernel groups it. -/
theorem seen_last (i j : Fin 256) : IntOp.ori (IntOp.ori (nearW i j) (firstW j)) (firstW i) = 1#1 ↔ Seen i j := by
  rw [ori_one, ori_one, nearW_one, firstW_one, firstW_one, or_assoc]; rfl

/-- A select on a bit is a choice by what the bit stands for. -/
theorem select_pick {α : Type} {w : BitVec 1} {S : Prop} [Decidable S] (h : w = 1#1 ↔ S) (x y : α) :
    Scalar.select w x y = if S then x else y := by
  show (if w = 1#1 then x else y) = _
  by_cases hs : S
  · rw [if_pos hs, if_pos (h.mpr hs)]
  · rw [if_neg hs, if_neg (fun e => hs (h.mp e))]

/-! ## Reals among the extended reals -/

/-- A sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real that is not negative goes inside a sum of any extended reals. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (EReal.coe_nonneg.mpr hc) (EReal.coe_ne_top c) _ _

/-! ## Weights -/

section
variable (s : Fin 256 → ℝ) (S : Fin 256 → Prop) [DecidablePred S]

/-- A key's score, the least extended real where the row does not look. -/
def masked (j : Fin 256) : EReal := if S j then (s j : EReal) else ⊥

/-- A key's weight, nothing taken off its score. -/
def weight (j : Fin 256) : ℝ := if S j then Real.exp (s j) else 0

/-- A weight is not negative. -/
theorem weight_nonneg (j : Fin 256) : 0 ≤ weight s S j := by
  unfold weight; split
  · exact (Real.exp_pos _).le
  · exact le_rfl

/-- The weights of a row that looks at some key have a positive sum. -/
theorem sum_pos {i : Fin 256} (hi : S i) : 0 < ∑ j, weight s S j :=
  Finset.sum_pos' (fun j _ => weight_nonneg s S j) ⟨i, Finset.mem_univ i, by unfold weight; rw [if_pos hi]; exact Real.exp_pos _⟩

/-- The exponential of a score and its bias is the weight. -/
theorem exp_biased (j : Fin 256) : Ideal.exp ((s j : EReal) + if S j then 0 else ⊥) = (weight s S j : EReal) := by
  unfold weight
  split
  · rw [add_zero]; rfl
  · rw [EReal.add_bot]; rfl

/-- The greatest masked score of a row that looks at some key is real. -/
theorem greatest {i : Fin 256} (hi : S i) : ∃ μ : ℝ, Finset.univ.fold max ⊥ (masked s S) = (μ : EReal) := by
  obtain ⟨j, -, hj⟩ := Finset.exists_mem_eq_sup (Finset.univ : Finset (Fin 256)) ⟨i, Finset.mem_univ i⟩ (masked s S)
  have hf : Finset.univ.fold max ⊥ (masked s S) = masked s S j := hj
  have hle : masked s S i ≤ masked s S j := hj ▸ Finset.le_sup (Finset.mem_univ i)
  rw [hf]
  unfold masked at hle ⊢
  by_cases h : S j
  · exact ⟨s j, if_pos h⟩
  · rw [if_pos hi, if_neg h] at hle
    exact absurd (le_bot_iff.mp hle) (EReal.coe_ne_bot _)

/-- With a real taken off the score first, the exponential is the weight times one factor. -/
theorem exp_shifted (μ : ℝ) (j : Fin 256) : Ideal.exp (masked s S j - (μ : EReal)) = ((weight s S j * Real.exp (-μ) : ℝ) : EReal) := by
  unfold masked weight
  split
  · rw [← EReal.coe_sub, Ideal.exp_coe, ← Real.exp_add, sub_eq_add_neg]
  · rw [EReal.bot_sub, zero_mul]; rfl

/-- The two programs' rows agree. -/
theorem rows_eq {i : Fin 256} (hi : S i) (v : Fin 256 → EReal) :
    (∑ j, Ideal.exp ((s j : EReal) + if S j then 0 else ⊥) * v j)
        * Ideal.div 1 (∑ j, Ideal.exp ((s j : EReal) + if S j then 0 else ⊥))
      = ∑ j, v j * Ideal.div (Ideal.exp (masked s S j - Finset.univ.fold max ⊥ (masked s S)))
          (∑ j, Ideal.exp (masked s S j - Finset.univ.fold max ⊥ (masked s S))) := by
  obtain ⟨μ, hμ⟩ := greatest s S hi
  have hA := sum_pos s S hi
  have hE := Real.exp_pos (-μ)
  rw [hμ]
  simp only [exp_biased, exp_shifted, ← coe_sum, ← Finset.sum_mul]
  rw [Ideal.div_coe hA.ne', one_mul, sum_mul_real _ _ (by positivity)]
  refine Finset.sum_congr rfl fun j _ => ?_
  rw [Ideal.div_coe (mul_pos hA hE).ne', mul_comm (v j), mul_right_comm, ← EReal.coe_mul, ← EReal.coe_mul]
  congr 2
  field_simp

end

/-! ## Scores -/

/-- Scaling the weights first or the scores last: one real score. -/
theorem scores_eq {κ δ : Type} [Fintype κ] [Fintype δ] (x : κ → ℝ) (w : κ → δ → ℝ) (k : δ → ℝ) (c : ℝ) :
    ∑ d, (∑ a, (x a : EReal) * ((w a d : EReal) * (c : EReal))) * (k d : EReal)
      = ((∑ d, (∑ a, x a * w a d) * k d) * c : ℝ)
    ∧ (∑ d, (∑ a, (x a : EReal) * (w a d : EReal)) * (k d : EReal)) * (c : EReal)
      = ((∑ d, (∑ a, x a * w a d) * k d) * c : ℝ) := by
  constructor
  · simp only [← EReal.coe_mul, ← coe_sum]
    congr 1
    rw [Finset.sum_mul]
    refine Finset.sum_congr rfl fun d _ => ?_
    have e : ∑ a, x a * (w a d * c) = (∑ a, x a * w a d) * c := by
      rw [Finset.sum_mul]
      exact Finset.sum_congr rfl fun a _ => (mul_assoc (x a) (w a d) c).symm
    rw [e, mul_right_comm]
  · simp only [← EReal.coe_mul, ← coe_sum]

/-- An extended real whose magnitude is below the greatest is a real. -/
theorem real_of_below (x : EReal) (h : Ideal.cmp .olt (max x (-x)) (Ideal.ofBits FTy.f32 0x7F800000#32) = 1#1) : ∃ r : ℝ, x = (r : EReal) := by
  have ht : Ideal.ofBits FTy.f32 0x7F800000#32 = ⊤ := by simp [Ideal.ofBits, Ideal.ieee]
  have hd : max x (-x) < ⊤ := by
    rw [ht] at h
    exact of_decide_eq_true ((bit_one _).mp h)
  induction x using EReal.rec with
  | bot => exact absurd hd (by simp)
  | top => exact absurd hd (by simp)
  | coe r => exact ⟨r, rfl⟩

/-- The scale is one eighth. -/
theorem eighth : Ideal.ofBits FTy.f32 0x3E000000#32 = (((1 : ℝ) / 8 : ℝ) : EReal) := by
  simp [Ideal.ofBits, Ideal.ieee, -EReal.coe_mul]; norm_num

/-- The literal of the reference's mask is the least extended real. -/
theorem least : Ideal.ofBits FTy.f32 0xFF800000#32 = ⊥ := by
  simp [Ideal.ofBits, Ideal.ieee]

end Cert.Rows
end
-- ==== Proof.KernelValue.lean ====
/- The kernel's values read at an index. -/
module

public import proofs.«01_k».proof.Proof.Operands
public import proofs.«01_k».proof.Proof.Softmax
public import Idealize.ShloMosaic.PureOps.IdealRules

@[expose] public section

set_option maxRecDepth 16384

noncomputable section

namespace Cert.KernelIdeal.Stage

open Idealize.ShloMosaic Idealize.ShloMosaic.TcCoe Idealize.SL.Sem
open Cert.KernelIdeal Cert.KernelIdeal.Gen Cert.Rows

/-! ## One head -/

/-- The bias is zero where a row looks and the least extended real elsewhere. -/
theorem bias_at (i j : Fin 256) : bias (F := Ideal) (ix2 i j) = if Seen i j then 0 else ⊥ := by
  unfold bias k0_pay4 k0_pay2 k0_pay3
  pointwise
  refine (select_pick (seen_last i j) _ _).trans ?_
  exact if_congr Iff.rfl rfl (IdealRules.named_const.ideal_named_scalar κ "mask" _ _ rfl)

/-- A weight of one head. -/
theorem headW_at (b : Fin 2) (h : Fin 4) (q : FVec Ideal S512x256 .f32) (kt : Vec Ideal S1x1x64x256 .f32) (i j : Fin 256) :
    headW b h q kt (ix2 i j)
      = Ideal.exp ((∑ d : Fin 64, q (ix2 ⟨256 * b.val + i.val, by omega⟩ ⟨64 * h.val + d.val, by omega⟩) * kt (ix4 0 0 d j)) + if Seen i j then 0 else ⊥) := by
  unfold headW
  pointwise
  rw [bias_at]

/-- One head's context at a row and a column. -/
theorem headCtx_at (w : FVec Ideal S256x256 .f32) (v : Vec Ideal S256x64 .f32) (i : Fin 256) (d : Fin 64) :
    headCtx w v (ix2 i d) = (∑ j, w (ix2 i j) * v (ix2 j d)) * Ideal.div 1 (∑ j, w (ix2 i j)) := by
  unfold headCtx
  pointwise

/-- The queries at a row and a column. -/
theorem pay1_at (X : Vec Ideal S512x512 .f32) (W : Vec Ideal S512x256 .f32) (r : Fin 512) (e : Fin 256) :
    k0_pay1 (F := Ideal) X W (ix2 r e) = ∑ a : Fin 512, X (ix2 r a) * W (ix2 a e) := by
  unfold k0_pay1
  pointwise

/-- The output product at a row and a column. -/
theorem pay14_at (C : Vec Ideal S256x256 .f32) (W : Vec Ideal S256x512 .f32) (i : Fin 256) (n : Fin 512) :
    k0_pay14 (F := Ideal) C W (ix2 i n) = ∑ e : Fin 256, C (ix2 i e) * W (ix2 e n) := by
  unfold k0_pay14
  pointwise

/-! ## The parts of the staged blocks -/

/-- One head's keys among the staged ones. -/
theorem key_at (b : Fin 2) (h : Fin 4) (KT : Vec Ideal S2x4x64x256 .f32) (d : Fin 64) (j : Fin 256) :
    (kM.access (keyRect b h)).read (Elt Ideal) KT (ix4 0 0 d j) = KT (ix4 b h d j) := by
  show KT ((keyRect b h).emb (ix4 0 0 d j)) = _
  congr 1
  funext a
  apply Fin.ext
  rw [Rect.emb_apply]
  fin_cases a
  · show b.val + 1 * 0 = b.val; omega
  · show h.val + 1 * 0 = h.val; omega
  · show 0 + 1 * d.val = d.val; omega
  · show 0 + 1 * j.val = j.val; omega

/-- One head's values among the staged ones. -/
theorem value_at (b : Fin 2) (h : Fin 4) (VV : Vec Ideal S512x256 .f32) (j : Fin 256) (d : Fin 64) :
    (vM.access (headRect b h)).read (Elt Ideal) VV (ix2 j d) = VV (ix2 ⟨256 * b.val + j.val, by omega⟩ ⟨64 * h.val + d.val, by omega⟩) := by
  show VV ((headRect b h).emb (ix2 j d)) = _
  congr 1
  apply ext2
  · rw [Rect.emb_apply]; show 256 * b.val + 1 * j.val = 256 * b.val + j.val; omega
  · rw [Rect.emb_apply]; show 64 * h.val + 1 * d.val = 64 * h.val + d.val; omega

/-- One batch's rows of the context. -/
theorem ctxRow_at (b : Fin 2) (C : Vec Ideal S512x256 .f32) (i e : Fin 256) :
    (cM.access (ctxRect b)).read (Elt Ideal) C (ix2 i e) = C (ix2 ⟨256 * b.val + i.val, by omega⟩ e) := by
  show C ((ctxRect b).emb (ix2 i e)) = _
  congr 1
  apply ext2
  · rw [Rect.emb_apply]; show 256 * b.val + 1 * i.val = 256 * b.val + i.val; omega
  · rw [Rect.emb_apply]; show 0 + 1 * e.val = e.val; omega

/-! ## One device's share -/

variable (m : (ℓ : Loc nD τ sig) → Buf (Elt Ideal) ℓ) (c : Dev nD)

/-- A score before the mask. -/
def rawK (b : Fin 2) (h : Fin 4) (i j : Fin 256) : EReal :=
  ∑ d : Fin 64, (∑ a : Fin 512, argX m c (ix3 b i a)
    * (argW m c (ix2 a ⟨256 * c.val + (64 * h.val + d.val), below c (by omega)⟩) * Ideal.ofBits FTy.f32 0x3E000000#32)) * argK m c (ix4 b j h d)

/-- A row's context in column `d` of head `h`. -/
def ctxK (b : Fin 2) (h : Fin 4) (i : Fin 256) (d : Fin 64) : EReal :=
  (∑ j, Ideal.exp (rawK m c b h i j + if Seen i j then 0 else ⊥) * argV m c (ix4 b j h d))
    * Ideal.div 1 (∑ j, Ideal.exp (rawK m c b h i j + if Seen i j then 0 else ⊥))

/-- The staged blocks give the scores of the arguments. -/
theorem rawK_eq (b : Fin 2) (h : Fin 4) (i j : Fin 256) :
    (∑ d : Fin 64, k0_pay1 (F := Ideal) (opX m c) (opW m c) (ix2 ⟨256 * b.val + i.val, by omega⟩ ⟨64 * h.val + d.val, by omega⟩)
      * (kM.access (keyRect b h)).read (Elt Ideal) (opK m c) (ix4 0 0 d j)) = rawK m c b h i j := by
  unfold rawK
  refine Finset.sum_congr rfl fun d _ => ?_
  rw [key_at, pay1_at, opK_at]
  congr 1
  refine Finset.sum_congr rfl fun a _ => ?_
  rw [opX_at, opW_at]
  have e0 : (⟨(256 * b.val + i.val) / 256, by omega⟩ : Fin 2) = b := Fin.ext (by show (256 * b.val + i.val) / 256 = b.val; omega)
  have e1 : (⟨(256 * b.val + i.val) % 256, by omega⟩ : Fin 256) = i := Fin.ext (by show (256 * b.val + i.val) % 256 = i.val; omega)
  rw [e0, e1]

/-- The staged blocks give the values of the arguments. -/
theorem valueK_eq (b : Fin 2) (h : Fin 4) (j : Fin 256) (d : Fin 64) :
    (vM.access (headRect b h)).read (Elt Ideal) (opV m c) (ix2 j d) = argV m c (ix4 b j h d) := by
  rw [value_at, opV_at]
  congr 1
  funext a
  apply Fin.ext
  fin_cases a
  · show (256 * b.val + j.val) / 256 = b.val; omega
  · show (256 * b.val + j.val) % 256 = j.val; omega
  · show (64 * h.val + d.val) / 64 = h.val; omega
  · show (64 * h.val + d.val) % 64 = d.val; omega

/-- What one head stores is its context of the arguments. -/
theorem headOut_at (b : Fin 2) (h : Fin 4) (i : Fin 256) (d : Fin 64) :
    headOut b h (k0_pay1 (F := Ideal) (opX m c) (opW m c)) ((kM.access (keyRect b h)).read (Elt Ideal) (opK m c))
      ((vM.access (headRect b h)).read (Elt Ideal) (opV m c)) (ix2 i d) = ctxK m c b h i d := by
  unfold headOut ctxK
  rw [headCtx_at]
  simp only [headW_at, rawK_eq, valueK_eq]

/-- The context of all the heads of a device. -/
theorem ctx_at (b : Fin 2) (i e : Fin 256) :
    ctxOf (opX m c) (opW m c) (opK m c) (opV m c) (ix2 ⟨256 * b.val + i.val, by omega⟩ e)
      = ctxK m c b ⟨e.val / 64, by omega⟩ i ⟨e.val % 64, by omega⟩ := by
  rw [← headOut_at]
  have eb : rowIn 2 ((256 * b.val + i.val) / 256) = b := Fin.ext (by show (256 * b.val + i.val) / 256 % 2 = b.val; omega)
  have eh : rowIn 4 (e.val / 64) = (⟨e.val / 64, by omega⟩ : Fin 4) := Fin.ext (by show e.val / 64 % 4 = e.val / 64; omega)
  have ei : rowIn 256 (256 * b.val + i.val) = i := Fin.ext (by show (256 * b.val + i.val) % 256 = i.val; omega)
  show headOut (rowIn 2 ((256 * b.val + i.val) / 256)) (rowIn 4 (e.val / 64)) _
      ((kM.access (keyRect (rowIn 2 ((256 * b.val + i.val) / 256)) (rowIn 4 (e.val / 64)))).read (Elt Ideal) _)
      ((vM.access (headRect (rowIn 2 ((256 * b.val + i.val) / 256)) (rowIn 4 (e.val / 64)))).read (Elt Ideal) _)
      (at2 (rowIn 256 (256 * b.val + i.val)) (rowIn 64 e.val)) = _
  rw [eb, eh, ei]
  rfl

/-- A device's share of the result before the sum. -/
theorem prods_at (b : Fin 2) (i : Fin 256) (n : Fin 512) :
    prods m c (ix2 ⟨256 * b.val + i.val, by omega⟩ n)
      = ∑ e : Fin 256, ctxK m c b ⟨e.val / 64, by omega⟩ i ⟨e.val % 64, by omega⟩ * argO m c (ix2 ⟨256 * c.val + e.val, below c e.isLt⟩ n) := by
  have eb : rowIn 2 ((256 * b.val + i.val) / 256) = b := Fin.ext (by show (256 * b.val + i.val) / 256 % 2 = b.val; omega)
  have ei : rowIn 256 (256 * b.val + i.val) = i := Fin.ext (by show (256 * b.val + i.val) % 256 = i.val; omega)
  have en : rowIn 512 n.val = n := Fin.ext (Nat.mod_eq_of_lt n.isLt)
  show k0_pay14 ((cM.access (ctxRect (rowIn 2 ((256 * b.val + i.val) / 256)))).read (Elt Ideal) _) _
    (at2 (rowIn 256 (256 * b.val + i.val)) (rowIn 512 n.val)) = _
  rw [eb, ei, en]
  refine (pay14_at _ _ i n).trans (Finset.sum_congr rfl fun e _ => ?_)
  rw [ctxRow_at, ctx_at, opO_at]

/-! ## The sum over the devices -/

/-- A chunk of a device's share. -/
theorem part_at (P : Dev nD → Vec Ideal S512x512 .bf16) (t : Dev nD) (s : Dev nD) (j : S32x512.Idx) :
    part P t s j = P s ((Rect.unit (s := S512x512) (rowOff t) S32x512.size (inbRow t)).emb j) := rfl

/-- Adding chunks one after another adds their elements. -/
theorem foldl_at (f : Fin 16 → FVec Ideal S32x512 .bf16) (j : S32x512.Idx) (l : List (Fin 16)) (acc : FVec Ideal S32x512 .f32) :
    (l.foldl (fun acc k => accPart acc (f k)) acc j : EReal) = acc j + (l.map fun k => (f k j : EReal)).sum := by
  induction l generalizing acc with
  | nil => exact (add_zero (acc j : EReal)).symm
  | cons k l ih =>
    rw [List.foldl_cons, ih, List.map_cons, List.sum_cons, ← add_assoc]
    rfl

/-- The order in which the slots are read is a sum over all of them. -/
theorem order_sum (g : Fin 16 → EReal) : g 0 + (order.map g).sum = ∑ k, g k := by
  rw [← List.sum_cons, ← List.map_cons, Fin.sum_univ_def]
  exact ((by decide : (0 :: order).Perm (List.finRange 16)).map g).sum_eq

/-- Storing the reduced chunk keeps its elements. -/
theorem accOut_at (acc : FVec Ideal S32x512 .f32) (j : S32x512.Idx) : (accOut acc j : EReal) = acc j := by
  unfold accOut
  rw [shapeCast_id]
  rfl

/-- Widening a chunk keeps its elements. -/
theorem first_at (w : FVec Ideal S32x512 .bf16) (j : S32x512.Idx) : (extf (F := Ideal) .f32 w bitsLt_bf16_f32 j : EReal) = w j := rfl

/-- The reduced chunk is the sum of the devices' chunks. -/
theorem reduced_at (P : Dev nD → Vec Ideal S512x512 .bf16) (t : Dev nD) (j : S32x512.Idx) :
    (reduced P t j : EReal) = ∑ s : Dev nD, (P s ((Rect.unit (s := S512x512) (rowOff t) S32x512.size (inbRow t)).emb j) : EReal) := by
  unfold reduced
  rw [accOut_at, foldl_at (fun k => part P t (src t k)), first_at, order_sum fun k => (part P t (src t k) j : EReal)]
  exact Fintype.sum_equiv (Equiv.addLeft (t : Fin 16)) _ _ fun k => rfl

/-- The result is the sum of the devices' shares. -/
theorem result_at (r n : Fin 512) : (result m (ix2 r n) : EReal) = ∑ s : Dev nD, (prods m s (ix2 r n) : EReal) := by
  have et : rowIn 16 (r.val / 32) = (⟨r.val / 32, by omega⟩ : Fin 16) := Fin.ext (by show r.val / 32 % 16 = r.val / 32; omega)
  have en : rowIn 512 n.val = n := Fin.ext (Nat.mod_eq_of_lt n.isLt)
  show (reduced (prods m) (rowIn 16 (r.val / 32)) (at2 (rowIn 32 r.val) (rowIn 512 n.val)) : EReal) = _
  rw [et, en, reduced_at]
  have e : (Rect.unit (s := S512x512) (rowOff ⟨r.val / 32, by omega⟩) S32x512.size (inbRow ⟨r.val / 32, by omega⟩)).emb (at2 (rowIn 32 r.val) n) = ix2 r n := by
    apply ext2
    · rw [Rect.emb_apply]; show 32 * (r.val / 32) + 1 * (r.val % 32) = r.val; omega
    · rw [Rect.emb_apply]; show 0 + 1 * n.val = n.val; omega
  rw [e]

end Cert.KernelIdeal.Stage
end
-- ==== Proof.RefValue.lean ====
/- The reference's result in stages, each read at an index. -/
module

public import proofs.«01_k».proof.Proof.Gen.ReferenceIdeal.Run
public import proofs.«01_k».proof.Proof.Softmax
public import Idealize.ShloMosaic.Lib.Pointwise
public import Idealize.ShloMosaic.Lib.IdealHost
public import Idealize.ShloMosaic.Lib.Routing.OpsOrder
public import Idealize.ShloMosaic.Lib.Tactic.CleanTypes
public import Idealize.ShloMosaic.Lib.Tactic.WordOmega

@[expose] public section

set_option maxRecDepth 16384

noncomputable section

namespace Cert.ReferenceIdeal.Stage

open Idealize.ShloMosaic Idealize.ShloMosaic.TcCoe Idealize.SL.Sem
open Cert.ReferenceIdeal Cert.ReferenceIdeal.Gen Cert.Rows

/-! ## The stages -/

/-- Which pairs of a row and a key the mask keeps. -/
def maskW : IVec S256x256 1 :=
  ori (cmpi .sle (absi (subi (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (broadcastInDim S256x256 ![] bcast_S_S256x256 (constantI S_ 32 128#32))) (ori (broadcastInDim S256x256 ![0, 1] bcast_S1x256_S256x256_0_1 (cmpi .slt (broadcastInDim S1x256 ![1] bcast_S256_S1x256_1 (iotaInDim S256 32 0)) (broadcastInDim S1x256 ![] bcast_S_S1x256 (constantI S_ 32 32#32)))) (broadcastInDim S256x256 ![0, 1] bcast_S256x1_S256x256_0_1 (cmpi .slt (broadcastInDim S256x1 ![0] bcast_S256_S256x1_0 (iotaInDim S256 32 0)) (broadcastInDim S256x1 ![] bcast_S_S256x1 (constantI S_ 32 32#32)))))

/-- Whether a row keeps any key. -/
def keepW : IVec S256 1 := Host.reduce IntOp.ori maskW (constantI S_ 1 0#1) reducesTo_S256x256_S256_d1 h_S_

/-- The masked scores. -/
def scoresR (x : FVec Ideal S2x256x512 .f32) (w : FVec Ideal S512x4096 .f32) (k : FVec Ideal S2x256x64x64 .f32) : FVec Ideal S2x64x256x256 .f32 :=
  select (broadcastInDim S2x64x256x256 ![0, 1, 2, 3] bcast_S1x1x256x256_S2x64x256x256_0_1_2_3 (broadcastInDim S1x1x256x256 ![2, 3] bcast_S256x256_S1x1x256x256_2_3 maskW)) (mulf (Host.dotGeneral dot_S2x256x64x64_S2x256x64x64_S2x64x256x256_3_3_1_1_02_02 none (shapeCast S2x256x64x64 (Host.dotGeneral dot_S2x256x512_S512x4096_S2x256x4096_2_0_01_1_n_n none x w) shapeCasts_S2x256x4096_S2x256x64x64) k) (broadcastInDim S2x64x256x256 ![] bcast_S_S2x64x256x256 (constant S_ .f32 0x3E000000#32))) (broadcastInDim S2x64x256x256 ![] bcast_S_S2x64x256x256 (id (constant S_ .f32 0xFF800000#32)))

/-- Each row's greatest score. -/
def maxR (s : FVec Ideal S2x64x256x256 .f32) : FVec Ideal S2x64x256 .f32 :=
  Host.reduce FloatOps.maximumf s (constant S_ .f32 0xFF800000#32) reducesTo_S2x64x256x256_S2x64x256_d3 h_S_

/-- The weights before they are divided. -/
def expR (s : FVec Ideal S2x64x256x256 .f32) : FVec Ideal S2x64x256x256 .f32 :=
  Host.exp (subf s (broadcastInDim S2x64x256x256 ![0, 1, 2, 3] bcast_S2x64x256x1_S2x64x256x256_0_1_2_3 (broadcastInDim S2x64x256x1 ![0, 1, 2] bcast_S2x64x256_S2x64x256x1_0_1_2 (maxR s))))

/-- The weights. -/
def weightsR (u : FVec Ideal S2x64x256x256 .f32) : FVec Ideal S2x64x256x256 .f32 :=
  select (broadcastInDim S2x64x256x256 ![0, 1, 2, 3] bcast_S1x1x256x1_S2x64x256x256_0_1_2_3 (broadcastInDim S1x1x256x1 ![2] bcast_S256_S1x1x256x1_2 keepW)) (Host.divf u (broadcastInDim S2x64x256x256 ![0, 1, 2, 3] bcast_S2x64x256x1_S2x64x256x256_0_1_2_3 (select (broadcastInDim S2x64x256x1 ![0, 1, 2, 3] bcast_S1x1x256x1_S2x64x256x1_0_1_2_3 (broadcastInDim S1x1x256x1 ![2] bcast_S256_S1x1x256x1_2 keepW)) (broadcastInDim S2x64x256x1 ![0, 1, 2] bcast_S2x64x256_S2x64x256x1_0_1_2 (Host.reduceAdd u (constant S_ .f32 0x00000000#32) reducesTo_S2x64x256x256_S2x64x256_d3 h_S_)) (broadcastInDim S2x64x256x1 ![] bcast_S_S2x64x256x1 (id (constant S_ .f32 0x3F800000#32)))))) (broadcastInDim S2x64x256x256 ![] bcast_S_S2x64x256x256 (id (constant S_ .f32 0x00000000#32)))

/-- The result, from the weights. -/
def outR (p : FVec Ideal S2x64x256x256 .f32) (v : FVec Ideal S2x256x64x64 .f32) (o : FVec Ideal S4096x512 .f32) : FVec Ideal S2x256x512 .f32 :=
  Host.dotGeneral dot_S2x256x4096_S4096x512_S2x256x512_2_0_01_1_n_n none (shapeCast S2x256x4096 (transpose S2x256x64x64 [0, 3, 1, 2] (Host.dotGeneral dot_S2x256x64x64_S2x64x256x256_S2x64x64x256_1_3_3_2_02_01 none v p) transposes_S2x64x64x256_S2x256x64x64_0_3_1_2) shapeCasts_S2x256x64x64_S2x256x4096) o

/-- The reference's result is the stages one after another. -/
theorem res_eq (m : (ℓ : Loc nD τ sig) → Buf (Elt Ideal) ℓ) (c : Dev nD) : Value.res_main_v42 m c
    = outR (weightsR (expR (scoresR (m ((c.tc : Thread nD τ).loc main_arg0)) (m ((c.tc : Thread nD τ).loc main_arg1)) (m ((c.tc : Thread nD τ).loc main_arg2)))))
        (m ((c.tc : Thread nD τ).loc main_arg3)) (m ((c.tc : Thread nD τ).loc main_arg4)) := by
  unfold Value.res_main_v42
  rfl

/-! ## The stages at an index -/

/-- The mask keeps what a row looks at. -/
theorem maskW_at (i j : Fin 256) : maskW (ix2 i j) = 1#1 ↔ Seen i j := by
  unfold maskW
  pointwise
  exact seen_first i j

/-- An or over many bits is one where one of them is. -/
theorem fold_ori_one (f : Fin 256 → BitVec 1) (i : Fin 256) (h : f i = 1#1) (z : BitVec 1) : Finset.univ.fold IntOp.ori z f = 1#1 := by
  rw [← Finset.insert_erase (Finset.mem_univ i), Finset.fold_insert (Finset.notMem_erase i _), h]
  exact (ori_one _ _).mpr (.inl rfl)

/-- Every row keeps a key. -/
theorem keepW_at (i : Fin 256) : keepW (ix1 i) = 1#1 := by
  unfold keepW
  pointwise
  exact fold_ori_one _ i ((maskW_at i i).mpr (seen_self i)) _

/-- A score before the mask, of the arrays. -/
def rawR (x : FVec Ideal S2x256x512 .f32) (w : FVec Ideal S512x4096 .f32) (k : FVec Ideal S2x256x64x64 .f32) (b : Fin 2) (h : Fin 64) (i j : Fin 256) : EReal :=
  (∑ d : Fin 64, (∑ a : Fin 512, x (ix3 b i a) * w (ix2 a ⟨h.val * 64 + d.val, by omega⟩)) * k (ix4 b j h d)) * Ideal.ofBits FTy.f32 0x3E000000#32

/-- A masked score. -/
theorem scoresR_at (x : FVec Ideal S2x256x512 .f32) (w : FVec Ideal S512x4096 .f32) (k : FVec Ideal S2x256x64x64 .f32) (b : Fin 2) (h : Fin 64) (i j : Fin 256) :
    scoresR x w k (ix4 b h i j) = if Seen i j then rawR x w k b h i j else ⊥ := by
  unfold scoresR
  pointwise
  refine (select_pick (maskW_at i j) _ _).trans ?_
  refine if_congr Iff.rfl rfl least

/-- A weight before it is divided. -/
theorem expR_at (s : FVec Ideal S2x64x256x256 .f32) (b : Fin 2) (h : Fin 64) (i j : Fin 256) :
    expR s (ix4 b h i j) = Ideal.exp (s (ix4 b h i j) - Finset.univ.fold max ⊥ fun a => s (ix4 b h i a)) := by
  unfold expR maxR
  pointwise
  rw [least]

/-- A weight. -/
theorem weightsR_at (u : FVec Ideal S2x64x256x256 .f32) (b : Fin 2) (h : Fin 64) (i j : Fin 256) :
    weightsR u (ix4 b h i j) = Ideal.div (u (ix4 b h i j)) (∑ a, u (ix4 b h i a)) := by
  unfold weightsR
  pointwise
  rw [keepW_at]
  rfl

/-- The result at an element. -/
theorem outR_at (p : FVec Ideal S2x64x256x256 .f32) (v : FVec Ideal S2x256x64x64 .f32) (o : FVec Ideal S4096x512 .f32)  (b : Fin 2) (i : Fin 256) (n : Fin 512) :
    outR p v o (ix3 b i n) = ∑ e : Fin 4096, (∑ j : Fin 256, v (ix4 b j ⟨e.val / 64, by omega⟩ ⟨e.val % 64, by omega⟩) * p (ix4 b ⟨e.val / 64, by omega⟩ i j)) * o (ix2 e n) := by
  unfold outR
  pointwise

end Cert.ReferenceIdeal.Stage
end
-- ==== Proof.Value.lean ====
/- The kernel's result is the reference's, where the input, the query weights and the keys are finite. -/
module

public import proofs.«01_k».proof.Proof.KernelValue
public import proofs.«01_k».proof.Proof.RefValue

@[expose] public section

set_option maxRecDepth 16384

noncomputable section

namespace Cert.Same

open Idealize.ShloMosaic Idealize.SL.Sem
open Cert.Rows Cert.KernelIdeal.Stage Cert.ReferenceIdeal.Stage

/-- The whole head that device `c` calls head `h`. -/
def headAt (c : Fin 16) (h : Fin 4) : Fin 64 := ⟨4 * c.val + h.val, by omega⟩

section
variable (m : (ℓ : Loc Cert.KernelIdeal.nD Cert.KernelIdeal.τ Cert.KernelIdeal.sig) → Buf (Elt Ideal) ℓ)
  (X : FVec Ideal Cert.ReferenceIdeal.S2x256x512 .f32) (W : FVec Ideal Cert.ReferenceIdeal.S512x4096 .f32)
  (K V : FVec Ideal Cert.ReferenceIdeal.S2x256x64x64 .f32) (O : FVec Ideal Cert.ReferenceIdeal.S4096x512 .f32)

/-- The devices hold the whole arrays, or their own heads of them. -/
structure Holds : Prop where
  x : ∀ c i, argX m c i = X i
  w : ∀ c i, argW m c i = W i
  k : ∀ c b j h d, argK m c (ix4 b j h d) = K (ix4 b j (headAt c h) d)
  v : ∀ c b j h d, argV m c (ix4 b j h d) = V (ix4 b j (headAt c h) d)
  o : ∀ c i, argO m c i = O i

/-- What the scores are made of is real. -/
structure Finite : Prop where
  x : ∀ i, ∃ r : ℝ, X i = (r : EReal)
  w : ∀ i, ∃ r : ℝ, W i = (r : EReal)
  k : ∀ i, ∃ r : ℝ, K i = (r : EReal)

variable {m X W K V O}

/-- Both programs' scores are one real. -/
theorem raw_eq (H : Holds m X W K V O) (F : Finite X W K) (c : Fin 16) (b : Fin 2) (h : Fin 4) (i j : Fin 256) :
    ∃ r : ℝ, rawK m c b h i j = (r : EReal) ∧ rawR X W K b (headAt c h) i j = (r : EReal) := by
  choose x hx using F.x
  choose w hw using F.w
  choose k hk using F.k
  have e := scores_eq (fun a : Fin 512 => x (ix3 b i a)) (fun (a : Fin 512) (d : Fin 64) => w (ix2 a ⟨(headAt c h).val * 64 + d.val, by omega⟩))
    (fun d : Fin 64 => k (ix4 b j (headAt c h) d)) (1 / 8)
  refine ⟨_, Eq.trans ?_ e.1, Eq.trans ?_ e.2⟩
  · unfold rawK
    refine Finset.sum_congr rfl fun d _ => ?_
    rw [H.k, hk]
    congr 1
    refine Finset.sum_congr rfl fun a _ => ?_
    have ei : (⟨256 * c.val + (64 * h.val + d.val), below c (by omega)⟩ : Fin 4096) = ⟨(headAt c h).val * 64 + d.val, by omega⟩ :=
      Fin.ext (by show 256 * c.val + (64 * h.val + d.val) = (4 * c.val + h.val) * 64 + d.val; omega)
    rw [H.x, H.w, hx, hw, eighth, ei]
  · unfold rawR
    rw [eighth]
    simp only [hx, hw, hk]

/-- Both programs' contexts agree. -/
theorem ctx_eq (H : Holds m X W K V O) (F : Finite X W K) (c : Fin 16) (b : Fin 2) (h : Fin 4) (i : Fin 256) (d : Fin 64) :
    ctxK m c b h i d = ∑ j, V (ix4 b j (headAt c h) d) * weightsR (expR (scoresR X W K)) (ix4 b (headAt c h) i j) := by
  choose s hs using raw_eq H F c b h i
  have e := rows_eq s (Seen i) (seen_self i) (fun j => V (ix4 b j (headAt c h) d))
  unfold masked at e
  unfold ctxK
  simp only [weightsR_at, expR_at, scoresR_at, fun j => (hs j).1, fun j => (hs j).2, H.v]
  exact e

/-- A sum over the whole columns, device by device. -/
theorem sum_columns (f : Fin 4096 → EReal) : ∑ c : Fin 16, ∑ e : Fin 256, f ⟨256 * c.val + e.val, below c e.isLt⟩ = ∑ t, f t := by
  rw [← Fintype.sum_prod_type' (fun (c : Fin 16) (e : Fin 256) => f ⟨256 * c.val + e.val, below c e.isLt⟩)]
  exact Fintype.sum_equiv (finProdFinEquiv (m := 16) (n := 256)) _ _ fun p => congrArg f (Fin.ext (Nat.add_comm _ _))

/-- Both programs' results agree at every element. -/
theorem result_eq (H : Holds m X W K V O) (F : Finite X W K) (b : Fin 2) (i : Fin 256) (n : Fin 512) :
    (Cert.KernelIdeal.Stage.result m (ix2 ⟨256 * b.val + i.val, by omega⟩ n) : EReal)
      = outR (weightsR (expR (scoresR X W K))) V O (ix3 b i n) := by
  rw [result_at, outR_at]
  refine Eq.trans ?_ (sum_columns _)
  refine Finset.sum_congr rfl fun c _ => ?_
  have hc : c.val < 16 := c.isLt
  rw [prods_at]
  refine Finset.sum_congr rfl fun e _ => ?_
  have eh : headAt c ⟨e.val / 64, by omega⟩ = (⟨(256 * c.val + e.val) / 64, by omega⟩ : Fin 64) :=
    Fin.ext (by show 4 * c.val + e.val / 64 = (256 * c.val + e.val) / 64; omega)
  have ed : (⟨e.val % 64, by omega⟩ : Fin 64) = ⟨(256 * c.val + e.val) % 64, by omega⟩ :=
    Fin.ext (by show e.val % 64 = (256 * c.val + e.val) % 64; omega)
  rw [ctx_eq H F, H.o, eh, ed]

end

end Cert.Same
end
-- ==== Proof.Algebraic.lean ====
/- The kernel and the reference leave one result. -/
module

public import proofs.«01_k».proof.Defs
public import proofs.«01_k».proof.Proof.Launch
public import proofs.«01_k».proof.Proof.Value

@[expose] public section

set_option maxRecDepth 16384

noncomputable section

namespace Cert.Same

open Idealize.ShloMosaic Idealize.ShloMosaic.TcCoe Idealize.SL.Sem
open Cert.Rows Cert.KernelIdeal.Stage Cert.ReferenceIdeal.Stage

instance preFacts : Cert.Pre_finite_scores_KernelIdeal.Facts := ⟨by decide, by decide, by decide⟩
instance preFactsR : Cert.Pre_finite_scores_ReferenceIdeal.Facts := ⟨by decide, by decide, by decide⟩

section
open Cert.KernelIdeal Cert.KernelIdeal.Gen

set_option maxHeartbeats 1000000 in
/-- The result's array holds the summed rows, batch by batch. -/
theorem out_at (m : (ℓ : Loc nD τ sig) → Buf (Elt Ideal) ℓ) (c : Dev nD) (b : Fin 2) (i : Fin 256) (n : Fin 512) :
    (V3 m (outs m) c main_v21 : S2x256x512.Idx → EReal) (ix3 b i n) = Cert.KernelIdeal.Stage.result m (ix2 ⟨256 * b.val + i.val, by omega⟩ n) := by
  unfold V3
  after_reads_at
  have e : (⟨b.val * 256 + i.val, by omega⟩ : Fin 512) = ⟨256 * b.val + i.val, by omega⟩ := Fin.ext (by show b.val * 256 + i.val = 256 * b.val + i.val; omega)
  rw [e]
  rfl

end

section
open Cert.Pre_finite_scores_KernelIdeal

/-- The condition makes the input real. -/
theorem finite_x (x : FVec Ideal S2x256x512 .f32) (w : FVec Ideal S512x4096 .f32) (k v : FVec Ideal S2x256x4x64 .f32) (o : FVec Ideal S4096x512 .f32)
    (h : (fn (F := Ideal) x w k v o).1 = fun _ => 1#1) (i : S2x256x512.Idx) : ∃ r : ℝ, x i = (r : EReal) :=
  real_of_below _ (congrFun h i)

/-- The condition makes the query weights real. -/
theorem finite_w (x : FVec Ideal S2x256x512 .f32) (w : FVec Ideal S512x4096 .f32) (k v : FVec Ideal S2x256x4x64 .f32) (o : FVec Ideal S4096x512 .f32)
    (h : (fn (F := Ideal) x w k v o).2.1 = fun _ => 1#1) (i : S512x4096.Idx) : ∃ r : ℝ, w i = (r : EReal) :=
  real_of_below _ (congrFun h i)

/-- The condition makes the keys real. -/
theorem finite_k (x : FVec Ideal S2x256x512 .f32) (w : FVec Ideal S512x4096 .f32) (k v : FVec Ideal S2x256x4x64 .f32) (o : FVec Ideal S4096x512 .f32)
    (h : (fn (F := Ideal) x w k v o).2.2 = fun _ => 1#1) (i : S2x256x4x64.Idx) : ∃ r : ℝ, k i = (r : EReal) :=
  real_of_below _ (congrFun h i)

end

/-- A device's block of heads, read whole. -/
theorem block_at (A : (⟨4, ![2, 256, 64, 64]⟩ : Shape).Idx → EReal) (c : Fin 16) (b : Fin 2) (j : Fin 256) (h : Fin 4) (d : Fin 64) :
    Layout.block ⟨4, ![2, 256, 4, 64]⟩ ⟨4, ![2, 256, 64, 64]⟩ 2 16 c A (by decide) (ix4 b j h d) = A (ix4 b j (headAt c h) d) := by
  rw [Layout.block_apply]
  congr 1
  funext a
  apply Fin.ext
  rw [Layout.Tiles.idx_val]
  fin_cases a
  · rfl
  · rfl
  · show c.val * 4 + h.val = 4 * c.val + h.val; omega
  · rfl

/-- Kernel and reference leave one result over the extended reals. -/
theorem algebraic : Cert.algebraic_KernelIdeal_ReferenceIdeal_pre_finite_scores_KernelIdeal := by
  intro m g m' g' hp ha
  have H : Holds m (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3))
      (m' (((0 : Dev Cert.ReferenceIdeal.nD).tc : Thread _ Cert.ReferenceIdeal.τ).loc Cert.ReferenceIdeal.main_arg4)) :=
    { x := fun c i => congrFun (ha c).1 i
      w := fun c i => congrFun (ha c).2.1 i
      k := fun c b j h d => (congrFun (ha c).2.2.1 (ix4 b j h d)).trans (block_at _ c b j h d)
      v := fun c b j h d => (congrFun (ha c).2.2.2.1 (ix4 b j h d)).trans (block_at _ c b j h d)
      o := fun c i => congrFun (ha c).2.2.2.2 i }
  have F : Finite (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2)) :=
    { x := fun i => (H.x 0 i) ▸ finite_x _ _ _ _ _ (hp 0).1 i
      w := fun i => (H.w 0 i) ▸ finite_w _ _ _ _ _ (hp 0).2.1 i
      k := fun i => by
        obtain ⟨b, j, h, d, rfl⟩ : ∃ (b : Fin 2) (j : Fin 256) (h : Fin 64) (d : Fin 64), i = ix4 b j h d := ⟨i 0, i 1, i 2, i 3, eq_ix4 i⟩
        have hh : h.val / 4 < 16 := by omega
        have e := H.k ⟨h.val / 4, hh⟩ b j ⟨h.val % 4, by omega⟩ d
        have eh : headAt ⟨h.val / 4, hh⟩ ⟨h.val % 4, by omega⟩ = h := Fin.ext (by show 4 * (h.val / 4) + h.val % 4 = h.val; omega)
        rw [eh] at e
        exact e ▸ finite_k _ _ _ _ _ (hp ⟨h.val / 4, hh⟩).2.2 (ix4 b j ⟨h.val % 4, by omega⟩ d) }
  refine ⟨Cert.ReferenceIdeal.Value.res_main_v42 m' 0, ?_, ?_⟩
  · refine (θ_run Cert.KernelIdeal.defs _ _).mono (fun r h c => ⟨?_,
       (h.1 c _ rfl).trans (Cert.KernelIdeal.Gen.V3_main_arg0 m _ c),
       (h.1 c _ rfl).trans (Cert.KernelIdeal.Gen.V3_main_arg1 m _ c),
       (h.1 c _ rfl).trans (Cert.KernelIdeal.Gen.V3_main_arg2 m _ c),
       (h.1 c _ rfl).trans (Cert.KernelIdeal.Gen.V3_main_arg3 m _ c),
       (h.1 c _ rfl).trans (Cert.KernelIdeal.Gen.V3_main_arg4 m _ c)⟩)
      (Cert.KernelIdeal.Stage.run_all m g)
    refine (h.1 c Cert.KernelIdeal.main_v21 rfl).trans ?_
    rw [res_eq]
    funext i
    obtain ⟨b, j, n, rfl⟩ : ∃ (b : Fin 2) (j : Fin 256) (n : Fin 512), i = ix3 b j n := ⟨i 0, i 1, i 2, eq_ix3 i⟩
    exact (out_at m c b j n).trans (result_eq H F b j n)
  · exact (θ_run Cert.ReferenceIdeal.defs _ _).mono (fun r h => h 0) (Cert.ReferenceIdeal.Value.run m' g')

end Cert.Same
end
-- ==== Proof.lean ====
/- The certificate: each claim from the module that proves it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

/-- Everything that is claimed. -/
theorem claim : Cert.Claim :=
  ⟨Cert.Kernel.Gen.facts, Cert.KernelIdeal.Gen.facts, Cert.ReferenceIdeal.Gen.facts, Cert.Same.preFacts, Cert.Same.preFactsR,
    Cert.Ends.kernel,
    Cert.Ends.kernelIdeal, fun m ρ _ => Cert.Ends.kernelIdeal m ρ trivial,
    Cert.Ends.referenceIdeal, fun m ρ _ => Cert.Ends.referenceIdeal m ρ trivial,
    Cert.Ends.mask, Cert.Same.algebraic⟩

end Cert.Proof

end
